-- ==== Defs.lean ====
def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_Inproj (m : (ℓ : Loc Cert.Inproj.nD Cert.Inproj.τ Cert.Inproj.sig) → Buf (Elt Bits) ℓ) : Prop :=
  True

def Pre_InprojIdeal (m : (ℓ : Loc Cert.InprojIdeal.nD Cert.InprojIdeal.τ Cert.InprojIdeal.sig) → Buf (Elt Ideal) ℓ) : Prop :=
  True

def Pre_InprojRefIdeal (m : (ℓ : Loc Cert.InprojRefIdeal.nD Cert.InprojRefIdeal.τ Cert.InprojRefIdeal.sig) → Buf (Elt Ideal) ℓ) : Prop :=
  True

def Pre_Outproj (m : (ℓ : Loc Cert.Outproj.nD Cert.Outproj.τ Cert.Outproj.sig) → Buf (Elt Bits) ℓ) : Prop :=
  True

def Pre_OutprojIdeal (m : (ℓ : Loc Cert.OutprojIdeal.nD Cert.OutprojIdeal.τ Cert.OutprojIdeal.sig) → Buf (Elt Ideal) ℓ) : Prop :=
  True

def Pre_OutprojRefIdeal (m : (ℓ : Loc Cert.OutprojRefIdeal.nD Cert.OutprojRefIdeal.τ Cert.OutprojRefIdeal.sig) → Buf (Elt Ideal) ℓ) : Prop :=
  True

def Pre_Ssd (m : (ℓ : Loc Cert.Ssd.nD Cert.Ssd.τ Cert.Ssd.sig) → Buf (Elt Bits) ℓ) : Prop :=
  True

def Pre_SsdIdeal (m : (ℓ : Loc Cert.SsdIdeal.nD Cert.SsdIdeal.τ Cert.SsdIdeal.sig) → Buf (Elt Ideal) ℓ) : Prop :=
  True

def Pre_SsdRefIdeal (m : (ℓ : Loc Cert.SsdRefIdeal.nD Cert.SsdRefIdeal.τ Cert.SsdRefIdeal.sig) → Buf (Elt Ideal) ℓ) : Prop :=
  True

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5))
      ∧ r.2.sem = fun _ => 0)

def quiescent_Inproj [hInproj : Cert.Inproj.Facts] : Prop :=
  ∀ (m : (ℓ : Loc Cert.Inproj.nD Cert.Inproj.τ Cert.Inproj.sig) → Buf (Elt Bits) ℓ) (g : Dev Cert.Inproj.nD → PrngReg), Pre_Inproj m →
    θ_run (Cert.Inproj.defs (F := Bits)) (onTc (τ := Cert.Inproj.τ) (Cert.Inproj.main (F := Bits))) ⟨m, fun _ => 0, g⟩ (fun r => (∀ c : Dev Cert.Inproj.nD,
      r.2.mem ((c.tc : Thread Cert.Inproj.nD Cert.Inproj.τ).loc Cert.Inproj.main_arg0) = m ((c.tc : Thread Cert.Inproj.nD Cert.Inproj.τ).loc Cert.Inproj.main_arg0)
      ∧ r.2.mem ((c.tc : Thread Cert.Inproj.nD Cert.Inproj.τ).loc Cert.Inproj.main_arg1) = m ((c.tc : Thread Cert.Inproj.nD Cert.Inproj.τ).loc Cert.Inproj.main_arg1)
      ∧ r.2.mem ((c.tc : Thread Cert.Inproj.nD Cert.Inproj.τ).loc Cert.Inproj.main_arg2) = m ((c.tc : Thread Cert.Inproj.nD Cert.Inproj.τ).loc Cert.Inproj.main_arg2))
      ∧ r.2.sem = fun _ => 0)

def quiescent_InprojIdeal [hInprojIdeal : Cert.InprojIdeal.Facts] : Prop :=
  ∀ (m : (ℓ : Loc Cert.InprojIdeal.nD Cert.InprojIdeal.τ Cert.InprojIdeal.sig) → Buf (Elt Ideal) ℓ) (g : Dev Cert.InprojIdeal.nD → PrngReg), Pre_InprojIdeal m →
    θ_run (Cert.InprojIdeal.defs (F := Ideal)) (onTc (τ := Cert.InprojIdeal.τ) (Cert.InprojIdeal.main (F := Ideal))) ⟨m, fun _ => 0, g⟩ (fun r => (∀ c : Dev Cert.InprojIdeal.nD,
      r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
      ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
      ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2))
      ∧ r.2.sem = fun _ => 0)

def quiescent_InprojRefIdeal [hInprojRefIdeal : Cert.InprojRefIdeal.Facts] : Prop :=
  ∀ (m : (ℓ : Loc Cert.InprojRefIdeal.nD Cert.InprojRefIdeal.τ Cert.InprojRefIdeal.sig) → Buf (Elt Ideal) ℓ) (g : Dev Cert.InprojRefIdeal.nD → PrngReg), Pre_InprojRefIdeal m →
    θ_run (Cert.InprojRefIdeal.defs (F := Ideal)) (onTc (τ := Cert.InprojRefIdeal.τ) (Cert.InprojRefIdeal.main (F := Ideal))) ⟨m, fun _ => 0, g⟩ (fun r => (∀ c : Dev Cert.InprojRefIdeal.nD,
      r.2.mem ((c.tc : Thread Cert.InprojRefIdeal.nD Cert.InprojRefIdeal.τ).loc Cert.InprojRefIdeal.main_arg0) = m ((c.tc : Thread Cert.InprojRefIdeal.nD Cert.InprojRefIdeal.τ).loc Cert.InprojRefIdeal.main_arg0)
      ∧ r.2.mem ((c.tc : Thread Cert.InprojRefIdeal.nD Cert.InprojRefIdeal.τ).loc Cert.InprojRefIdeal.main_arg1) = m ((c.tc : Thread Cert.InprojRefIdeal.nD Cert.InprojRefIdeal.τ).loc Cert.InprojRefIdeal.main_arg1)
      ∧ r.2.mem ((c.tc : Thread Cert.InprojRefIdeal.nD Cert.InprojRefIdeal.τ).loc Cert.InprojRefIdeal.main_arg2) = m ((c.tc : Thread Cert.InprojRefIdeal.nD Cert.InprojRefIdeal.τ).loc Cert.InprojRefIdeal.main_arg2))
      ∧ r.2.sem = fun _ => 0)

def quiescent_Outproj [hOutproj : Cert.Outproj.Facts] : Prop :=
  ∀ (m : (ℓ : Loc Cert.Outproj.nD Cert.Outproj.τ Cert.Outproj.sig) → Buf (Elt Bits) ℓ) (g : Dev Cert.Outproj.nD → PrngReg), Pre_Outproj m →
    θ_run (Cert.Outproj.defs (F := Bits)) (onTc (τ := Cert.Outproj.τ) (Cert.Outproj.main (F := Bits))) ⟨m, fun _ => 0, g⟩ (fun r => (∀ c : Dev Cert.Outproj.nD,
      r.2.mem ((c.tc : Thread Cert.Outproj.nD Cert.Outproj.τ).loc Cert.Outproj.main_arg0) = m ((c.tc : Thread Cert.Outproj.nD Cert.Outproj.τ).loc Cert.Outproj.main_arg0)
      ∧ r.2.mem ((c.tc : Thread Cert.Outproj.nD Cert.Outproj.τ).loc Cert.Outproj.main_arg1) = m ((c.tc : Thread Cert.Outproj.nD Cert.Outproj.τ).loc Cert.Outproj.main_arg1)
      ∧ r.2.mem ((c.tc : Thread Cert.Outproj.nD Cert.Outproj.τ).loc Cert.Outproj.main_arg2) = m ((c.tc : Thread Cert.Outproj.nD Cert.Outproj.τ).loc Cert.Outproj.main_arg2)
      ∧ r.2.mem ((c.tc : Thread Cert.Outproj.nD Cert.Outproj.τ).loc Cert.Outproj.main_arg3) = m ((c.tc : Thread Cert.Outproj.nD Cert.Outproj.τ).loc Cert.Outproj.main_arg3)
      ∧ r.2.mem ((c.tc : Thread Cert.Outproj.nD Cert.Outproj.τ).loc Cert.Outproj.main_arg4) = m ((c.tc : Thread Cert.Outproj.nD Cert.Outproj.τ).loc Cert.Outproj.main_arg4)
      ∧ r.2.mem ((c.tc : Thread Cert.Outproj.nD Cert.Outproj.τ).loc Cert.Outproj.main_arg5) = m ((c.tc : Thread Cert.Outproj.nD Cert.Outproj.τ).loc Cert.Outproj.main_arg5))
      ∧ r.2.sem = fun _ => 0)

def quiescent_OutprojIdeal [hOutprojIdeal : Cert.OutprojIdeal.Facts] : Prop :=
  ∀ (m : (ℓ : Loc Cert.OutprojIdeal.nD Cert.OutprojIdeal.τ Cert.OutprojIdeal.sig) → Buf (Elt Ideal) ℓ) (g : Dev Cert.OutprojIdeal.nD → PrngReg), Pre_OutprojIdeal m →
    θ_run (Cert.OutprojIdeal.defs (F := Ideal)) (onTc (τ := Cert.OutprojIdeal.τ) (Cert.OutprojIdeal.main (F := Ideal))) ⟨m, fun _ => 0, g⟩ (fun r => (∀ c : Dev Cert.OutprojIdeal.nD,
      r.2.mem ((c.tc : Thread Cert.OutprojIdeal.nD Cert.OutprojIdeal.τ).loc Cert.OutprojIdeal.main_arg0) = m ((c.tc : Thread Cert.OutprojIdeal.nD Cert.OutprojIdeal.τ).loc Cert.OutprojIdeal.main_arg0)
      ∧ r.2.mem ((c.tc : Thread Cert.OutprojIdeal.nD Cert.OutprojIdeal.τ).loc Cert.OutprojIdeal.main_arg1) = m ((c.tc : Thread Cert.OutprojIdeal.nD Cert.OutprojIdeal.τ).loc Cert.OutprojIdeal.main_arg1)
      ∧ r.2.mem ((c.tc : Thread Cert.OutprojIdeal.nD Cert.OutprojIdeal.τ).loc Cert.OutprojIdeal.main_arg2) = m ((c.tc : Thread Cert.OutprojIdeal.nD Cert.OutprojIdeal.τ).loc Cert.OutprojIdeal.main_arg2)
      ∧ r.2.mem ((c.tc : Thread Cert.OutprojIdeal.nD Cert.OutprojIdeal.τ).loc Cert.OutprojIdeal.main_arg3) = m ((c.tc : Thread Cert.OutprojIdeal.nD Cert.OutprojIdeal.τ).loc Cert.OutprojIdeal.main_arg3)
      ∧ r.2.mem ((c.tc : Thread Cert.OutprojIdeal.nD Cert.OutprojIdeal.τ).loc Cert.OutprojIdeal.main_arg4) = m ((c.tc : Thread Cert.OutprojIdeal.nD Cert.OutprojIdeal.τ).loc Cert.OutprojIdeal.main_arg4)
      ∧ r.2.mem ((c.tc : Thread Cert.OutprojIdeal.nD Cert.OutprojIdeal.τ).loc Cert.OutprojIdeal.main_arg5) = m ((c.tc : Thread Cert.OutprojIdeal.nD Cert.OutprojIdeal.τ).loc Cert.OutprojIdeal.main_arg5))
      ∧ r.2.sem = fun _ => 0)

def quiescent_OutprojRefIdeal [hOutprojRefIdeal : Cert.OutprojRefIdeal.Facts] : Prop :=
  ∀ (m : (ℓ : Loc Cert.OutprojRefIdeal.nD Cert.OutprojRefIdeal.τ Cert.OutprojRefIdeal.sig) → Buf (Elt Ideal) ℓ) (g : Dev Cert.OutprojRefIdeal.nD → PrngReg), Pre_OutprojRefIdeal m →
    θ_run (Cert.OutprojRefIdeal.defs (F := Ideal)) (onTc (τ := Cert.OutprojRefIdeal.τ) (Cert.OutprojRefIdeal.main (F := Ideal))) ⟨m, fun _ => 0, g⟩ (fun r => (∀ c : Dev Cert.OutprojRefIdeal.nD,
      r.2.mem ((c.tc : Thread Cert.OutprojRefIdeal.nD Cert.OutprojRefIdeal.τ).loc Cert.OutprojRefIdeal.main_arg0) = m ((c.tc : Thread Cert.OutprojRefIdeal.nD Cert.OutprojRefIdeal.τ).loc Cert.OutprojRefIdeal.main_arg0)
      ∧ r.2.mem ((c.tc : Thread Cert.OutprojRefIdeal.nD Cert.OutprojRefIdeal.τ).loc Cert.OutprojRefIdeal.main_arg1) = m ((c.tc : Thread Cert.OutprojRefIdeal.nD Cert.OutprojRefIdeal.τ).loc Cert.OutprojRefIdeal.main_arg1)
      ∧ r.2.mem ((c.tc : Thread Cert.OutprojRefIdeal.nD Cert.OutprojRefIdeal.τ).loc Cert.OutprojRefIdeal.main_arg2) = m ((c.tc : Thread Cert.OutprojRefIdeal.nD Cert.OutprojRefIdeal.τ).loc Cert.OutprojRefIdeal.main_arg2)
      ∧ r.2.mem ((c.tc : Thread Cert.OutprojRefIdeal.nD Cert.OutprojRefIdeal.τ).loc Cert.OutprojRefIdeal.main_arg3) = m ((c.tc : Thread Cert.OutprojRefIdeal.nD Cert.OutprojRefIdeal.τ).loc Cert.OutprojRefIdeal.main_arg3)
      ∧ r.2.mem ((c.tc : Thread Cert.OutprojRefIdeal.nD Cert.OutprojRefIdeal.τ).loc Cert.OutprojRefIdeal.main_arg4) = m ((c.tc : Thread Cert.OutprojRefIdeal.nD Cert.OutprojRefIdeal.τ).loc Cert.OutprojRefIdeal.main_arg4)
      ∧ r.2.mem ((c.tc : Thread Cert.OutprojRefIdeal.nD Cert.OutprojRefIdeal.τ).loc Cert.OutprojRefIdeal.main_arg5) = m ((c.tc : Thread Cert.OutprojRefIdeal.nD Cert.OutprojRefIdeal.τ).loc Cert.OutprojRefIdeal.main_arg5))
      ∧ r.2.sem = fun _ => 0)

def quiescent_Ssd [hSsd : Cert.Ssd.Facts] : Prop :=
  ∀ (m : (ℓ : Loc Cert.Ssd.nD Cert.Ssd.τ Cert.Ssd.sig) → Buf (Elt Bits) ℓ) (g : Dev Cert.Ssd.nD → PrngReg), Pre_Ssd m →
    θ_run (Cert.Ssd.defs (F := Bits)) (onTc (τ := Cert.Ssd.τ) (Cert.Ssd.main (F := Bits))) ⟨m, fun _ => 0, g⟩ (fun r => (∀ c : Dev Cert.Ssd.nD,
      r.2.mem ((c.tc : Thread Cert.Ssd.nD Cert.Ssd.τ).loc Cert.Ssd.main_arg0) = m ((c.tc : Thread Cert.Ssd.nD Cert.Ssd.τ).loc Cert.Ssd.main_arg0)
      ∧ r.2.mem ((c.tc : Thread Cert.Ssd.nD Cert.Ssd.τ).loc Cert.Ssd.main_arg1) = m ((c.tc : Thread Cert.Ssd.nD Cert.Ssd.τ).loc Cert.Ssd.main_arg1)
      ∧ r.2.mem ((c.tc : Thread Cert.Ssd.nD Cert.Ssd.τ).loc Cert.Ssd.main_arg2) = m ((c.tc : Thread Cert.Ssd.nD Cert.Ssd.τ).loc Cert.Ssd.main_arg2)
      ∧ r.2.mem ((c.tc : Thread Cert.Ssd.nD Cert.Ssd.τ).loc Cert.Ssd.main_arg3) = m ((c.tc : Thread Cert.Ssd.nD Cert.Ssd.τ).loc Cert.Ssd.main_arg3)
      ∧ r.2.mem ((c.tc : Thread Cert.Ssd.nD Cert.Ssd.τ).loc Cert.Ssd.main_arg4) = m ((c.tc : Thread Cert.Ssd.nD Cert.Ssd.τ).loc Cert.Ssd.main_arg4)
      ∧ r.2.mem ((c.tc : Thread Cert.Ssd.nD Cert.Ssd.τ).loc Cert.Ssd.main_arg5) = m ((c.tc : Thread Cert.Ssd.nD Cert.Ssd.τ).loc Cert.Ssd.main_arg5)
      ∧ r.2.mem ((c.tc : Thread Cert.Ssd.nD Cert.Ssd.τ).loc Cert.Ssd.main_arg6) = m ((c.tc : Thread Cert.Ssd.nD Cert.Ssd.τ).loc Cert.Ssd.main_arg6)
      ∧ r.2.mem ((c.tc : Thread Cert.Ssd.nD Cert.Ssd.τ).loc Cert.Ssd.main_arg7) = m ((c.tc : Thread Cert.Ssd.nD Cert.Ssd.τ).loc Cert.Ssd.main_arg7)
      ∧ r.2.mem ((c.tc : Thread Cert.Ssd.nD Cert.Ssd.τ).loc Cert.Ssd.main_arg8) = m ((c.tc : Thread Cert.Ssd.nD Cert.Ssd.τ).loc Cert.Ssd.main_arg8))
      ∧ r.2.sem = fun _ => 0)

def quiescent_SsdIdeal [hSsdIdeal : Cert.SsdIdeal.Facts] : Prop :=
  ∀ (m : (ℓ : Loc Cert.SsdIdeal.nD Cert.SsdIdeal.τ Cert.SsdIdeal.sig) → Buf (Elt Ideal) ℓ) (g : Dev Cert.SsdIdeal.nD → PrngReg), Pre_SsdIdeal m →
    θ_run (Cert.SsdIdeal.defs (F := Ideal)) (onTc (τ := Cert.SsdIdeal.τ) (Cert.SsdIdeal.main (F := Ideal))) ⟨m, fun _ => 0, g⟩ (fun r => (∀ c : Dev Cert.SsdIdeal.nD,
      r.2.mem ((c.tc : Thread Cert.SsdIdeal.nD Cert.SsdIdeal.τ).loc Cert.SsdIdeal.main_arg0) = m ((c.tc : Thread Cert.SsdIdeal.nD Cert.SsdIdeal.τ).loc Cert.SsdIdeal.main_arg0)
      ∧ r.2.mem ((c.tc : Thread Cert.SsdIdeal.nD Cert.SsdIdeal.τ).loc Cert.SsdIdeal.main_arg1) = m ((c.tc : Thread Cert.SsdIdeal.nD Cert.SsdIdeal.τ).loc Cert.SsdIdeal.main_arg1)
      ∧ r.2.mem ((c.tc : Thread Cert.SsdIdeal.nD Cert.SsdIdeal.τ).loc Cert.SsdIdeal.main_arg2) = m ((c.tc : Thread Cert.SsdIdeal.nD Cert.SsdIdeal.τ).loc Cert.SsdIdeal.main_arg2)
      ∧ r.2.mem ((c.tc : Thread Cert.SsdIdeal.nD Cert.SsdIdeal.τ).loc Cert.SsdIdeal.main_arg3) = m ((c.tc : Thread Cert.SsdIdeal.nD Cert.SsdIdeal.τ).loc Cert.SsdIdeal.main_arg3)
      ∧ r.2.mem ((c.tc : Thread Cert.SsdIdeal.nD Cert.SsdIdeal.τ).loc Cert.SsdIdeal.main_arg4) = m ((c.tc : Thread Cert.SsdIdeal.nD Cert.SsdIdeal.τ).loc Cert.SsdIdeal.main_arg4)
      ∧ r.2.mem ((c.tc : Thread Cert.SsdIdeal.nD Cert.SsdIdeal.τ).loc Cert.SsdIdeal.main_arg5) = m ((c.tc : Thread Cert.SsdIdeal.nD Cert.SsdIdeal.τ).loc Cert.SsdIdeal.main_arg5)
      ∧ r.2.mem ((c.tc : Thread Cert.SsdIdeal.nD Cert.SsdIdeal.τ).loc Cert.SsdIdeal.main_arg6) = m ((c.tc : Thread Cert.SsdIdeal.nD Cert.SsdIdeal.τ).loc Cert.SsdIdeal.main_arg6)
      ∧ r.2.mem ((c.tc : Thread Cert.SsdIdeal.nD Cert.SsdIdeal.τ).loc Cert.SsdIdeal.main_arg7) = m ((c.tc : Thread Cert.SsdIdeal.nD Cert.SsdIdeal.τ).loc Cert.SsdIdeal.main_arg7)
      ∧ r.2.mem ((c.tc : Thread Cert.SsdIdeal.nD Cert.SsdIdeal.τ).loc Cert.SsdIdeal.main_arg8) = m ((c.tc : Thread Cert.SsdIdeal.nD Cert.SsdIdeal.τ).loc Cert.SsdIdeal.main_arg8))
      ∧ r.2.sem = fun _ => 0)

def quiescent_SsdRefIdeal [hSsdRefIdeal : Cert.SsdRefIdeal.Facts] : Prop :=
  ∀ (m : (ℓ : Loc Cert.SsdRefIdeal.nD Cert.SsdRefIdeal.τ Cert.SsdRefIdeal.sig) → Buf (Elt Ideal) ℓ) (g : Dev Cert.SsdRefIdeal.nD → PrngReg), Pre_SsdRefIdeal m →
    θ_run (Cert.SsdRefIdeal.defs (F := Ideal)) (onTc (τ := Cert.SsdRefIdeal.τ) (Cert.SsdRefIdeal.main (F := Ideal))) ⟨m, fun _ => 0, g⟩ (fun r => (∀ c : Dev Cert.SsdRefIdeal.nD,
      r.2.mem ((c.tc : Thread Cert.SsdRefIdeal.nD Cert.SsdRefIdeal.τ).loc Cert.SsdRefIdeal.main_arg0) = m ((c.tc : Thread Cert.SsdRefIdeal.nD Cert.SsdRefIdeal.τ).loc Cert.SsdRefIdeal.main_arg0)
      ∧ r.2.mem ((c.tc : Thread Cert.SsdRefIdeal.nD Cert.SsdRefIdeal.τ).loc Cert.SsdRefIdeal.main_arg1) = m ((c.tc : Thread Cert.SsdRefIdeal.nD Cert.SsdRefIdeal.τ).loc Cert.SsdRefIdeal.main_arg1)
      ∧ r.2.mem ((c.tc : Thread Cert.SsdRefIdeal.nD Cert.SsdRefIdeal.τ).loc Cert.SsdRefIdeal.main_arg2) = m ((c.tc : Thread Cert.SsdRefIdeal.nD Cert.SsdRefIdeal.τ).loc Cert.SsdRefIdeal.main_arg2)
      ∧ r.2.mem ((c.tc : Thread Cert.SsdRefIdeal.nD Cert.SsdRefIdeal.τ).loc Cert.SsdRefIdeal.main_arg3) = m ((c.tc : Thread Cert.SsdRefIdeal.nD Cert.SsdRefIdeal.τ).loc Cert.SsdRefIdeal.main_arg3)
      ∧ r.2.mem ((c.tc : Thread Cert.SsdRefIdeal.nD Cert.SsdRefIdeal.τ).loc Cert.SsdRefIdeal.main_arg4) = m ((c.tc : Thread Cert.SsdRefIdeal.nD Cert.SsdRefIdeal.τ).loc Cert.SsdRefIdeal.main_arg4)
      ∧ r.2.mem ((c.tc : Thread Cert.SsdRefIdeal.nD Cert.SsdRefIdeal.τ).loc Cert.SsdRefIdeal.main_arg5) = m ((c.tc : Thread Cert.SsdRefIdeal.nD Cert.SsdRefIdeal.τ).loc Cert.SsdRefIdeal.main_arg5)
      ∧ r.2.mem ((c.tc : Thread Cert.SsdRefIdeal.nD Cert.SsdRefIdeal.τ).loc Cert.SsdRefIdeal.main_arg6) = m ((c.tc : Thread Cert.SsdRefIdeal.nD Cert.SsdRefIdeal.τ).loc Cert.SsdRefIdeal.main_arg6)
      ∧ r.2.mem ((c.tc : Thread Cert.SsdRefIdeal.nD Cert.SsdRefIdeal.τ).loc Cert.SsdRefIdeal.main_arg7) = m ((c.tc : Thread Cert.SsdRefIdeal.nD Cert.SsdRefIdeal.τ).loc Cert.SsdRefIdeal.main_arg7)
      ∧ r.2.mem ((c.tc : Thread Cert.SsdRefIdeal.nD Cert.SsdRefIdeal.τ).loc Cert.SsdRefIdeal.main_arg8) = m ((c.tc : Thread Cert.SsdRefIdeal.nD Cert.SsdRefIdeal.τ).loc Cert.SsdRefIdeal.main_arg8))
      ∧ r.2.sem = fun _ => 0)

def preserves_Ffn_FfnIdeal : Prop :=
  True

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)
      ∧ m' ((c.tc : Thread Cert.FfnRefIdeal.nD Cert.FfnRefIdeal.τ).loc Cert.FfnRefIdeal.main_arg5) = m ((c.tc : Thread Cert.FfnIdeal.nD Cert.FfnIdeal.τ).loc Cert.FfnIdeal.main_arg5)) →
    ∃ (v0 : (c : Dev Cert.FfnIdeal.nD) → Buf (Elt Ideal) ((c.tc : Thread Cert.FfnIdeal.nD Cert.FfnIdeal.τ).loc Cert.FfnIdeal.main_v5)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v5) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v33) = v0 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4)
          ∧ r.2.mem ((c.tc : Thread Cert.FfnRefIdeal.nD Cert.FfnRefIdeal.τ).loc Cert.FfnRefIdeal.main_arg5) = m' ((c.tc : Thread Cert.FfnRefIdeal.nD Cert.FfnRefIdeal.τ).loc Cert.FfnRefIdeal.main_arg5))

def preserves_Inproj_InprojIdeal : Prop :=
  True

def algebraic_InprojIdeal_InprojRefIdeal [hInprojIdeal : Cert.InprojIdeal.Facts] [hInprojRefIdeal : Cert.InprojRefIdeal.Facts] : Prop :=
  ∀ (m : (ℓ : Loc Cert.InprojIdeal.nD Cert.InprojIdeal.τ Cert.InprojIdeal.sig) → Buf (Elt Ideal) ℓ) (g : Dev Cert.InprojIdeal.nD → PrngReg)
    (m' : (ℓ : Loc Cert.InprojRefIdeal.nD Cert.InprojRefIdeal.τ Cert.InprojRefIdeal.sig) → Buf (Elt Ideal) ℓ) (g' : Dev Cert.InprojRefIdeal.nD → PrngReg), Pre_InprojIdeal m →
    (∀ c : Dev Cert.InprojIdeal.nD,
      m' ((c.tc : Thread Cert.InprojRefIdeal.nD Cert.InprojRefIdeal.τ).loc Cert.InprojRefIdeal.main_arg0) = m ((c.tc : Thread Cert.InprojIdeal.nD Cert.InprojIdeal.τ).loc Cert.InprojIdeal.main_arg0)
      ∧ m' ((c.tc : Thread Cert.InprojRefIdeal.nD Cert.InprojRefIdeal.τ).loc Cert.InprojRefIdeal.main_arg1) = m ((c.tc : Thread Cert.InprojIdeal.nD Cert.InprojIdeal.τ).loc Cert.InprojIdeal.main_arg1)
      ∧ m' ((c.tc : Thread Cert.InprojRefIdeal.nD Cert.InprojRefIdeal.τ).loc Cert.InprojRefIdeal.main_arg2) = m ((c.tc : Thread Cert.InprojIdeal.nD Cert.InprojIdeal.τ).loc Cert.InprojIdeal.main_arg2)) →
    ∃ (v0 : (c : Dev Cert.InprojIdeal.nD) → Buf (Elt Ideal) ((c.tc : Thread Cert.InprojIdeal.nD Cert.InprojIdeal.τ).loc Cert.InprojIdeal.main_v11_0)) (v1 : (c : Dev Cert.InprojIdeal.nD) → Buf (Elt Ideal) ((c.tc : Thread Cert.InprojIdeal.nD Cert.InprojIdeal.τ).loc Cert.InprojIdeal.main_v11_1)) (v2 : (c : Dev Cert.InprojIdeal.nD) → Buf (Elt Ideal) ((c.tc : Thread Cert.InprojIdeal.nD Cert.InprojIdeal.τ).loc Cert.InprojIdeal.main_v11_2)) (v3 : (c : Dev Cert.InprojIdeal.nD) → Buf (Elt Ideal) ((c.tc : Thread Cert.InprojIdeal.nD Cert.InprojIdeal.τ).loc Cert.InprojIdeal.main_v11_3)) (v4 : (c : Dev Cert.InprojIdeal.nD) → Buf (Elt Ideal) ((c.tc : Thread Cert.InprojIdeal.nD Cert.InprojIdeal.τ).loc Cert.InprojIdeal.main_v11_4)) (v5 : (c : Dev Cert.InprojIdeal.nD) → Buf (Elt Ideal) ((c.tc : Thread Cert.InprojIdeal.nD Cert.InprojIdeal.τ).loc Cert.InprojIdeal.main_v11_5)) (v6 : (c : Dev Cert.InprojIdeal.nD) → Buf (Elt Ideal) ((c.tc : Thread Cert.InprojIdeal.nD Cert.InprojIdeal.τ).loc Cert.InprojIdeal.main_v11_6)),
      θ_run (Cert.InprojIdeal.defs (F := Ideal)) (onTc (τ := Cert.InprojIdeal.τ) (Cert.InprojIdeal.main (F := Ideal))) ⟨m, fun _ => 0, g⟩ (fun r => ∀ c : Dev Cert.InprojIdeal.nD,
          r.2.mem ((c.tc : Thread Cert.InprojIdeal.nD Cert.InprojIdeal.τ).loc Cert.InprojIdeal.main_v11_0) = v0 c
          ∧ r.2.mem ((c.tc : Thread Cert.InprojIdeal.nD Cert.InprojIdeal.τ).loc Cert.InprojIdeal.main_v11_1) = v1 c
          ∧ r.2.mem ((c.tc : Thread Cert.InprojIdeal.nD Cert.InprojIdeal.τ).loc Cert.InprojIdeal.main_v11_2) = v2 c
          ∧ r.2.mem ((c.tc : Thread Cert.InprojIdeal.nD Cert.InprojIdeal.τ).loc Cert.InprojIdeal.main_v11_3) = v3 c
          ∧ r.2.mem ((c.tc : Thread Cert.InprojIdeal.nD Cert.InprojIdeal.τ).loc Cert.InprojIdeal.main_v11_4) = v4 c
          ∧ r.2.mem ((c.tc : Thread Cert.InprojIdeal.nD Cert.InprojIdeal.τ).loc Cert.InprojIdeal.main_v11_5) = v5 c
          ∧ r.2.mem ((c.tc : Thread Cert.InprojIdeal.nD Cert.InprojIdeal.τ).loc Cert.InprojIdeal.main_v11_6) = v6 c
          ∧ r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
          ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
          ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2))
      ∧ θ_run (Cert.InprojRefIdeal.defs (F := Ideal)) (onTc (τ := Cert.InprojRefIdeal.τ) (Cert.InprojRefIdeal.main (F := Ideal))) ⟨m', fun _ => 0, g'⟩ (fun r => ∀ c : Dev Cert.InprojRefIdeal.nD,
          r.2.mem ((c.tc : Thread Cert.InprojRefIdeal.nD Cert.InprojRefIdeal.τ).loc Cert.InprojRefIdeal.main_v14) = v0 c
          ∧ r.2.mem ((c.tc : Thread Cert.InprojRefIdeal.nD Cert.InprojRefIdeal.τ).loc Cert.InprojRefIdeal.main_v15) = v1 c
          ∧ r.2.mem ((c.tc : Thread Cert.InprojRefIdeal.nD Cert.InprojRefIdeal.τ).loc Cert.InprojRefIdeal.main_v17) = v2 c
          ∧ r.2.mem ((c.tc : Thread Cert.InprojRefIdeal.nD Cert.InprojRefIdeal.τ).loc Cert.InprojRefIdeal.main_v18) = v3 c
          ∧ r.2.mem ((c.tc : Thread Cert.InprojRefIdeal.nD Cert.InprojRefIdeal.τ).loc Cert.InprojRefIdeal.main_v19) = v4 c
          ∧ r.2.mem ((c.tc : Thread Cert.InprojRefIdeal.nD Cert.InprojRefIdeal.τ).loc Cert.InprojRefIdeal.main_v20) = v5 c
          ∧ r.2.mem ((c.tc : Thread Cert.InprojRefIdeal.nD Cert.InprojRefIdeal.τ).loc Cert.InprojRefIdeal.main_v21) = v6 c
          ∧ r.2.mem ((c.tc : Thread Cert.InprojRefIdeal.nD Cert.InprojRefIdeal.τ).loc Cert.InprojRefIdeal.main_arg0) = m' ((c.tc : Thread Cert.InprojRefIdeal.nD Cert.InprojRefIdeal.τ).loc Cert.InprojRefIdeal.main_arg0)
          ∧ r.2.mem ((c.tc : Thread Cert.InprojRefIdeal.nD Cert.InprojRefIdeal.τ).loc Cert.InprojRefIdeal.main_arg1) = m' ((c.tc : Thread Cert.InprojRefIdeal.nD Cert.InprojRefIdeal.τ).loc Cert.InprojRefIdeal.main_arg1)
          ∧ r.2.mem ((c.tc : Thread Cert.InprojRefIdeal.nD Cert.InprojRefIdeal.τ).loc Cert.InprojRefIdeal.main_arg2) = m' ((c.tc : Thread Cert.InprojRefIdeal.nD Cert.InprojRefIdeal.τ).loc Cert.InprojRefIdeal.main_arg2))

def preserves_Outproj_OutprojIdeal : Prop :=
  True

def algebraic_OutprojIdeal_OutprojRefIdeal [hOutprojIdeal : Cert.OutprojIdeal.Facts] [hOutprojRefIdeal : Cert.OutprojRefIdeal.Facts] : Prop :=
  ∀ (m : (ℓ : Loc Cert.OutprojIdeal.nD Cert.OutprojIdeal.τ Cert.OutprojIdeal.sig) → Buf (Elt Ideal) ℓ) (g : Dev Cert.OutprojIdeal.nD → PrngReg)
    (m' : (ℓ : Loc Cert.OutprojRefIdeal.nD Cert.OutprojRefIdeal.τ Cert.OutprojRefIdeal.sig) → Buf (Elt Ideal) ℓ) (g' : Dev Cert.OutprojRefIdeal.nD → PrngReg), Pre_OutprojIdeal m →
    (∀ c : Dev Cert.OutprojIdeal.nD,
      m' ((c.tc : Thread Cert.OutprojRefIdeal.nD Cert.OutprojRefIdeal.τ).loc Cert.OutprojRefIdeal.main_arg0) = m ((c.tc : Thread Cert.OutprojIdeal.nD Cert.OutprojIdeal.τ).loc Cert.OutprojIdeal.main_arg0)
      ∧ m' ((c.tc : Thread Cert.OutprojRefIdeal.nD Cert.OutprojRefIdeal.τ).loc Cert.OutprojRefIdeal.main_arg1) = m ((c.tc : Thread Cert.OutprojIdeal.nD Cert.OutprojIdeal.τ).loc Cert.OutprojIdeal.main_arg1)
      ∧ m' ((c.tc : Thread Cert.OutprojRefIdeal.nD Cert.OutprojRefIdeal.τ).loc Cert.OutprojRefIdeal.main_arg2) = m ((c.tc : Thread Cert.OutprojIdeal.nD Cert.OutprojIdeal.τ).loc Cert.OutprojIdeal.main_arg2)
      ∧ m' ((c.tc : Thread Cert.OutprojRefIdeal.nD Cert.OutprojRefIdeal.τ).loc Cert.OutprojRefIdeal.main_arg3) = m ((c.tc : Thread Cert.OutprojIdeal.nD Cert.OutprojIdeal.τ).loc Cert.OutprojIdeal.main_arg3)
      ∧ m' ((c.tc : Thread Cert.OutprojRefIdeal.nD Cert.OutprojRefIdeal.τ).loc Cert.OutprojRefIdeal.main_arg4) = m ((c.tc : Thread Cert.OutprojIdeal.nD Cert.OutprojIdeal.τ).loc Cert.OutprojIdeal.main_arg4)
      ∧ m' ((c.tc : Thread Cert.OutprojRefIdeal.nD Cert.OutprojRefIdeal.τ).loc Cert.OutprojRefIdeal.main_arg5) = m ((c.tc : Thread Cert.OutprojIdeal.nD Cert.OutprojIdeal.τ).loc Cert.OutprojIdeal.main_arg5)) →
    ∃ (v0 : (c : Dev Cert.OutprojIdeal.nD) → Buf (Elt Ideal) ((c.tc : Thread Cert.OutprojIdeal.nD Cert.OutprojIdeal.τ).loc Cert.OutprojIdeal.main_v2)),
      θ_run (Cert.OutprojIdeal.defs (F := Ideal)) (onTc (τ := Cert.OutprojIdeal.τ) (Cert.OutprojIdeal.main (F := Ideal))) ⟨m, fun _ => 0, g⟩ (fun r => ∀ c : Dev Cert.OutprojIdeal.nD,
          r.2.mem ((c.tc : Thread Cert.OutprojIdeal.nD Cert.OutprojIdeal.τ).loc Cert.OutprojIdeal.main_v2) = v0 c
          ∧ r.2.mem ((c.tc : Thread Cert.OutprojIdeal.nD Cert.OutprojIdeal.τ).loc Cert.OutprojIdeal.main_arg0) = m ((c.tc : Thread Cert.OutprojIdeal.nD Cert.OutprojIdeal.τ).loc Cert.OutprojIdeal.main_arg0)
          ∧ r.2.mem ((c.tc : Thread Cert.OutprojIdeal.nD Cert.OutprojIdeal.τ).loc Cert.OutprojIdeal.main_arg1) = m ((c.tc : Thread Cert.OutprojIdeal.nD Cert.OutprojIdeal.τ).loc Cert.OutprojIdeal.main_arg1)
          ∧ r.2.mem ((c.tc : Thread Cert.OutprojIdeal.nD Cert.OutprojIdeal.τ).loc Cert.OutprojIdeal.main_arg2) = m ((c.tc : Thread Cert.OutprojIdeal.nD Cert.OutprojIdeal.τ).loc Cert.OutprojIdeal.main_arg2)
          ∧ r.2.mem ((c.tc : Thread Cert.OutprojIdeal.nD Cert.OutprojIdeal.τ).loc Cert.OutprojIdeal.main_arg3) = m ((c.tc : Thread Cert.OutprojIdeal.nD Cert.OutprojIdeal.τ).loc Cert.OutprojIdeal.main_arg3)
          ∧ r.2.mem ((c.tc : Thread Cert.OutprojIdeal.nD Cert.OutprojIdeal.τ).loc Cert.OutprojIdeal.main_arg4) = m ((c.tc : Thread Cert.OutprojIdeal.nD Cert.OutprojIdeal.τ).loc Cert.OutprojIdeal.main_arg4)
          ∧ r.2.mem ((c.tc : Thread Cert.OutprojIdeal.nD Cert.OutprojIdeal.τ).loc Cert.OutprojIdeal.main_arg5) = m ((c.tc : Thread Cert.OutprojIdeal.nD Cert.OutprojIdeal.τ).loc Cert.OutprojIdeal.main_arg5))
      ∧ θ_run (Cert.OutprojRefIdeal.defs (F := Ideal)) (onTc (τ := Cert.OutprojRefIdeal.τ) (Cert.OutprojRefIdeal.main (F := Ideal))) ⟨m', fun _ => 0, g'⟩ (fun r => ∀ c : Dev Cert.OutprojRefIdeal.nD,
          r.2.mem ((c.tc : Thread Cert.OutprojRefIdeal.nD Cert.OutprojRefIdeal.τ).loc Cert.OutprojRefIdeal.main_v15) = v0 c
          ∧ r.2.mem ((c.tc : Thread Cert.OutprojRefIdeal.nD Cert.OutprojRefIdeal.τ).loc Cert.OutprojRefIdeal.main_arg0) = m' ((c.tc : Thread Cert.OutprojRefIdeal.nD Cert.OutprojRefIdeal.τ).loc Cert.OutprojRefIdeal.main_arg0)
          ∧ r.2.mem ((c.tc : Thread Cert.OutprojRefIdeal.nD Cert.OutprojRefIdeal.τ).loc Cert.OutprojRefIdeal.main_arg1) = m' ((c.tc : Thread Cert.OutprojRefIdeal.nD Cert.OutprojRefIdeal.τ).loc Cert.OutprojRefIdeal.main_arg1)
          ∧ r.2.mem ((c.tc : Thread Cert.OutprojRefIdeal.nD Cert.OutprojRefIdeal.τ).loc Cert.OutprojRefIdeal.main_arg2) = m' ((c.tc : Thread Cert.OutprojRefIdeal.nD Cert.OutprojRefIdeal.τ).loc Cert.OutprojRefIdeal.main_arg2)
          ∧ r.2.mem ((c.tc : Thread Cert.OutprojRefIdeal.nD Cert.OutprojRefIdeal.τ).loc Cert.OutprojRefIdeal.main_arg3) = m' ((c.tc : Thread Cert.OutprojRefIdeal.nD Cert.OutprojRefIdeal.τ).loc Cert.OutprojRefIdeal.main_arg3)
          ∧ r.2.mem ((c.tc : Thread Cert.OutprojRefIdeal.nD Cert.OutprojRefIdeal.τ).loc Cert.OutprojRefIdeal.main_arg4) = m' ((c.tc : Thread Cert.OutprojRefIdeal.nD Cert.OutprojRefIdeal.τ).loc Cert.OutprojRefIdeal.main_arg4)
          ∧ r.2.mem ((c.tc : Thread Cert.OutprojRefIdeal.nD Cert.OutprojRefIdeal.τ).loc Cert.OutprojRefIdeal.main_arg5) = m' ((c.tc : Thread Cert.OutprojRefIdeal.nD Cert.OutprojRefIdeal.τ).loc Cert.OutprojRefIdeal.main_arg5))

def preserves_Ssd_SsdIdeal : Prop :=
  True

def algebraic_SsdIdeal_SsdRefIdeal [hSsdIdeal : Cert.SsdIdeal.Facts] [hSsdRefIdeal : Cert.SsdRefIdeal.Facts] : Prop :=
  ∀ (m : (ℓ : Loc Cert.SsdIdeal.nD Cert.SsdIdeal.τ Cert.SsdIdeal.sig) → Buf (Elt Ideal) ℓ) (g : Dev Cert.SsdIdeal.nD → PrngReg)
    (m' : (ℓ : Loc Cert.SsdRefIdeal.nD Cert.SsdRefIdeal.τ Cert.SsdRefIdeal.sig) → Buf (Elt Ideal) ℓ) (g' : Dev Cert.SsdRefIdeal.nD → PrngReg), Pre_SsdIdeal m →
    (∀ c : Dev Cert.SsdIdeal.nD,
      m' ((c.tc : Thread Cert.SsdRefIdeal.nD Cert.SsdRefIdeal.τ).loc Cert.SsdRefIdeal.main_arg0) = m ((c.tc : Thread Cert.SsdIdeal.nD Cert.SsdIdeal.τ).loc Cert.SsdIdeal.main_arg0)
      ∧ m' ((c.tc : Thread Cert.SsdRefIdeal.nD Cert.SsdRefIdeal.τ).loc Cert.SsdRefIdeal.main_arg1) = m ((c.tc : Thread Cert.SsdIdeal.nD Cert.SsdIdeal.τ).loc Cert.SsdIdeal.main_arg1)
      ∧ m' ((c.tc : Thread Cert.SsdRefIdeal.nD Cert.SsdRefIdeal.τ).loc Cert.SsdRefIdeal.main_arg2) = m ((c.tc : Thread Cert.SsdIdeal.nD Cert.SsdIdeal.τ).loc Cert.SsdIdeal.main_arg2)
      ∧ m' ((c.tc : Thread Cert.SsdRefIdeal.nD Cert.SsdRefIdeal.τ).loc Cert.SsdRefIdeal.main_arg3) = m ((c.tc : Thread Cert.SsdIdeal.nD Cert.SsdIdeal.τ).loc Cert.SsdIdeal.main_arg3)
      ∧ m' ((c.tc : Thread Cert.SsdRefIdeal.nD Cert.SsdRefIdeal.τ).loc Cert.SsdRefIdeal.main_arg4) = m ((c.tc : Thread Cert.SsdIdeal.nD Cert.SsdIdeal.τ).loc Cert.SsdIdeal.main_arg4)
      ∧ m' ((c.tc : Thread Cert.SsdRefIdeal.nD Cert.SsdRefIdeal.τ).loc Cert.SsdRefIdeal.main_arg5) = m ((c.tc : Thread Cert.SsdIdeal.nD Cert.SsdIdeal.τ).loc Cert.SsdIdeal.main_arg5)
      ∧ m' ((c.tc : Thread Cert.SsdRefIdeal.nD Cert.SsdRefIdeal.τ).loc Cert.SsdRefIdeal.main_arg6) = m ((c.tc : Thread Cert.SsdIdeal.nD Cert.SsdIdeal.τ).loc Cert.SsdIdeal.main_arg6)
      ∧ m' ((c.tc : Thread Cert.SsdRefIdeal.nD Cert.SsdRefIdeal.τ).loc Cert.SsdRefIdeal.main_arg7) = m ((c.tc : Thread Cert.SsdIdeal.nD Cert.SsdIdeal.τ).loc Cert.SsdIdeal.main_arg7)
      ∧ m' ((c.tc : Thread Cert.SsdRefIdeal.nD Cert.SsdRefIdeal.τ).loc Cert.SsdRefIdeal.main_arg8) = m ((c.tc : Thread Cert.SsdIdeal.nD Cert.SsdIdeal.τ).loc Cert.SsdIdeal.main_arg8)) →
    ∃ (v0 : (c : Dev Cert.SsdIdeal.nD) → Buf (Elt Ideal) ((c.tc : Thread Cert.SsdIdeal.nD Cert.SsdIdeal.τ).loc Cert.SsdIdeal.main_v11)),
      θ_run (Cert.SsdIdeal.defs (F := Ideal)) (onTc (τ := Cert.SsdIdeal.τ) (Cert.SsdIdeal.main (F := Ideal))) ⟨m, fun _ => 0, g⟩ (fun r => ∀ c : Dev Cert.SsdIdeal.nD,
          r.2.mem ((c.tc : Thread Cert.SsdIdeal.nD Cert.SsdIdeal.τ).loc Cert.SsdIdeal.main_v11) = v0 c
          ∧ r.2.mem ((c.tc : Thread Cert.SsdIdeal.nD Cert.SsdIdeal.τ).loc Cert.SsdIdeal.main_arg0) = m ((c.tc : Thread Cert.SsdIdeal.nD Cert.SsdIdeal.τ).loc Cert.SsdIdeal.main_arg0)
          ∧ r.2.mem ((c.tc : Thread Cert.SsdIdeal.nD Cert.SsdIdeal.τ).loc Cert.SsdIdeal.main_arg1) = m ((c.tc : Thread Cert.SsdIdeal.nD Cert.SsdIdeal.τ).loc Cert.SsdIdeal.main_arg1)
          ∧ r.2.mem ((c.tc : Thread Cert.SsdIdeal.nD Cert.SsdIdeal.τ).loc Cert.SsdIdeal.main_arg2) = m ((c.tc : Thread Cert.SsdIdeal.nD Cert.SsdIdeal.τ).loc Cert.SsdIdeal.main_arg2)
          ∧ r.2.mem ((c.tc : Thread Cert.SsdIdeal.nD Cert.SsdIdeal.τ).loc Cert.SsdIdeal.main_arg3) = m ((c.tc : Thread Cert.SsdIdeal.nD Cert.SsdIdeal.τ).loc Cert.SsdIdeal.main_arg3)
          ∧ r.2.mem ((c.tc : Thread Cert.SsdIdeal.nD Cert.SsdIdeal.τ).loc Cert.SsdIdeal.main_arg4) = m ((c.tc : Thread Cert.SsdIdeal.nD Cert.SsdIdeal.τ).loc Cert.SsdIdeal.main_arg4)
          ∧ r.2.mem ((c.tc : Thread Cert.SsdIdeal.nD Cert.SsdIdeal.τ).loc Cert.SsdIdeal.main_arg5) = m ((c.tc : Thread Cert.SsdIdeal.nD Cert.SsdIdeal.τ).loc Cert.SsdIdeal.main_arg5)
          ∧ r.2.mem ((c.tc : Thread Cert.SsdIdeal.nD Cert.SsdIdeal.τ).loc Cert.SsdIdeal.main_arg6) = m ((c.tc : Thread Cert.SsdIdeal.nD Cert.SsdIdeal.τ).loc Cert.SsdIdeal.main_arg6)
          ∧ r.2.mem ((c.tc : Thread Cert.SsdIdeal.nD Cert.SsdIdeal.τ).loc Cert.SsdIdeal.main_arg7) = m ((c.tc : Thread Cert.SsdIdeal.nD Cert.SsdIdeal.τ).loc Cert.SsdIdeal.main_arg7)
          ∧ r.2.mem ((c.tc : Thread Cert.SsdIdeal.nD Cert.SsdIdeal.τ).loc Cert.SsdIdeal.main_arg8) = m ((c.tc : Thread Cert.SsdIdeal.nD Cert.SsdIdeal.τ).loc Cert.SsdIdeal.main_arg8))
      ∧ θ_run (Cert.SsdRefIdeal.defs (F := Ideal)) (onTc (τ := Cert.SsdRefIdeal.τ) (Cert.SsdRefIdeal.main (F := Ideal))) ⟨m', fun _ => 0, g'⟩ (fun r => ∀ c : Dev Cert.SsdRefIdeal.nD,
          r.2.mem ((c.tc : Thread Cert.SsdRefIdeal.nD Cert.SsdRefIdeal.τ).loc Cert.SsdRefIdeal.main_v274) = v0 c
          ∧ r.2.mem ((c.tc : Thread Cert.SsdRefIdeal.nD Cert.SsdRefIdeal.τ).loc Cert.SsdRefIdeal.main_arg0) = m' ((c.tc : Thread Cert.SsdRefIdeal.nD Cert.SsdRefIdeal.τ).loc Cert.SsdRefIdeal.main_arg0)
          ∧ r.2.mem ((c.tc : Thread Cert.SsdRefIdeal.nD Cert.SsdRefIdeal.τ).loc Cert.SsdRefIdeal.main_arg1) = m' ((c.tc : Thread Cert.SsdRefIdeal.nD Cert.SsdRefIdeal.τ).loc Cert.SsdRefIdeal.main_arg1)
          ∧ r.2.mem ((c.tc : Thread Cert.SsdRefIdeal.nD Cert.SsdRefIdeal.τ).loc Cert.SsdRefIdeal.main_arg2) = m' ((c.tc : Thread Cert.SsdRefIdeal.nD Cert.SsdRefIdeal.τ).loc Cert.SsdRefIdeal.main_arg2)
          ∧ r.2.mem ((c.tc : Thread Cert.SsdRefIdeal.nD Cert.SsdRefIdeal.τ).loc Cert.SsdRefIdeal.main_arg3) = m' ((c.tc : Thread Cert.SsdRefIdeal.nD Cert.SsdRefIdeal.τ).loc Cert.SsdRefIdeal.main_arg3)
          ∧ r.2.mem ((c.tc : Thread Cert.SsdRefIdeal.nD Cert.SsdRefIdeal.τ).loc Cert.SsdRefIdeal.main_arg4) = m' ((c.tc : Thread Cert.SsdRefIdeal.nD Cert.SsdRefIdeal.τ).loc Cert.SsdRefIdeal.main_arg4)
          ∧ r.2.mem ((c.tc : Thread Cert.SsdRefIdeal.nD Cert.SsdRefIdeal.τ).loc Cert.SsdRefIdeal.main_arg5) = m' ((c.tc : Thread Cert.SsdRefIdeal.nD Cert.SsdRefIdeal.τ).loc Cert.SsdRefIdeal.main_arg5)
          ∧ r.2.mem ((c.tc : Thread Cert.SsdRefIdeal.nD Cert.SsdRefIdeal.τ).loc Cert.SsdRefIdeal.main_arg6) = m' ((c.tc : Thread Cert.SsdRefIdeal.nD Cert.SsdRefIdeal.τ).loc Cert.SsdRefIdeal.main_arg6)
          ∧ r.2.mem ((c.tc : Thread Cert.SsdRefIdeal.nD Cert.SsdRefIdeal.τ).loc Cert.SsdRefIdeal.main_arg7) = m' ((c.tc : Thread Cert.SsdRefIdeal.nD Cert.SsdRefIdeal.τ).loc Cert.SsdRefIdeal.main_arg7)
          ∧ r.2.mem ((c.tc : Thread Cert.SsdRefIdeal.nD Cert.SsdRefIdeal.τ).loc Cert.SsdRefIdeal.main_arg8) = m' ((c.tc : Thread Cert.SsdRefIdeal.nD Cert.SsdRefIdeal.τ).loc Cert.SsdRefIdeal.main_arg8))

def Claim : Prop :=
  ∃ (hFfn : Cert.Ffn.Facts) (hFfnIdeal : Cert.FfnIdeal.Facts) (hFfnRefIdeal : Cert.FfnRefIdeal.Facts) (hInproj : Cert.Inproj.Facts) (hInprojIdeal : Cert.InprojIdeal.Facts) (hInprojRefIdeal : Cert.InprojRefIdeal.Facts) (hOutproj : Cert.Outproj.Facts) (hOutprojIdeal : Cert.OutprojIdeal.Facts) (hOutprojRefIdeal : Cert.OutprojRefIdeal.Facts) (hSsd : Cert.Ssd.Facts) (hSsdIdeal : Cert.SsdIdeal.Facts) (hSsdRefIdeal : Cert.SsdRefIdeal.Facts),
    quiescent_Ffn (hFfn := hFfn)
    ∧ quiescent_FfnIdeal (hFfnIdeal := hFfnIdeal)
    ∧ quiescent_FfnRefIdeal (hFfnRefIdeal := hFfnRefIdeal)
    ∧ quiescent_Inproj (hInproj := hInproj)
    ∧ quiescent_InprojIdeal (hInprojIdeal := hInprojIdeal)
    ∧ quiescent_InprojRefIdeal (hInprojRefIdeal := hInprojRefIdeal)
    ∧ quiescent_Outproj (hOutproj := hOutproj)
    ∧ quiescent_OutprojIdeal (hOutprojIdeal := hOutprojIdeal)
    ∧ quiescent_OutprojRefIdeal (hOutprojRefIdeal := hOutprojRefIdeal)
    ∧ quiescent_Ssd (hSsd := hSsd)
    ∧ quiescent_SsdIdeal (hSsdIdeal := hSsdIdeal)
    ∧ quiescent_SsdRefIdeal (hSsdRefIdeal := hSsdRefIdeal)
    ∧ preserves_Ffn_FfnIdeal
    ∧ algebraic_FfnIdeal_FfnRefIdeal (hFfnIdeal := hFfnIdeal) (hFfnRefIdeal := hFfnRefIdeal)
    ∧ preserves_Inproj_InprojIdeal
    ∧ algebraic_InprojIdeal_InprojRefIdeal (hInprojIdeal := hInprojIdeal) (hInprojRefIdeal := hInprojRefIdeal)
    ∧ preserves_Outproj_OutprojIdeal
    ∧ algebraic_OutprojIdeal_OutprojRefIdeal (hOutprojIdeal := hOutprojIdeal) (hOutprojRefIdeal := hOutprojRefIdeal)
    ∧ preserves_Ssd_SsdIdeal
    ∧ algebraic_SsdIdeal_SsdRefIdeal (hSsdIdeal := hSsdIdeal) (hSsdRefIdeal := hSsdRefIdeal)
-- ==== Ffn.lean ====
abbrev S16384x1024 : Shape := ⟨2, ![16384, 1024]⟩
abbrev S1024 : Shape := ⟨1, ![1024]⟩
abbrev S1024x2816 : Shape := ⟨2, ![1024, 2816]⟩
abbrev S2816x1024 : Shape := ⟨2, ![2816, 1024]⟩
abbrev S1x1024 : Shape := ⟨2, ![1, 1024]⟩
abbrev S512x1024 : Shape := ⟨2, ![512, 1024]⟩
abbrev S512x2816 : Shape := ⟨2, ![512, 2816]⟩
abbrev S512 : Shape := ⟨1, ![512]⟩
abbrev S512x1 : Shape := ⟨2, ![512, 1]⟩
abbrev S1024x512 : Shape := ⟨2, ![1024, 512]⟩
abbrev S512x512 : Shape := ⟨2, ![512, 512]⟩
abbrev S1024x256 : Shape := ⟨2, ![1024, 256]⟩
abbrev S512x256 : Shape := ⟨2, ![512, 256]⟩

abbrev nBuf : Space → Nat
  | .hbm => 12
  | .vmem => 10
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S1024, .f32⟩
  | .hbm, ⟨6, _⟩ => ⟨S1x1024, .f32⟩
  | .hbm, ⟨7, _⟩ => ⟨S1024x2816, .bf16⟩
  | .hbm, ⟨8, _⟩ => ⟨S1024x2816, .bf16⟩
  | .hbm, ⟨9, _⟩ => ⟨S2816x1024, .bf16⟩
  | .hbm, ⟨10, _⟩ => ⟨S1x1024, .f32⟩
  | .hbm, ⟨11, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x2816, .bf16⟩
  | .local _ .vmem, ⟨4, _⟩ => ⟨S1024x2816, .bf16⟩
  | .local _ .vmem, ⟨5, _⟩ => ⟨S2816x1024, .bf16⟩
  | .local _ .vmem, ⟨6, _⟩ => ⟨S1x1024, .f32⟩
  | .local _ .vmem, ⟨7, _⟩ => ⟨S512x1024, .f32⟩
  | .local _ .vmem, ⟨8, _⟩ => ⟨S512x1024, .f32⟩
  | .local _ .vmem, ⟨9, _⟩ => ⟨S512x2816, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2816 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== FfnRefIdeal.lean ====
abbrev S16384x1024 : Shape := ⟨2, ![16384, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x2816 : Shape := ⟨2, ![16384, 2816]⟩

abbrev nBuf : Space → Nat
  | .hbm => 55
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S1024, .f32⟩
  | .hbm, ⟨6, _⟩ => ⟨S16384x1024, .f32⟩
  | .hbm, ⟨7, _⟩ => ⟨S_, .f32⟩
  | .hbm, ⟨8, _⟩ => ⟨S16384, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S_, .f32⟩
  | .hbm, ⟨14, _⟩ => ⟨S16384x1, .f32⟩
  | .hbm, ⟨15, _⟩ => ⟨S16384x1, .f32⟩
  | .hbm, ⟨16, _⟩ => ⟨S16384x1, .f32⟩
  | .hbm, ⟨17, _⟩ => ⟨S16384x1024, .f32⟩
  | .hbm, ⟨18, _⟩ => ⟨S16384x1024, .f32⟩
  | .hbm, ⟨19, _⟩ => ⟨S1x1024, .f32⟩
  | .hbm, ⟨20, _⟩ => ⟨S16384x1024, .f32⟩
  | .hbm, ⟨21, _⟩ => ⟨S16384x1024, .f32⟩
  | .hbm, ⟨22, _⟩ => ⟨S16384x2816, .f32⟩
  | .hbm, ⟨23, _⟩ => ⟨S16384x2816, .f32⟩
  | .hbm, ⟨24, _⟩ => ⟨S16384x2816, .f32⟩
  | .hbm, ⟨25, _⟩ => ⟨S_, .f32⟩
  | .hbm, ⟨26, _⟩ => ⟨S16384x2816, .f32⟩
  | .hbm, ⟨27, _⟩ => ⟨S16384x2816, .f32⟩
  | .hbm, ⟨28, _⟩ => ⟨S_, .f32⟩
  | .hbm, ⟨29, _⟩ => ⟨S16384x2816, .f32⟩
  | .hbm, ⟨30, _⟩ => ⟨S16384x2816, .f32⟩
  | .hbm, ⟨31, _⟩ => ⟨S16384x2816, .f32⟩
  | .hbm, ⟨32, _⟩ => ⟨S16384x2816, .f32⟩
  | .hbm, ⟨33, _⟩ => ⟨S16384x2816, .f32⟩
  | .hbm, ⟨34, _⟩ => ⟨S16384x1024, .f32⟩
  | .hbm, ⟨35, _⟩ => ⟨S16384x1024, .f32⟩
  | .hbm, ⟨36, _⟩ => ⟨S_, .f32⟩
  | .hbm, ⟨37, _⟩ => ⟨S16384, .f32⟩
  | .hbm, ⟨38, _⟩ => ⟨S16384x1, .f32⟩
  | .hbm, ⟨39, _⟩ => ⟨S_, .f32⟩
  | .hbm, ⟨40, _⟩ => ⟨S16384x1, .f32⟩
  | .hbm, ⟨41, _⟩ => ⟨S16384x1, .f32⟩
  | .hbm, ⟨42, _⟩ => ⟨S_, .f32⟩
  | .hbm, ⟨43, _⟩ => ⟨S16384x1, .f32⟩
  | .hbm, ⟨44, _⟩ => ⟨S16384x1, .f32⟩
  | .hbm, ⟨45, _⟩ => ⟨S16384x1, .f32⟩
  | .hbm, ⟨46, _⟩ => ⟨S16384x1024, .f32⟩
  | .hbm, ⟨47, _⟩ => ⟨S16384x1024, .f32⟩
  | .hbm, ⟨48, _⟩ => ⟨S1x1024, .f32⟩
  | .hbm, ⟨49, _⟩ => ⟨S16384x1024, .f32⟩
  | .hbm, ⟨50, _⟩ => ⟨S16384x1024, .f32⟩
  | .hbm, ⟨51, _⟩ => ⟨S_, .f32⟩
  | .hbm, ⟨52, _⟩ => ⟨S16384x1024, .f32⟩
  | .hbm, ⟨53, _⟩ => ⟨S16384x1024, .f32⟩
  | .hbm, ⟨54, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_call0_v0 : Ref sig .tc := ⟨.hbm, 23, rfl⟩
abbrev main_call0_v1 : Ref sig .tc := ⟨.hbm, 24, rfl⟩
abbrev main_call0_cst : Ref sig .tc := ⟨.hbm, 25, rfl⟩
abbrev main_call0_v2 : Ref sig .tc := ⟨.hbm, 26, rfl⟩
abbrev main_call0_v3 : Ref sig .tc := ⟨.hbm, 27, rfl⟩
abbrev main_call0_cst_0 : Ref sig .tc := ⟨.hbm, 28, rfl⟩
abbrev main_call0_v4 : Ref sig .tc := ⟨.hbm, 29, rfl⟩
abbrev main_call0_v5 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_cst_2 : Ref sig .tc := ⟨.hbm, 36, rfl⟩
abbrev main_v19 : Ref sig .tc := ⟨.hbm, 37, rfl⟩
abbrev main_v20 : Ref sig .tc := ⟨.hbm, 38, rfl⟩
abbrev main_cst_3 : Ref sig .tc := ⟨.hbm, 39, rfl⟩
abbrev main_v21 : Ref sig .tc := ⟨.hbm, 40, rfl⟩
abbrev main_v22 : Ref sig .tc := ⟨.hbm, 41, rfl⟩
abbrev main_cst_4 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_cst_5 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩

abbrev nD : Nat := 1
abbrev τ : Topo := Topo.v7x

variable {F : FTy → Type} [FloatOps F]
-- ==== Inproj.lean ====
abbrev S16384x1024 : Shape := ⟨2, ![16384, 1024]⟩
abbrev S1024 : Shape := ⟨1, ![1024]⟩
abbrev S1024x2568 : Shape := ⟨2, ![1024, 2568]⟩
abbrev S1x1024 : Shape := ⟨2, ![1, 1024]⟩
abbrev S1024x8 : Shape := ⟨2, ![1024, 8]⟩
abbrev S_ : Shape := ⟨0, ![]⟩
abbrev S1024x128 : Shape := ⟨2, ![1024, 128]⟩
abbrev S1024x512 : Shape := ⟨2, ![1024, 512]⟩
abbrev S1024x1024 : Shape := ⟨2, ![1024, 1024]⟩
abbrev S1024x256 : Shape := ⟨2, ![1024, 256]⟩
abbrev S1024x2688 : Shape := ⟨2, ![1024, 2688]⟩
abbrev S16384x512 : Shape := ⟨2, ![16384, 512]⟩
abbrev S16384x256 : Shape := ⟨2, ![16384, 256]⟩
abbrev S16384x128 : Shape := ⟨2, ![16384, 128]⟩
abbrev S512x1024 : Shape := ⟨2, ![512, 1024]⟩
abbrev S512x512 : Shape := ⟨2, ![512, 512]⟩
abbrev S512x256 : Shape := ⟨2, ![512, 256]⟩
abbrev S512x128 : Shape := ⟨2, ![512, 128]⟩
abbrev S512 : Shape := ⟨1, ![512]⟩
abbrev S512x1 : Shape := ⟨2, ![512, 1]⟩

abbrev nBuf : Space → Nat
  | .hbm => 23
  | .vmem => 18
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x2568, .f32⟩
  | .hbm, ⟨3, _⟩ => ⟨S1x1024, .f32⟩
  | .hbm, ⟨4, _⟩ => ⟨S1024x8, .f32⟩
  | .hbm, ⟨5, _⟩ => ⟨S_, .i32⟩
  | .hbm, ⟨6, _⟩ => ⟨S_, .f32⟩
  | .hbm, ⟨7, _⟩ => ⟨S1024x128, .f32⟩
  | .hbm, ⟨8, _⟩ => ⟨S1024x512, .f32⟩
  | .hbm, ⟨9, _⟩ => ⟨S1024x1024, .f32⟩
  | .hbm, ⟨10, _⟩ => ⟨S1024x256, .f32⟩
  | .hbm, ⟨11, _⟩ => ⟨S1024x256, .f32⟩
  | .hbm, ⟨12, _⟩ => ⟨S1024x256, .f32⟩
  | .hbm, ⟨13, _⟩ => ⟨S1024x256, .f32⟩
  | .hbm, ⟨14, _⟩ => ⟨S1024x2688, .f32⟩
  | .hbm, ⟨15, _⟩ => ⟨S1024x2688, .bf16⟩
  | .hbm, ⟨16, _⟩ => ⟨S16384x512, .f32⟩
  | .hbm, ⟨17, _⟩ => ⟨S16384x1024, .f32⟩
  | .hbm, ⟨18, _⟩ => ⟨S16384x256, .f32⟩
  | .hbm, ⟨19, _⟩ => ⟨S16384x256, .f32⟩
  | .hbm, ⟨20, _⟩ => ⟨S16384x256, .f32⟩
  | .hbm, ⟨21, _⟩ => ⟨S16384x256, .f32⟩
  | .hbm, ⟨22, _⟩ => ⟨S16384x128, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x2688, .bf16⟩
  | .local _ .vmem, ⟨4, _⟩ => ⟨S512x512, .f32⟩
  | .local _ .vmem, ⟨5, _⟩ => ⟨S512x512, .f32⟩
  | .local _ .vmem, ⟨6, _⟩ => ⟨S512x1024, .f32⟩
  | .local _ .vmem, ⟨7, _⟩ => ⟨S512x1024, .f32⟩
  | .local _ .vmem, ⟨8, _⟩ => ⟨S512x256, .f32⟩
  | .local _ .vmem, ⟨9, _⟩ => ⟨S512x256, .f32⟩
  | .local _ .vmem, ⟨10, _⟩ => ⟨S512x256, .f32⟩
  | .local _ .vmem, ⟨11, _⟩ => ⟨S512x256, .f32⟩
  | .local _ .vmem, ⟨12, _⟩ => ⟨S512x256, .f32⟩
  | .local _ .vmem, ⟨13, _⟩ => ⟨S512x256, .f32⟩
  | .local _ .vmem, ⟨14, _⟩ => ⟨S512x256, .f32⟩
  | .local _ .vmem, ⟨15, _⟩ => ⟨S512x256, .f32⟩
  | .local _ .vmem, ⟨16, _⟩ => ⟨S512x128, .f32⟩
  | .local _ .vmem, ⟨17, _⟩ => ⟨S512x128, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_call0_v0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11_0 : Ref sig .tc := ⟨.hbm, 16, rfl⟩
abbrev main_v11_1 : Ref sig .tc := ⟨.hbm, 17, rfl⟩
abbrev main_v11_2 : Ref sig .tc := ⟨.hbm, 18, rfl⟩
abbrev main_v11_3 : Ref sig .tc := ⟨.hbm, 19, rfl⟩
abbrev main_v11_4 : Ref sig .tc := ⟨.hbm, 20, rfl⟩
abbrev main_v11_5 : Ref sig .tc := ⟨.hbm, 21, rfl⟩
abbrev main_v11_6 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2688 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== InprojRefIdeal.lean ====
abbrev S16384x1024 : Shape := ⟨2, ![16384, 1024]⟩
abbrev S1024 : Shape := ⟨1, ![1024]⟩
abbrev S1024x2568 : Shape := ⟨2, ![1024, 2568]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x2568 : Shape := ⟨2, ![16384, 2568]⟩
abbrev S16384x512 : Shape := ⟨2, ![16384, 512]⟩
abbrev S16384x8 : Shape := ⟨2, ![16384, 8]⟩
abbrev S16384x256 : Shape := ⟨2, ![16384, 256]⟩
abbrev S16384x128 : Shape := ⟨2, ![16384, 128]⟩

abbrev nBuf : Space → Nat
  | .hbm => 30
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x2568, .f32⟩
  | .hbm, ⟨3, _⟩ => ⟨S16384x1024, .f32⟩
  | .hbm, ⟨4, _⟩ => ⟨S_, .f32⟩
  | .hbm, ⟨5, _⟩ => ⟨S16384, .f32⟩
  | .hbm, ⟨6, _⟩ => ⟨S16384x1, .f32⟩
  | .hbm, ⟨7, _⟩ => ⟨S_, .f32⟩
  | .hbm, ⟨8, _⟩ => ⟨S16384x1, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S16384x1, .f32⟩
  | .hbm, ⟨14, _⟩ => ⟨S16384x1024, .f32⟩
  | .hbm, ⟨15, _⟩ => ⟨S16384x1024, .f32⟩
  | .hbm, ⟨16, _⟩ => ⟨S1x1024, .f32⟩
  | .hbm, ⟨17, _⟩ => ⟨S16384x1024, .f32⟩
  | .hbm, ⟨18, _⟩ => ⟨S16384x1024, .f32⟩
  | .hbm, ⟨19, _⟩ => ⟨S16384x2568, .f32⟩
  | .hbm, ⟨20, _⟩ => ⟨S16384x512, .f32⟩
  | .hbm, ⟨21, _⟩ => ⟨S16384x1024, .f32⟩
  | .hbm, ⟨22, _⟩ => ⟨S16384x8, .f32⟩
  | .hbm, ⟨23, _⟩ => ⟨S16384x256, .f32⟩
  | .hbm, ⟨24, _⟩ => ⟨S16384x256, .f32⟩
  | .hbm, ⟨25, _⟩ => ⟨S16384x256, .f32⟩
  | .hbm, ⟨26, _⟩ => ⟨S16384x256, .f32⟩
  | .hbm, ⟨27, _⟩ => ⟨S_, .i32⟩
  | .hbm, ⟨28, _⟩ => ⟨S_, .f32⟩
  | .hbm, ⟨29, _⟩ => ⟨S16384x128, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_c : Ref sig .tc := ⟨.hbm, 27, rfl⟩
abbrev main_call0_v0 : Ref sig .tc := ⟨.hbm, 28, rfl⟩
abbrev main_v21 : Ref sig .tc := ⟨.hbm, 29, rfl⟩

abbrev nD : Nat := 1
abbrev τ : Topo := Topo.v7x

variable {F : FTy → Type} [FloatOps F]
-- ==== Outproj.lean ====
abbrev S16384x1024 : Shape := ⟨2, ![16384, 1024]⟩
abbrev S16384x512 : Shape := ⟨2, ![16384, 512]⟩
abbrev S16384x256 : Shape := ⟨2, ![16384, 256]⟩
abbrev S1024x1024 : Shape := ⟨2, ![1024, 1024]⟩
abbrev S1024 : Shape := ⟨1, ![1024]⟩
abbrev S1x1024 : Shape := ⟨2, ![1, 1024]⟩
abbrev S512x1024 : Shape := ⟨2, ![512, 1024]⟩
abbrev S512x512 : Shape := ⟨2, ![512, 512]⟩
abbrev S512x256 : Shape := ⟨2, ![512, 256]⟩
abbrev S256x1024 : Shape := ⟨2, ![256, 1024]⟩
abbrev S512 : Shape := ⟨1, ![512]⟩
abbrev S512x1 : Shape := ⟨2, ![512, 1]⟩

abbrev nBuf : Space → Nat
  | .hbm => 9
  | .vmem => 12
  | .smem => 0
  | _ => 0

abbrev bufTy : (tb : Table) → Fin (tcTables nBuf tb) → BufTy
  | .hbm, ⟨0, _⟩ => ⟨S16384x1024, .f32⟩
  | .hbm, ⟨1, _⟩ => ⟨S16384x512, .f32⟩
  | .hbm, ⟨2, _⟩ => ⟨S16384x256, .f32⟩
  | .hbm, ⟨3, _⟩ => ⟨S16384x256, .f32⟩
  | .hbm, ⟨4, _⟩ => ⟨S1024x1024, .f32⟩
  | .hbm, ⟨5, _⟩ => ⟨S1024, .f32⟩
  | .hbm, ⟨6, _⟩ => ⟨S1024x1024, .bf16⟩
  | .hbm, ⟨7, _⟩ => ⟨S1x1024, .f32⟩
  | .hbm, ⟨8, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S512x512, .f32⟩
  | .local _ .vmem, ⟨3, _⟩ => ⟨S512x512, .f32⟩
  | .local _ .vmem, ⟨4, _⟩ => ⟨S512x256, .f32⟩
  | .local _ .vmem, ⟨5, _⟩ => ⟨S512x256, .f32⟩
  | .local _ .vmem, ⟨6, _⟩ => ⟨S512x256, .f32⟩
  | .local _ .vmem, ⟨7, _⟩ => ⟨S512x256, .f32⟩
  | .local _ .vmem, ⟨8, _⟩ => ⟨S1024x1024, .bf16⟩
  | .local _ .vmem, ⟨9, _⟩ => ⟨S1x1024, .f32⟩
  | .local _ .vmem, ⟨10, _⟩ => ⟨S512x1024, .f32⟩
  | .local _ .vmem, ⟨11, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== OutprojRefIdeal.lean ====
abbrev S16384x1024 : Shape := ⟨2, ![16384, 1024]⟩
abbrev S16384x512 : Shape := ⟨2, ![16384, 512]⟩
abbrev S16384x256 : Shape := ⟨2, ![16384, 256]⟩
abbrev S1024x1024 : Shape := ⟨2, ![1024, 1024]⟩
abbrev S1024 : Shape := ⟨1, ![1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩

abbrev nBuf : Space → Nat
  | .hbm => 25
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x512, .f32⟩
  | .hbm, ⟨2, _⟩ => ⟨S16384x256, .f32⟩
  | .hbm, ⟨3, _⟩ => ⟨S16384x256, .f32⟩
  | .hbm, ⟨4, _⟩ => ⟨S1024x1024, .f32⟩
  | .hbm, ⟨5, _⟩ => ⟨S1024, .f32⟩
  | .hbm, ⟨6, _⟩ => ⟨S16384x1024, .f32⟩
  | .hbm, ⟨7, _⟩ => ⟨S16384x1024, .f32⟩
  | .hbm, ⟨8, _⟩ => ⟨S16384x1024, .f32⟩
  | .hbm, ⟨9, _⟩ => ⟨S_, .f32⟩
  | .hbm, ⟨10, _⟩ => ⟨S16384, .f32⟩
  | .hbm, ⟨11, _⟩ => ⟨S16384x1, .f32⟩
  | .hbm, ⟨12, _⟩ => ⟨S_, .f32⟩
  | .hbm, ⟨13, _⟩ => ⟨S16384x1, .f32⟩
  | .hbm, ⟨14, _⟩ => ⟨S16384x1, .f32⟩
  | .hbm, ⟨15, _⟩ => ⟨S_, .f32⟩
  | .hbm, ⟨16, _⟩ => ⟨S16384x1, .f32⟩
  | .hbm, ⟨17, _⟩ => ⟨S16384x1, .f32⟩
  | .hbm, ⟨18, _⟩ => ⟨S16384x1, .f32⟩
  | .hbm, ⟨19, _⟩ => ⟨S16384x1024, .f32⟩
  | .hbm, ⟨20, _⟩ => ⟨S16384x1024, .f32⟩
  | .hbm, ⟨21, _⟩ => ⟨S1x1024, .f32⟩
  | .hbm, ⟨22, _⟩ => ⟨S16384x1024, .f32⟩
  | .hbm, ⟨23, _⟩ => ⟨S16384x1024, .f32⟩
  | .hbm, ⟨24, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩

abbrev nD : Nat := 1
abbrev τ : Topo := Topo.v7x

variable {F : FTy → Type} [FloatOps F]
-- ==== Ssd.lean ====
abbrev S16384x1024 : Shape := ⟨2, ![16384, 1024]⟩
abbrev S16384x512 : Shape := ⟨2, ![16384, 512]⟩
abbrev S16384x128 : Shape := ⟨2, ![16384, 128]⟩
abbrev S4x1024 : Shape := ⟨2, ![4, 1024]⟩
abbrev S1024 : Shape := ⟨1, ![1024]⟩
abbrev S8 : Shape := ⟨1, ![8]⟩
abbrev S512 : Shape := ⟨1, ![512]⟩
abbrev S1x1024 : Shape := ⟨2, ![1, 1024]⟩
abbrev S8x64 : Shape := ⟨2, ![8, 64]⟩
abbrev S1x512 : Shape := ⟨2, ![1, 512]⟩
abbrev S128x1024 : Shape := ⟨2, ![128, 1024]⟩
abbrev S128x512 : Shape := ⟨2, ![128, 512]⟩
abbrev S128x128 : Shape := ⟨2, ![128, 128]⟩
abbrev S136x1024 : Shape := ⟨2, ![136, 1024]⟩
abbrev S8x1024 : Shape := ⟨2, ![8, 1024]⟩
abbrev S128x256 : Shape := ⟨2, ![128, 256]⟩
abbrev S128x1 : Shape := ⟨2, ![128, 1]⟩
abbrev S1x256 : Shape := ⟨2, ![1, 256]⟩
abbrev S1x128 : Shape := ⟨2, ![1, 128]⟩
abbrev S128 : Shape := ⟨1, ![128]⟩

abbrev nBuf : Space → Nat
  | .hbm => 21
  | .vmem => 16
  | .smem => 0
  | _ => 0

abbrev bufTy : (tb : Table) → Fin (tcTables nBuf tb) → BufTy
  | .hbm, ⟨0, _⟩ => ⟨S16384x1024, .f32⟩
  | .hbm, ⟨1, _⟩ => ⟨S16384x512, .f32⟩
  | .hbm, ⟨2, _⟩ => ⟨S16384x128, .f32⟩
  | .hbm, ⟨3, _⟩ => ⟨S4x1024, .f32⟩
  | .hbm, ⟨4, _⟩ => ⟨S1024, .f32⟩
  | .hbm, ⟨5, _⟩ => ⟨S8, .f32⟩
  | .hbm, ⟨6, _⟩ => ⟨S8, .f32⟩
  | .hbm, ⟨7, _⟩ => ⟨S8, .f32⟩
  | .hbm, ⟨8, _⟩ => ⟨S512, .f32⟩
  | .hbm, ⟨9, _⟩ => ⟨S1x1024, .f32⟩
  | .hbm, ⟨10, _⟩ => ⟨S8x64, .f32⟩
  | .hbm, ⟨11, _⟩ => ⟨S512, .f32⟩
  | .hbm, ⟨12, _⟩ => ⟨S1x512, .f32⟩
  | .hbm, ⟨13, _⟩ => ⟨S8x64, .f32⟩
  | .hbm, ⟨14, _⟩ => ⟨S512, .f32⟩
  | .hbm, ⟨15, _⟩ => ⟨S1x512, .f32⟩
  | .hbm, ⟨16, _⟩ => ⟨S8x64, .f32⟩
  | .hbm, ⟨17, _⟩ => ⟨S512, .f32⟩
  | .hbm, ⟨18, _⟩ => ⟨S1x512, .f32⟩
  | .hbm, ⟨19, _⟩ => ⟨S1x512, .f32⟩
  | .hbm, ⟨20, _⟩ => ⟨S16384x512, .f32⟩
  | .local _ .vmem, ⟨0, _⟩ => ⟨S128x1024, .f32⟩
  | .local _ .vmem, ⟨1, _⟩ => ⟨S128x1024, .f32⟩
  | .local _ .vmem, ⟨2, _⟩ => ⟨S128x512, .f32⟩
  | .local _ .vmem, ⟨3, _⟩ => ⟨S128x512, .f32⟩
  | .local _ .vmem, ⟨4, _⟩ => ⟨S128x128, .f32⟩
  | .local _ .vmem, ⟨5, _⟩ => ⟨S128x128, .f32⟩
  | .local _ .vmem, ⟨6, _⟩ => ⟨S4x1024, .f32⟩
  | .local _ .vmem, ⟨7, _⟩ => ⟨S1x1024, .f32⟩
  | .local _ .vmem, ⟨8, _⟩ => ⟨S1x512, .f32⟩
  | .local _ .vmem, ⟨9, _⟩ => ⟨S1x512, .f32⟩
  | .local _ .vmem, ⟨10, _⟩ => ⟨S1x512, .f32⟩
  | .local _ .vmem, ⟨11, _⟩ => ⟨S1x512, .f32⟩
  | .local _ .vmem, ⟨12, _⟩ => ⟨S128x512, .f32⟩
  | .local _ .vmem, ⟨13, _⟩ => ⟨S128x512, .f32⟩
  | .local _ .vmem, ⟨14, _⟩ => ⟨S136x1024, .f32⟩
  | .local _ .vmem, ⟨15, _⟩ => ⟨S128x512, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_scratch0 : Ref sig .tc := ⟨.vmem, 14, rfl⟩
abbrev cc0_scratch1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13

abbrev nD : Nat := 1
abbrev τ : Topo := Topo.v7x

variable {F : FTy → Type} [FloatOps F]

abbrev grid0 : Pipeline.Grid := ⟨2, ![8, 16], ![false, false]⟩

def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S128x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S4x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S128x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== SsdRefIdeal.lean ====
abbrev S16384x1024 : Shape := ⟨2, ![16384, 1024]⟩
abbrev S16384x512 : Shape := ⟨2, ![16384, 512]⟩
abbrev S16384x128 : Shape := ⟨2, ![16384, 128]⟩
abbrev S4x1024 : Shape := ⟨2, ![4, 1024]⟩
abbrev S1024 : Shape := ⟨1, ![1024]⟩
abbrev S8 : Shape := ⟨1, ![8]⟩
abbrev S512 : Shape := ⟨1, ![512]⟩
abbrev S8x2048x1024 : Shape := ⟨3, ![8, 2048, 1024]⟩
abbrev S8x2048x512 : Shape := ⟨3, ![8, 2048, 512]⟩
abbrev S16384x8 : Shape := ⟨2, ![16384, 8]⟩
abbrev S8x2048x8 : Shape := ⟨3, ![8, 2048, 8]⟩
abbrev S_ : Shape := ⟨0, ![]⟩
abbrev S8x2051x1024 : Shape := ⟨3, ![8, 2051, 1024]⟩
abbrev S1x1024 : Shape := ⟨2, ![1, 1024]⟩
abbrev S1x1x1024 : Shape := ⟨3, ![1, 1, 1024]⟩
abbrev S8x2048x8x64 : Shape := ⟨4, ![8, 2048, 8, 64]⟩
abbrev S8x2048x256 : Shape := ⟨3, ![8, 2048, 256]⟩
abbrev S8x2048x2x128 : Shape := ⟨4, ![8, 2048, 2, 128]⟩
abbrev S1x1x8 : Shape := ⟨3, ![1, 1, 8]⟩
abbrev S8x2048x8x1 : Shape := ⟨4, ![8, 2048, 8, 1]⟩
abbrev S8x16x128x2x4x64 : Shape := ⟨6, ![8, 16, 128, 2, 4, 64]⟩
abbrev S8x16x128x2x4 : Shape := ⟨5, ![8, 16, 128, 2, 4]⟩
abbrev S8x2x4x16x128 : Shape := ⟨5, ![8, 2, 4, 16, 128]⟩
abbrev S8x16x128x2x128 : Shape := ⟨5, ![8, 16, 128, 2, 128]⟩
abbrev S128x128 : Shape := ⟨2, ![128, 128]⟩
abbrev S8x2x4x16x128x1 : Shape := ⟨6, ![8, 2, 4, 16, 128, 1]⟩
abbrev S8x2x4x16x1x128 : Shape := ⟨6, ![8, 2, 4, 16, 1, 128]⟩
abbrev S8x2x4x16x128x128 : Shape := ⟨6, ![8, 2, 4, 16, 128, 128]⟩
abbrev S8x2x16x128x128 : Shape := ⟨5, ![8, 2, 16, 128, 128]⟩
abbrev S8x2x1x16x128x128 : Shape := ⟨6, ![8, 2, 1, 16, 128, 128]⟩
abbrev S8x16x2x4x64x128 : Shape := ⟨6, ![8, 16, 2, 4, 64, 128]⟩
abbrev S8x2x4x16x1 : Shape := ⟨5, ![8, 2, 4, 16, 1]⟩
abbrev S8x16x128x2x4x1 : Shape := ⟨6, ![8, 16, 128, 2, 4, 1]⟩
abbrev S8x2x4x16 : Shape := ⟨4, ![8, 2, 4, 16]⟩
abbrev S8x2x4x64x128 : Shape := ⟨5, ![8, 2, 4, 64, 128]⟩
abbrev S16x8x2x4x64x128 : Shape := ⟨6, ![16, 8, 2, 4, 64, 128]⟩
abbrev S16x8x2x4 : Shape := ⟨4, ![16, 8, 2, 4]⟩
abbrev S0x8x2x4x64x128 : Shape := ⟨6, ![0, 8, 2, 4, 64, 128]⟩
abbrev S0x8x2x4 : Shape := ⟨4, ![0, 8, 2, 4]⟩
abbrev S1x8x2x4x64x128 : Shape := ⟨6, ![1, 8, 2, 4, 64, 128]⟩
abbrev S1x8x2x4 : Shape := ⟨4, ![1, 8, 2, 4]⟩
abbrev S8x2x4 : Shape := ⟨3, ![8, 2, 4]⟩
abbrev S8x2x4x1x1 : Shape := ⟨5, ![8, 2, 4, 1, 1]⟩
abbrev S8x1 : Shape := ⟨2, ![8, 1]⟩
abbrev S1x1x8x1 : Shape := ⟨4, ![1, 1, 8, 1]⟩
abbrev S8x2048 : Shape := ⟨2, ![8, 2048]⟩
abbrev S8x2048x1 : Shape := ⟨3, ![8, 2048, 1]⟩
abbrev S1x1x512 : Shape := ⟨3, ![1, 1, 512]⟩

abbrev nBuf : Space → Nat
  | .hbm => 336
  | .vmem => 0
  | .smem => 0
  | _ => 0

abbrev hbmTy0_0 (i : Nat) : BufTy := match i % 128 with
  | 0 => ⟨S16384x1024, .f32⟩
  | 1 => ⟨S16384x512, .f32⟩
  | 2 => ⟨S16384x128, .f32⟩
  | 3 => ⟨S4x1024, .f32⟩
  | 4 => ⟨S1024, .f32⟩
  | 5 => ⟨S8, .f32⟩
  | 6 => ⟨S8, .f32⟩
  | 7 => ⟨S8, .f32⟩
  | 8 => ⟨S512, .f32⟩
  | 9 => ⟨S8x2048x1024, .f32⟩
  | 10 => ⟨S8x2048x512, .f32⟩
  | 11 => ⟨S16384x8, .f32⟩
  | 12 => ⟨S8x2048x8, .f32⟩
  | 13 => ⟨S_, .i32⟩
  | 14 => ⟨S_, .f32⟩
  | 15 => ⟨S8x2051x1024, .f32⟩
  | 16 => ⟨S8x2048x1024, .f32⟩
  | 17 => ⟨S1x1024, .f32⟩
  | 18 => ⟨S1024, .f32⟩
  | 19 => ⟨S1x1x1024, .f32⟩
  | 20 => ⟨S8x2048x1024, .f32⟩
  | 21 => ⟨S8x2048x1024, .f32⟩
  | 22 => ⟨S_, .f32⟩
  | 23 => ⟨S8x2048x1024, .f32⟩
  | 24 => ⟨S8x2048x1024, .f32⟩
  | 25 => ⟨S8x2048x1024, .f32⟩
  | 26 => ⟨S1x1024, .f32⟩
  | 27 => ⟨S1024, .f32⟩
  | 28 => ⟨S1x1x1024, .f32⟩
  | 29 => ⟨S8x2048x1024, .f32⟩
  | 30 => ⟨S8x2048x1024, .f32⟩
  | 31 => ⟨S8x2048x1024, .f32⟩
  | 32 => ⟨S8x2048x1024, .f32⟩
  | 33 => ⟨S1x1024, .f32⟩
  | 34 => ⟨S1024, .f32⟩
  | 35 => ⟨S1x1x1024, .f32⟩
  | 36 => ⟨S8x2048x1024, .f32⟩
  | 37 => ⟨S8x2048x1024, .f32⟩
  | 38 => ⟨S8x2048x1024, .f32⟩
  | 39 => ⟨S8x2048x1024, .f32⟩
  | 40 => ⟨S1x1024, .f32⟩
  | 41 => ⟨S1024, .f32⟩
  | 42 => ⟨S1x1x1024, .f32⟩
  | 43 => ⟨S8x2048x1024, .f32⟩
  | 44 => ⟨S8x2048x1024, .f32⟩
  | 45 => ⟨S8x2048x1024, .f32⟩
  | 46 => ⟨S1x1x1024, .f32⟩
  | 47 => ⟨S8x2048x1024, .f32⟩
  | 48 => ⟨S8x2048x1024, .f32⟩
  | 49 => ⟨S8x2048x1024, .f32⟩
  | 50 => ⟨S8x2048x1024, .f32⟩
  | 51 => ⟨S_, .f32⟩
  | 52 => ⟨S8x2048x1024, .f32⟩
  | 53 => ⟨S8x2048x1024, .f32⟩
  | 54 => ⟨S_, .f32⟩
  | 55 => ⟨S8x2048x1024, .f32⟩
  | 56 => ⟨S8x2048x1024, .f32⟩
  | 57 => ⟨S8x2048x1024, .f32⟩
  | 58 => ⟨S8x2048x512, .f32⟩
  | 59 => ⟨S8x2048x8x64, .f32⟩
  | 60 => ⟨S8x2048x256, .f32⟩
  | 61 => ⟨S8x2048x2x128, .f32⟩
  | 62 => ⟨S8x2048x256, .f32⟩
  | 63 => ⟨S8x2048x2x128, .f32⟩
  | 64 => ⟨S1x1x8, .f32⟩
  | 65 => ⟨S8x2048x8, .f32⟩
  | 66 => ⟨S8x2048x8, .f32⟩
  | 67 => ⟨S_, .f32⟩
  | 68 => ⟨S8x2048x8, .f32⟩
  | 69 => ⟨S8x2048x8, .f32⟩
  | 70 => ⟨S8x2048x8, .f32⟩
  | 71 => ⟨S8x2048x8, .f32⟩
  | 72 => ⟨S8x2048x8, .i1⟩
  | 73 => ⟨S8x2048x8, .f32⟩
  | 74 => ⟨S8x2048x8, .f32⟩
  | 75 => ⟨S8x2048x8, .f32⟩
  | 76 => ⟨S8x2048x8, .f32⟩
  | 77 => ⟨S8x2048x8, .f32⟩
  | 78 => ⟨S8x2048x8, .f32⟩
  | 79 => ⟨S8x2048x8, .f32⟩
  | 80 => ⟨S8x2048x8, .f32⟩
  | 81 => ⟨S8, .f32⟩
  | 82 => ⟨S8, .f32⟩
  | 83 => ⟨S8x2048x8x1, .f32⟩
  | 84 => ⟨S8x2048x8x64, .f32⟩
  | 85 => ⟨S8x2048x8x64, .f32⟩
  | 86 => ⟨S1x1x8, .f32⟩
  | 87 => ⟨S8x2048x8, .f32⟩
  | 88 => ⟨S8x2048x8, .f32⟩
  | 89 => ⟨S8x16x128x2x4x64, .f32⟩
  | 90 => ⟨S8x16x128x2x4, .f32⟩
  | 91 => ⟨S8x2x4x16x128, .f32⟩
  | 92 => ⟨S8x16x128x2x128, .f32⟩
  | 93 => ⟨S8x16x128x2x128, .f32⟩
  | 94 => ⟨S_, .f32⟩
  | 95 => ⟨S_, .f32⟩
  | 96 => ⟨S8x2x4x16x128, .f32⟩
  | 97 => ⟨S_, .i1⟩
  | 98 => ⟨S128x128, .i1⟩
  | 99 => ⟨S128x128, .i32⟩
  | 100 => ⟨S_, .i32⟩
  | 101 => ⟨S128x128, .i32⟩
  | 102 => ⟨S128x128, .i32⟩
  | 103 => ⟨S128x128, .i32⟩
  | 104 => ⟨S128x128, .i1⟩
  | 105 => ⟨S_, .i1⟩
  | 106 => ⟨S128x128, .i1⟩
  | 107 => ⟨S128x128, .i1⟩
  | 108 => ⟨S8x2x4x16x128x1, .f32⟩
  | 109 => ⟨S8x2x4x16x1x128, .f32⟩
  | 110 => ⟨S8x2x4x16x128x128, .f32⟩
  | 111 => ⟨S8x2x4x16x128x128, .f32⟩
  | 112 => ⟨S8x2x4x16x128x128, .f32⟩
  | 113 => ⟨S_, .f32⟩
  | 114 => ⟨S_, .f32⟩
  | 115 => ⟨S8x2x4x16x128x128, .i1⟩
  | 116 => ⟨S8x2x4x16x128x128, .f32⟩
  | 117 => ⟨S8x2x4x16x128x128, .f32⟩
  | 118 => ⟨S8x2x4x16x128x128, .f32⟩
  | 119 => ⟨S8x2x16x128x128, .f32⟩
  | 120 => ⟨S8x2x1x16x128x128, .f32⟩
  | 121 => ⟨S8x2x4x16x128x128, .f32⟩
  | 122 => ⟨S8x2x4x16x128x128, .f32⟩
  | 123 => ⟨S8x16x2x4x64x128, .f32⟩
  | 124 => ⟨S8x16x128x2x4x64, .f32⟩
  | 125 => ⟨S8x2x4x16x1, .f32⟩
  | 126 => ⟨S8x2x4x16x128, .f32⟩
  | 127 => ⟨S8x2x4x16x128, .f32⟩
  | _ => ⟨S16384x1024, .f32⟩

abbrev hbmTy0_1 (i : Nat) : BufTy := match i % 128 with
  | 0 => ⟨S8x2x4x16x128, .f32⟩
  | 1 => ⟨S8x16x128x2x4, .f32⟩
  | 2 => ⟨S8x16x128x2x4x1, .f32⟩
  | 3 => ⟨S8x16x128x2x4x64, .f32⟩
  | 4 => ⟨S8x16x128x2x4x64, .f32⟩
  | 5 => ⟨S8x16x2x4x64x128, .f32⟩
  | 6 => ⟨S8x2x4x16x1, .f32⟩
  | 7 => ⟨S8x2x4x16, .f32⟩
  | 8 => ⟨S8x2x4x16, .f32⟩
  | 9 => ⟨S_, .f32⟩
  | 10 => ⟨S8x2x4x64x128, .f32⟩
  | 11 => ⟨S16x8x2x4x64x128, .f32⟩
  | 12 => ⟨S16x8x2x4, .f32⟩
  | 13 => ⟨S0x8x2x4x64x128, .f32⟩
  | 14 => ⟨S16x8x2x4x64x128, .f32⟩
  | 15 => ⟨S0x8x2x4, .f32⟩
  | 16 => ⟨S16x8x2x4, .f32⟩
  | 17 => ⟨S_, .f32⟩
  | 18 => ⟨S0x8x2x4x64x128, .f32⟩
  | 19 => ⟨S1x8x2x4x64x128, .f32⟩
  | 20 => ⟨S8x2x4x64x128, .f32⟩
  | 21 => ⟨S1x8x2x4, .f32⟩
  | 22 => ⟨S8x2x4, .f32⟩
  | 23 => ⟨S8x2x4x1x1, .f32⟩
  | 24 => ⟨S8x2x4x64x128, .f32⟩
  | 25 => ⟨S8x2x4x64x128, .f32⟩
  | 26 => ⟨S8x2x4x64x128, .f32⟩
  | 27 => ⟨S1x8x2x4x64x128, .f32⟩
  | 28 => ⟨S8x2x4x64x128, .f32⟩
  | 29 => ⟨S1x8x2x4, .f32⟩
  | 30 => ⟨S8x2x4, .f32⟩
  | 31 => ⟨S8x2x4x1x1, .f32⟩
  | 32 => ⟨S8x2x4x64x128, .f32⟩
  | 33 => ⟨S8x2x4x64x128, .f32⟩
  | 34 => ⟨S8x2x4x64x128, .f32⟩
  | 35 => ⟨S1x8x2x4x64x128, .f32⟩
  | 36 => ⟨S8x2x4x64x128, .f32⟩
  | 37 => ⟨S1x8x2x4, .f32⟩
  | 38 => ⟨S8x2x4, .f32⟩
  | 39 => ⟨S8x2x4x1x1, .f32⟩
  | 40 => ⟨S8x2x4x64x128, .f32⟩
  | 41 => ⟨S8x2x4x64x128, .f32⟩
  | 42 => ⟨S8x2x4x64x128, .f32⟩
  | 43 => ⟨S1x8x2x4x64x128, .f32⟩
  | 44 => ⟨S8x2x4x64x128, .f32⟩
  | 45 => ⟨S1x8x2x4, .f32⟩
  | 46 => ⟨S8x2x4, .f32⟩
  | 47 => ⟨S8x2x4x1x1, .f32⟩
  | 48 => ⟨S8x2x4x64x128, .f32⟩
  | 49 => ⟨S8x2x4x64x128, .f32⟩
  | 50 => ⟨S8x2x4x64x128, .f32⟩
  | 51 => ⟨S1x8x2x4x64x128, .f32⟩
  | 52 => ⟨S8x2x4x64x128, .f32⟩
  | 53 => ⟨S1x8x2x4, .f32⟩
  | 54 => ⟨S8x2x4, .f32⟩
  | 55 => ⟨S8x2x4x1x1, .f32⟩
  | 56 => ⟨S8x2x4x64x128, .f32⟩
  | 57 => ⟨S8x2x4x64x128, .f32⟩
  | 58 => ⟨S8x2x4x64x128, .f32⟩
  | 59 => ⟨S1x8x2x4x64x128, .f32⟩
  | 60 => ⟨S8x2x4x64x128, .f32⟩
  | 61 => ⟨S1x8x2x4, .f32⟩
  | 62 => ⟨S8x2x4, .f32⟩
  | 63 => ⟨S8x2x4x1x1, .f32⟩
  | 64 => ⟨S8x2x4x64x128, .f32⟩
  | 65 => ⟨S8x2x4x64x128, .f32⟩
  | 66 => ⟨S8x2x4x64x128, .f32⟩
  | 67 => ⟨S1x8x2x4x64x128, .f32⟩
  | 68 => ⟨S8x2x4x64x128, .f32⟩
  | 69 => ⟨S1x8x2x4, .f32⟩
  | 70 => ⟨S8x2x4, .f32⟩
  | 71 => ⟨S8x2x4x1x1, .f32⟩
  | 72 => ⟨S8x2x4x64x128, .f32⟩
  | 73 => ⟨S8x2x4x64x128, .f32⟩
  | 74 => ⟨S8x2x4x64x128, .f32⟩
  | 75 => ⟨S1x8x2x4x64x128, .f32⟩
  | 76 => ⟨S8x2x4x64x128, .f32⟩
  | 77 => ⟨S1x8x2x4, .f32⟩
  | 78 => ⟨S8x2x4, .f32⟩
  | 79 => ⟨S8x2x4x1x1, .f32⟩
  | 80 => ⟨S8x2x4x64x128, .f32⟩
  | 81 => ⟨S8x2x4x64x128, .f32⟩
  | 82 => ⟨S8x2x4x64x128, .f32⟩
  | 83 => ⟨S1x8x2x4x64x128, .f32⟩
  | 84 => ⟨S8x2x4x64x128, .f32⟩
  | 85 => ⟨S1x8x2x4, .f32⟩
  | 86 => ⟨S8x2x4, .f32⟩
  | 87 => ⟨S8x2x4x1x1, .f32⟩
  | 88 => ⟨S8x2x4x64x128, .f32⟩
  | 89 => ⟨S8x2x4x64x128, .f32⟩
  | 90 => ⟨S8x2x4x64x128, .f32⟩
  | 91 => ⟨S1x8x2x4x64x128, .f32⟩
  | 92 => ⟨S8x2x4x64x128, .f32⟩
  | 93 => ⟨S1x8x2x4, .f32⟩
  | 94 => ⟨S8x2x4, .f32⟩
  | 95 => ⟨S8x2x4x1x1, .f32⟩
  | 96 => ⟨S8x2x4x64x128, .f32⟩
  | 97 => ⟨S8x2x4x64x128, .f32⟩
  | 98 => ⟨S8x2x4x64x128, .f32⟩
  | 99 => ⟨S1x8x2x4x64x128, .f32⟩
  | 100 => ⟨S8x2x4x64x128, .f32⟩
  | 101 => ⟨S1x8x2x4, .f32⟩
  | 102 => ⟨S8x2x4, .f32⟩
  | 103 => ⟨S8x2x4x1x1, .f32⟩
  | 104 => ⟨S8x2x4x64x128, .f32⟩
  | 105 => ⟨S8x2x4x64x128, .f32⟩
  | 106 => ⟨S8x2x4x64x128, .f32⟩
  | 107 => ⟨S1x8x2x4x64x128, .f32⟩
  | 108 => ⟨S8x2x4x64x128, .f32⟩
  | 109 => ⟨S1x8x2x4, .f32⟩
  | 110 => ⟨S8x2x4, .f32⟩
  | 111 => ⟨S8x2x4x1x1, .f32⟩
  | 112 => ⟨S8x2x4x64x128, .f32⟩
  | 113 => ⟨S8x2x4x64x128, .f32⟩
  | 114 => ⟨S8x2x4x64x128, .f32⟩
  | 115 => ⟨S1x8x2x4x64x128, .f32⟩
  | 116 => ⟨S8x2x4x64x128, .f32⟩
  | 117 => ⟨S1x8x2x4, .f32⟩
  | 118 => ⟨S8x2x4, .f32⟩
  | 119 => ⟨S8x2x4x1x1, .f32⟩
  | 120 => ⟨S8x2x4x64x128, .f32⟩
  | 121 => ⟨S8x2x4x64x128, .f32⟩
  | 122 => ⟨S8x2x4x64x128, .f32⟩
  | 123 => ⟨S1x8x2x4x64x128, .f32⟩
  | 124 => ⟨S8x2x4x64x128, .f32⟩
  | 125 => ⟨S1x8x2x4, .f32⟩
  | 126 => ⟨S8x2x4, .f32⟩
  | 127 => ⟨S8x2x4x1x1, .f32⟩
  | _ => ⟨S16384x1024, .f32⟩

abbrev hbmTy0_2 (i : Nat) : BufTy := match i % 128 with
  | 0 => ⟨S8x2x4x64x128, .f32⟩
  | 1 => ⟨S8x2x4x64x128, .f32⟩
  | 2 => ⟨S8x2x4x64x128, .f32⟩
  | 3 => ⟨S1x8x2x4x64x128, .f32⟩
  | 4 => ⟨S8x2x4x64x128, .f32⟩
  | 5 => ⟨S1x8x2x4, .f32⟩
  | 6 => ⟨S8x2x4, .f32⟩
  | 7 => ⟨S8x2x4x1x1, .f32⟩
  | 8 => ⟨S8x2x4x64x128, .f32⟩
  | 9 => ⟨S8x2x4x64x128, .f32⟩
  | 10 => ⟨S8x2x4x64x128, .f32⟩
  | 11 => ⟨S1x8x2x4x64x128, .f32⟩
  | 12 => ⟨S8x2x4x64x128, .f32⟩
  | 13 => ⟨S1x8x2x4, .f32⟩
  | 14 => ⟨S8x2x4, .f32⟩
  | 15 => ⟨S8x2x4x1x1, .f32⟩
  | 16 => ⟨S8x2x4x64x128, .f32⟩
  | 17 => ⟨S8x2x4x64x128, .f32⟩
  | 18 => ⟨S8x2x4x64x128, .f32⟩
  | 19 => ⟨S1x8x2x4x64x128, .f32⟩
  | 20 => ⟨S1x8x2x4x64x128, .f32⟩
  | 21 => ⟨S1x8x2x4x64x128, .f32⟩
  | 22 => ⟨S1x8x2x4x64x128, .f32⟩
  | 23 => ⟨S1x8x2x4x64x128, .f32⟩
  | 24 => ⟨S1x8x2x4x64x128, .f32⟩
  | 25 => ⟨S1x8x2x4x64x128, .f32⟩
  | 26 => ⟨S1x8x2x4x64x128, .f32⟩
  | 27 => ⟨S1x8x2x4x64x128, .f32⟩
  | 28 => ⟨S1x8x2x4x64x128, .f32⟩
  | 29 => ⟨S1x8x2x4x64x128, .f32⟩
  | 30 => ⟨S1x8x2x4x64x128, .f32⟩
  | 31 => ⟨S1x8x2x4x64x128, .f32⟩
  | 32 => ⟨S1x8x2x4x64x128, .f32⟩
  | 33 => ⟨S1x8x2x4x64x128, .f32⟩
  | 34 => ⟨S1x8x2x4x64x128, .f32⟩
  | 35 => ⟨S16x8x2x4x64x128, .f32⟩
  | 36 => ⟨S16x8x2x4x64x128, .f32⟩
  | 37 => ⟨S8x16x2x4x64x128, .f32⟩
  | 38 => ⟨S8x16x2x4x64x128, .f32⟩
  | 39 => ⟨S8x16x128x2x4x64, .f32⟩
  | 40 => ⟨S8x2x4x16x128, .f32⟩
  | 41 => ⟨S8x16x128x2x4, .f32⟩
  | 42 => ⟨S8x16x128x2x4x1, .f32⟩
  | 43 => ⟨S8x16x128x2x4x64, .f32⟩
  | 44 => ⟨S8x16x128x2x4x64, .f32⟩
  | 45 => ⟨S8x16x128x2x4x64, .f32⟩
  | 46 => ⟨S8x2048x8x64, .f32⟩
  | 47 => ⟨S8x1, .f32⟩
  | 48 => ⟨S1x1x8x1, .f32⟩
  | 49 => ⟨S8x2048x8x64, .f32⟩
  | 50 => ⟨S8x2048x8x64, .f32⟩
  | 51 => ⟨S8x2048x8x64, .f32⟩
  | 52 => ⟨S8x2048x512, .f32⟩
  | 53 => ⟨S8x2048x512, .f32⟩
  | 54 => ⟨S8x2048x512, .f32⟩
  | 55 => ⟨S_, .f32⟩
  | 56 => ⟨S8x2048x512, .f32⟩
  | 57 => ⟨S8x2048x512, .f32⟩
  | 58 => ⟨S_, .f32⟩
  | 59 => ⟨S8x2048x512, .f32⟩
  | 60 => ⟨S8x2048x512, .f32⟩
  | 61 => ⟨S8x2048x512, .f32⟩
  | 62 => ⟨S8x2048x512, .f32⟩
  | 63 => ⟨S8x2048x512, .f32⟩
  | 64 => ⟨S_, .f32⟩
  | 65 => ⟨S8x2048, .f32⟩
  | 66 => ⟨S8x2048x1, .f32⟩
  | 67 => ⟨S_, .f32⟩
  | 68 => ⟨S8x2048x1, .f32⟩
  | 69 => ⟨S8x2048x1, .f32⟩
  | 70 => ⟨S_, .f32⟩
  | 71 => ⟨S8x2048x1, .f32⟩
  | 72 => ⟨S8x2048x1, .f32⟩
  | 73 => ⟨S8x2048x1, .f32⟩
  | 74 => ⟨S8x2048x512, .f32⟩
  | 75 => ⟨S8x2048x512, .f32⟩
  | 76 => ⟨S1x1x512, .f32⟩
  | 77 => ⟨S8x2048x512, .f32⟩
  | 78 => ⟨S8x2048x512, .f32⟩
  | 79 => ⟨S16384x512, .f32⟩
  | _ => ⟨S16384x1024, .f32⟩

abbrev hbmTy (i : Nat) : BufTy := match i / 128 with
  | 0 => hbmTy0_0 i
  | 1 => hbmTy0_1 i
  | 2 => hbmTy0_2 i
  | _ => ⟨S16384x1024, .f32⟩

abbrev bufTy : (tb : Table) → Fin (tcTables nBuf tb) → BufTy
  | .hbm, ⟨i, _⟩ => hbmTy i
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_c : Ref sig .tc := ⟨.hbm, 13, rfl⟩
abbrev main_call0_v0 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_call1_v0 : Ref sig .tc := ⟨.hbm, 49, rfl⟩
abbrev main_call1_v1 : Ref sig .tc := ⟨.hbm, 50, rfl⟩
abbrev main_call1_cst : Ref sig .tc := ⟨.hbm, 51, rfl⟩
abbrev main_call1_v2 : Ref sig .tc := ⟨.hbm, 52, rfl⟩
abbrev main_call1_v3 : Ref sig .tc := ⟨.hbm, 53, rfl⟩
abbrev main_call1_cst_0 : Ref sig .tc := ⟨.hbm, 54, rfl⟩
abbrev main_call1_v4 : Ref sig .tc := ⟨.hbm, 55, rfl⟩
abbrev main_call1_v5 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_call2_cst : Ref sig .tc := ⟨.hbm, 67, rfl⟩
abbrev main_call2_v0 : Ref sig .tc := ⟨.hbm, 68, rfl⟩
abbrev main_call2_v1 : Ref sig .tc := ⟨.hbm, 69, rfl⟩
abbrev main_call2_v2 : Ref sig .tc := ⟨.hbm, 70, rfl⟩
abbrev main_call2_v3 : Ref sig .tc := ⟨.hbm, 71, rfl⟩
abbrev main_call2_v4 : Ref sig .tc := ⟨.hbm, 72, rfl⟩
abbrev main_call2_v5 : Ref sig .tc := ⟨.hbm, 73, rfl⟩
abbrev main_call2_v6 : Ref sig .tc := ⟨.hbm, 74, rfl⟩
abbrev main_call2_v7 : Ref sig .tc := ⟨.hbm, 75, rfl⟩
abbrev main_call2_v8 : Ref sig .tc := ⟨.hbm, 76, rfl⟩
abbrev main_call2_v9 : Ref sig .tc := ⟨.hbm, 77, rfl⟩
abbrev main_call2_v10 : Ref sig .tc := ⟨.hbm, 78, rfl⟩
abbrev main_call2_v11 : Ref sig .tc := ⟨.hbm, 79, rfl⟩
abbrev main_v47 : Ref sig .tc := ⟨.hbm, 80, rfl⟩
abbrev main_v48 : Ref sig .tc := ⟨.hbm, 81, rfl⟩
abbrev main_v49 : Ref sig .tc := ⟨.hbm, 82, rfl⟩
abbrev main_v50 : Ref sig .tc := ⟨.hbm, 83, rfl⟩
abbrev main_v51 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_call3_call0_cst : Ref sig .tc := ⟨.hbm, 94, rfl⟩
abbrev main_call3_call0_v0 : Ref sig .tc := ⟨.hbm, 95, rfl⟩
abbrev main_v61 : Ref sig .tc := ⟨.hbm, 96, rfl⟩
abbrev main_c_0 : Ref sig .tc := ⟨.hbm, 97, rfl⟩
abbrev main_v62 : Ref sig .tc := ⟨.hbm, 98, rfl⟩
abbrev main_call4_v0 : Ref sig .tc := ⟨.hbm, 99, rfl⟩
abbrev main_call4_c : Ref sig .tc := ⟨.hbm, 100, rfl⟩
abbrev main_call4_v1 : Ref sig .tc := ⟨.hbm, 101, rfl⟩
abbrev main_call4_v2 : Ref sig .tc := ⟨.hbm, 102, rfl⟩
abbrev main_call4_v3 : Ref sig .tc := ⟨.hbm, 103, rfl⟩
abbrev main_call4_v4 : Ref sig .tc := ⟨.hbm, 104, rfl⟩
abbrev main_call4_c_0 : Ref sig .tc := ⟨.hbm, 105, rfl⟩
abbrev main_call4_v5 : Ref sig .tc := ⟨.hbm, 106, rfl⟩
abbrev main_v63 : Ref sig .tc := ⟨.hbm, 107, rfl⟩
abbrev main_v64 : Ref sig .tc := ⟨.hbm, 108, rfl⟩
abbrev main_v65 : Ref sig .tc := ⟨.hbm, 109, rfl⟩
abbrev main_v66 : Ref sig .tc := ⟨.hbm, 110, rfl⟩
abbrev main_v67 : Ref sig .tc := ⟨.hbm, 111, rfl⟩
abbrev main_v68 : Ref sig .tc := ⟨.hbm, 112, rfl⟩
abbrev main_cst_1 : Ref sig .tc := ⟨.hbm, 113, rfl⟩
abbrev main_call5_v0 : Ref sig .tc := ⟨.hbm, 114, rfl⟩
abbrev main_call5_v1 : Ref sig .tc := ⟨.hbm, 115, rfl⟩
abbrev main_call5_v2 : Ref sig .tc := ⟨.hbm, 116, rfl⟩
abbrev main_v69 : Ref sig .tc := ⟨.hbm, 117, rfl⟩
abbrev main_v70 : Ref sig .tc := ⟨.hbm, 118, rfl⟩
abbrev main_v71 : Ref sig .tc := ⟨.hbm, 119, rfl⟩
abbrev main_v72 : Ref sig .tc := ⟨.hbm, 120, rfl⟩
abbrev main_v73 : Ref sig .tc := ⟨.hbm, 121, rfl⟩
abbrev main_v74 : Ref sig .tc := ⟨.hbm, 122, rfl⟩
abbrev main_v75 : Ref sig .tc := ⟨.hbm, 123, rfl⟩
abbrev main_v76 : Ref sig .tc := ⟨.hbm, 124, rfl⟩
abbrev main_v77 : Ref sig .tc := ⟨.hbm, 125, rfl⟩
abbrev main_v78 : Ref sig .tc := ⟨.hbm, 126, rfl⟩
abbrev main_v79 : Ref sig .tc := ⟨.hbm, 127, rfl⟩
abbrev main_v80 : Ref sig .tc := ⟨.hbm, 128, rfl⟩
abbrev main_v81 : Ref sig .tc := ⟨.hbm, 129, rfl⟩
abbrev main_v82 : Ref sig .tc := ⟨.hbm, 130, rfl⟩
abbrev main_v83 : Ref sig .tc := ⟨.hbm, 131, rfl⟩
abbrev main_v84 : Ref sig .tc := ⟨.hbm, 132, rfl⟩
abbrev main_v85 : Ref sig .tc := ⟨.hbm, 133, rfl⟩
abbrev main_v86 : Ref sig .tc := ⟨.hbm, 134, rfl⟩
abbrev main_v87 : Ref sig .tc := ⟨.hbm, 135, rfl⟩
abbrev main_v88 : Ref sig .tc := ⟨.hbm, 136, rfl⟩
abbrev main_cst_2 : Ref sig .tc := ⟨.hbm, 137, rfl⟩
abbrev main_v89 : Ref sig .tc := ⟨.hbm, 138, rfl⟩
abbrev main_v90 : Ref sig .tc := ⟨.hbm, 139, rfl⟩
abbrev main_v91 : Ref sig .tc := ⟨.hbm, 140, rfl⟩
abbrev main_v92 : Ref sig .tc := ⟨.hbm, 141, rfl⟩
abbrev main_v93 : Ref sig .tc := ⟨.hbm, 142, rfl⟩
abbrev main_v94 : Ref sig .tc := ⟨.hbm, 143, rfl⟩
abbrev main_v95 : Ref sig .tc := ⟨.hbm, 144, rfl⟩
abbrev main_cst_3 : Ref sig .tc := ⟨.hbm, 145, rfl⟩
abbrev main_v96 : Ref sig .tc := ⟨.hbm, 146, rfl⟩
abbrev main_v97 : Ref sig .tc := ⟨.hbm, 147, rfl⟩
abbrev main_v98 : Ref sig .tc := ⟨.hbm, 148, rfl⟩
abbrev main_v99 : Ref sig .tc := ⟨.hbm, 149, rfl⟩
abbrev main_v100 : Ref sig .tc := ⟨.hbm, 150, rfl⟩
abbrev main_v101 : Ref sig .tc := ⟨.hbm, 151, rfl⟩
abbrev main_v102 : Ref sig .tc := ⟨.hbm, 152, rfl⟩
abbrev main_v103 : Ref sig .tc := ⟨.hbm, 153, rfl⟩
abbrev main_v104 : Ref sig .tc := ⟨.hbm, 154, rfl⟩
abbrev main_v105 : Ref sig .tc := ⟨.hbm, 155, rfl⟩
abbrev main_v106 : Ref sig .tc := ⟨.hbm, 156, rfl⟩
abbrev main_v107 : Ref sig .tc := ⟨.hbm, 157, rfl⟩
abbrev main_v108 : Ref sig .tc := ⟨.hbm, 158, rfl⟩
abbrev main_v109 : Ref sig .tc := ⟨.hbm, 159, rfl⟩
abbrev main_v110 : Ref sig .tc := ⟨.hbm, 160, rfl⟩
abbrev main_v111 : Ref sig .tc := ⟨.hbm, 161, rfl⟩
abbrev main_v112 : Ref sig .tc := ⟨.hbm, 162, rfl⟩
abbrev main_v113 : Ref sig .tc := ⟨.hbm, 163, rfl⟩
abbrev main_v114 : Ref sig .tc := ⟨.hbm, 164, rfl⟩
abbrev main_v115 : Ref sig .tc := ⟨.hbm, 165, rfl⟩
abbrev main_v116 : Ref sig .tc := ⟨.hbm, 166, rfl⟩
abbrev main_v117 : Ref sig .tc := ⟨.hbm, 167, rfl⟩
abbrev main_v118 : Ref sig .tc := ⟨.hbm, 168, rfl⟩
abbrev main_v119 : Ref sig .tc := ⟨.hbm, 169, rfl⟩
abbrev main_v120 : Ref sig .tc := ⟨.hbm, 170, rfl⟩
abbrev main_v121 : Ref sig .tc := ⟨.hbm, 171, rfl⟩
abbrev main_v122 : Ref sig .tc := ⟨.hbm, 172, rfl⟩
abbrev main_v123 : Ref sig .tc := ⟨.hbm, 173, rfl⟩
abbrev main_v124 : Ref sig .tc := ⟨.hbm, 174, rfl⟩
abbrev main_v125 : Ref sig .tc := ⟨.hbm, 175, rfl⟩
abbrev main_v126 : Ref sig .tc := ⟨.hbm, 176, rfl⟩
abbrev main_v127 : Ref sig .tc := ⟨.hbm, 177, rfl⟩
abbrev main_v128 : Ref sig .tc := ⟨.hbm, 178, rfl⟩
abbrev main_v129 : Ref sig .tc := ⟨.hbm, 179, rfl⟩
abbrev main_v130 : Ref sig .tc := ⟨.hbm, 180, rfl⟩
abbrev main_v131 : Ref sig .tc := ⟨.hbm, 181, rfl⟩
abbrev main_v132 : Ref sig .tc := ⟨.hbm, 182, rfl⟩
abbrev main_v133 : Ref sig .tc := ⟨.hbm, 183, rfl⟩
abbrev main_v134 : Ref sig .tc := ⟨.hbm, 184, rfl⟩
abbrev main_v135 : Ref sig .tc := ⟨.hbm, 185, rfl⟩
abbrev main_v136 : Ref sig .tc := ⟨.hbm, 186, rfl⟩
abbrev main_v137 : Ref sig .tc := ⟨.hbm, 187, rfl⟩
abbrev main_v138 : Ref sig .tc := ⟨.hbm, 188, rfl⟩
abbrev main_v139 : Ref sig .tc := ⟨.hbm, 189, rfl⟩
abbrev main_v140 : Ref sig .tc := ⟨.hbm, 190, rfl⟩
abbrev main_v141 : Ref sig .tc := ⟨.hbm, 191, rfl⟩
abbrev main_v142 : Ref sig .tc := ⟨.hbm, 192, rfl⟩
abbrev main_v143 : Ref sig .tc := ⟨.hbm, 193, rfl⟩
abbrev main_v144 : Ref sig .tc := ⟨.hbm, 194, rfl⟩
abbrev main_v145 : Ref sig .tc := ⟨.hbm, 195, rfl⟩
abbrev main_v146 : Ref sig .tc := ⟨.hbm, 196, rfl⟩
abbrev main_v147 : Ref sig .tc := ⟨.hbm, 197, rfl⟩
abbrev main_v148 : Ref sig .tc := ⟨.hbm, 198, rfl⟩
abbrev main_v149 : Ref sig .tc := ⟨.hbm, 199, rfl⟩
abbrev main_v150 : Ref sig .tc := ⟨.hbm, 200, rfl⟩
abbrev main_v151 : Ref sig .tc := ⟨.hbm, 201, rfl⟩
abbrev main_v152 : Ref sig .tc := ⟨.hbm, 202, rfl⟩
abbrev main_v153 : Ref sig .tc := ⟨.hbm, 203, rfl⟩
abbrev main_v154 : Ref sig .tc := ⟨.hbm, 204, rfl⟩
abbrev main_v155 : Ref sig .tc := ⟨.hbm, 205, rfl⟩
abbrev main_v156 : Ref sig .tc := ⟨.hbm, 206, rfl⟩
abbrev main_v157 : Ref sig .tc := ⟨.hbm, 207, rfl⟩
abbrev main_v158 : Ref sig .tc := ⟨.hbm, 208, rfl⟩
abbrev main_v159 : Ref sig .tc := ⟨.hbm, 209, rfl⟩
abbrev main_v160 : Ref sig .tc := ⟨.hbm, 210, rfl⟩
abbrev main_v161 : Ref sig .tc := ⟨.hbm, 211, rfl⟩
abbrev main_v162 : Ref sig .tc := ⟨.hbm, 212, rfl⟩
abbrev main_v163 : Ref sig .tc := ⟨.hbm, 213, rfl⟩
abbrev main_v164 : Ref sig .tc := ⟨.hbm, 214, rfl⟩
abbrev main_v165 : Ref sig .tc := ⟨.hbm, 215, rfl⟩
abbrev main_v166 : Ref sig .tc := ⟨.hbm, 216, rfl⟩
abbrev main_v167 : Ref sig .tc := ⟨.hbm, 217, rfl⟩
abbrev main_v168 : Ref sig .tc := ⟨.hbm, 218, rfl⟩
abbrev main_v169 : Ref sig .tc := ⟨.hbm, 219, rfl⟩
abbrev main_v170 : Ref sig .tc := ⟨.hbm, 220, rfl⟩
abbrev main_v171 : Ref sig .tc := ⟨.hbm, 221, rfl⟩
abbrev main_v172 : Ref sig .tc := ⟨.hbm, 222, rfl⟩
abbrev main_v173 : Ref sig .tc := ⟨.hbm, 223, rfl⟩
abbrev main_v174 : Ref sig .tc := ⟨.hbm, 224, rfl⟩
abbrev main_v175 : Ref sig .tc := ⟨.hbm, 225, rfl⟩
abbrev main_v176 : Ref sig .tc := ⟨.hbm, 226, rfl⟩
abbrev main_v177 : Ref sig .tc := ⟨.hbm, 227, rfl⟩
abbrev main_v178 : Ref sig .tc := ⟨.hbm, 228, rfl⟩
abbrev main_v179 : Ref sig .tc := ⟨.hbm, 229, rfl⟩
abbrev main_v180 : Ref sig .tc := ⟨.hbm, 230, rfl⟩
abbrev main_v181 : Ref sig .tc := ⟨.hbm, 231, rfl⟩
abbrev main_v182 : Ref sig .tc := ⟨.hbm, 232, rfl⟩
abbrev main_v183 : Ref sig .tc := ⟨.hbm, 233, rfl⟩
abbrev main_v184 : Ref sig .tc := ⟨.hbm, 234, rfl⟩
abbrev main_v185 : Ref sig .tc := ⟨.hbm, 235, rfl⟩
abbrev main_v186 : Ref sig .tc := ⟨.hbm, 236, rfl⟩
abbrev main_v187 : Ref sig .tc := ⟨.hbm, 237, rfl⟩
abbrev main_v188 : Ref sig .tc := ⟨.hbm, 238, rfl⟩
abbrev main_v189 : Ref sig .tc := ⟨.hbm, 239, rfl⟩
abbrev main_v190 : Ref sig .tc := ⟨.hbm, 240, rfl⟩
abbrev main_v191 : Ref sig .tc := ⟨.hbm, 241, rfl⟩
abbrev main_v192 : Ref sig .tc := ⟨.hbm, 242, rfl⟩
abbrev main_v193 : Ref sig .tc := ⟨.hbm, 243, rfl⟩
abbrev main_v194 : Ref sig .tc := ⟨.hbm, 244, rfl⟩
abbrev main_v195 : Ref sig .tc := ⟨.hbm, 245, rfl⟩
abbrev main_v196 : Ref sig .tc := ⟨.hbm, 246, rfl⟩
abbrev main_v197 : Ref sig .tc := ⟨.hbm, 247, rfl⟩
abbrev main_v198 : Ref sig .tc := ⟨.hbm, 248, rfl⟩
abbrev main_v199 : Ref sig .tc := ⟨.hbm, 249, rfl⟩
abbrev main_v200 : Ref sig .tc := ⟨.hbm, 250, rfl⟩
abbrev main_v201 : Ref sig .tc := ⟨.hbm, 251, rfl⟩
abbrev main_v202 : Ref sig .tc := ⟨.hbm, 252, rfl⟩
abbrev main_v203 : Ref sig .tc := ⟨.hbm, 253, rfl⟩
abbrev main_v204 : Ref sig .tc := ⟨.hbm, 254, rfl⟩
abbrev main_v205 : Ref sig .tc := ⟨.hbm, 255, rfl⟩
abbrev main_v206 : Ref sig .tc := ⟨.hbm, 256, rfl⟩
abbrev main_v207 : Ref sig .tc := ⟨.hbm, 257, rfl⟩
abbrev main_v208 : Ref sig .tc := ⟨.hbm, 258, rfl⟩
abbrev main_v209 : Ref sig .tc := ⟨.hbm, 259, rfl⟩
abbrev main_v210 : Ref sig .tc := ⟨.hbm, 260, rfl⟩
abbrev main_v211 : Ref sig .tc := ⟨.hbm, 261, rfl⟩
abbrev main_v212 : Ref sig .tc := ⟨.hbm, 262, rfl⟩
abbrev main_v213 : Ref sig .tc := ⟨.hbm, 263, rfl⟩
abbrev main_v214 : Ref sig .tc := ⟨.hbm, 264, rfl⟩
abbrev main_v215 : Ref sig .tc := ⟨.hbm, 265, rfl⟩
abbrev main_v216 : Ref sig .tc := ⟨.hbm, 266, rfl⟩
abbrev main_v217 : Ref sig .tc := ⟨.hbm, 267, rfl⟩
abbrev main_v218 : Ref sig .tc := ⟨.hbm, 268, rfl⟩
abbrev main_v219 : Ref sig .tc := ⟨.hbm, 269, rfl⟩
abbrev main_v220 : Ref sig .tc := ⟨.hbm, 270, rfl⟩
abbrev main_v221 : Ref sig .tc := ⟨.hbm, 271, rfl⟩
abbrev main_v222 : Ref sig .tc := ⟨.hbm, 272, rfl⟩
abbrev main_v223 : Ref sig .tc := ⟨.hbm, 273, rfl⟩
abbrev main_v224 : Ref sig .tc := ⟨.hbm, 274, rfl⟩
abbrev main_v225 : Ref sig .tc := ⟨.hbm, 275, rfl⟩
abbrev main_v226 : Ref sig .tc := ⟨.hbm, 276, rfl⟩
abbrev main_v227 : Ref sig .tc := ⟨.hbm, 277, rfl⟩
abbrev main_v228 : Ref sig .tc := ⟨.hbm, 278, rfl⟩
abbrev main_v229 : Ref sig .tc := ⟨.hbm, 279, rfl⟩
abbrev main_v230 : Ref sig .tc := ⟨.hbm, 280, rfl⟩
abbrev main_v231 : Ref sig .tc := ⟨.hbm, 281, rfl⟩
abbrev main_v232 : Ref sig .tc := ⟨.hbm, 282, rfl⟩
abbrev main_v233 : Ref sig .tc := ⟨.hbm, 283, rfl⟩
abbrev main_v234 : Ref sig .tc := ⟨.hbm, 284, rfl⟩
abbrev main_v235 : Ref sig .tc := ⟨.hbm, 285, rfl⟩
abbrev main_v236 : Ref sig .tc := ⟨.hbm, 286, rfl⟩
abbrev main_v237 : Ref sig .tc := ⟨.hbm, 287, rfl⟩
abbrev main_v238 : Ref sig .tc := ⟨.hbm, 288, rfl⟩
abbrev main_v239 : Ref sig .tc := ⟨.hbm, 289, rfl⟩
abbrev main_v240 : Ref sig .tc := ⟨.hbm, 290, rfl⟩
abbrev main_v241 : Ref sig .tc := ⟨.hbm, 291, rfl⟩
abbrev main_v242 : Ref sig .tc := ⟨.hbm, 292, rfl⟩
abbrev main_v243 : Ref sig .tc := ⟨.hbm, 293, rfl⟩
abbrev main_v244 : Ref sig .tc := ⟨.hbm, 294, rfl⟩
abbrev main_v245 : Ref sig .tc := ⟨.hbm, 295, rfl⟩
abbrev main_v246 : Ref sig .tc := ⟨.hbm, 296, rfl⟩
abbrev main_v247 : Ref sig .tc := ⟨.hbm, 297, rfl⟩
abbrev main_v248 : Ref sig .tc := ⟨.hbm, 298, rfl⟩
abbrev main_v249 : Ref sig .tc := ⟨.hbm, 299, rfl⟩
abbrev main_v250 : Ref sig .tc := ⟨.hbm, 300, rfl⟩
abbrev main_v251 : Ref sig .tc := ⟨.hbm, 301, rfl⟩
abbrev main_v252 : Ref sig .tc := ⟨.hbm, 302, rfl⟩
abbrev main_v253 : Ref sig .tc := ⟨.hbm, 303, rfl⟩
abbrev main_v254 : Ref sig .tc := ⟨.hbm, 304, rfl⟩
abbrev main_v255 : Ref sig .tc := ⟨.hbm, 305, rfl⟩
abbrev main_v256 : Ref sig .tc := ⟨.hbm, 306, rfl⟩
abbrev main_v257 : Ref sig .tc := ⟨.hbm, 307, rfl⟩
abbrev main_v258 : Ref sig .tc := ⟨.hbm, 308, rfl⟩
abbrev main_call6_v0 : Ref sig .tc := ⟨.hbm, 309, rfl⟩
abbrev main_call6_v1 : Ref sig .tc := ⟨.hbm, 310, rfl⟩
abbrev main_call6_cst : Ref sig .tc := ⟨.hbm, 311, rfl⟩
abbrev main_call6_v2 : Ref sig .tc := ⟨.hbm, 312, rfl⟩
abbrev main_call6_v3 : Ref sig .tc := ⟨.hbm, 313, rfl⟩
abbrev main_call6_cst_0 : Ref sig .tc := ⟨.hbm, 314, rfl⟩
abbrev main_call6_v4 : Ref sig .tc := ⟨.hbm, 315, rfl⟩
abbrev main_call6_v5 : Ref sig .tc := ⟨.hbm, 316, rfl⟩
abbrev main_v259 : Ref sig .tc := ⟨.hbm, 317, rfl⟩
abbrev main_v260 : Ref sig .tc := ⟨.hbm, 318, rfl⟩
abbrev main_v261 : Ref sig .tc := ⟨.hbm, 319, rfl⟩
abbrev main_cst_4 : Ref sig .tc := ⟨.hbm, 320, rfl⟩
abbrev main_v262 : Ref sig .tc := ⟨.hbm, 321, rfl⟩
abbrev main_v263 : Ref sig .tc := ⟨.hbm, 322, rfl⟩
abbrev main_cst_5 : Ref sig .tc := ⟨.hbm, 323, rfl⟩
abbrev main_v264 : Ref sig .tc := ⟨.hbm, 324, rfl⟩
abbrev main_v265 : Ref sig .tc := ⟨.hbm, 325, rfl⟩
abbrev main_cst_6 : Ref sig .tc := ⟨.hbm, 326, rfl⟩
abbrev main_v266 : Ref sig .tc := ⟨.hbm, 327, rfl⟩
abbrev main_v267 : Ref sig .tc := ⟨.hbm, 328, rfl⟩
abbrev main_v268 : Ref sig .tc := ⟨.hbm, 329, rfl⟩
abbrev main_v269 : Ref sig .tc := ⟨.hbm, 330, rfl⟩
abbrev main_v270 : Ref sig .tc := ⟨.hbm, 331, rfl⟩
abbrev main_v271 : Ref sig .tc := ⟨.hbm, 332, rfl⟩
abbrev main_v272 : Ref sig .tc := ⟨.hbm, 333, rfl⟩
abbrev main_v273 : Ref sig .tc := ⟨.hbm, 334, rfl⟩
abbrev main_v274 : Ref sig .tc := ⟨.hbm, 335, rfl⟩

abbrev nD : Nat := 1
abbrev τ : Topo := Topo.v7x

variable {F : FTy → Type} [FloatOps F]
-- ==== Proof.FfnValue.lean ====
/- The feed-forward call: what one grid point stores, and the result array. -/
module

public import proofs.«01_k».proof.Proof.Gen.FfnIdeal.Value
public import proofs.«01_k».proof.Proof.Gen.FfnRefIdeal.Run
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.FfnIdeal.Value

open Cert.FfnIdeal Cert.FfnIdeal.Gen

variable (m : (ℓ : Loc nD τ sig) → Buf (Elt Ideal) ℓ)

/-- The blocks each grid point reads and writes, window by window. -/
theorem idx : ∀ t : Fin cfg0.N, win0_0.index t = ![t.val, 0] ∧ win0_1.index t = ![0, 0] ∧ win0_2.index t = ![0, 0] ∧ win0_3.index t = ![0, 0] ∧ win0_4.index t = ![0, 0] ∧ win0_5.index t = ![0, 0] ∧ win0_6.index t = ![t.val, 0] :=
  (by decide +kernel : ∀ t : Fin grid0.N, _)

/-- The hidden layer of one block of rows: the gated unit of the two projections. -/
def hidden (X : Vec Ideal S512x1024 .bf16) (A B : Vec Ideal S1024x2816 .bf16) : Vec Ideal S512x2816 .bf16 := fun y =>
  ((∑ k : Fin 1024, (X (ix2 (y 0) k) : EReal) * A (ix2 k (y 1))) * Ideal.logistic (∑ k : Fin 1024, (X (ix2 (y 0) k) : EReal) * A (ix2 k (y 1))) *
    (∑ k : Fin 1024, (X (ix2 (y 0) k) : EReal) * B (ix2 k (y 1))) : EReal)

/-- The six blocks of columns the kernel stores of the hidden layer, the last first. -/
abbrev pieces (X0 : Vec Ideal S512x1024 .f32) (X1 : Vec Ideal S1x1024 .f32) (A B : Vec Ideal S1024x2816 .bf16) :
    List (View.Piece (Elt Ideal) S512x2816 .bf16) :=
          [⟨Rect.unit ![0, 2560] ![512, 256] inb_S512x2816_S512x256_0_2560,
              k0_pay11 (k0_pay2 X0 X1)
                (View.ld A (Rect.unit ![0, 2560] ![1024, 256] inb_S1024x2816_S1024x256_0_2560))
                (View.ld B (Rect.unit ![0, 2560] ![1024, 256] inb_S1024x2816_S1024x256_0_2560))⟩,
            ⟨Rect.unit ![0, 2048] ![512, 512] inb_S512x2816_S512x512_0_2048,
              k0_pay10 (k0_pay2 X0 X1)
                (k0_pay9 (k0_pay2 X0 X1)
                  (View.ld A (Rect.unit ![0, 2048] ![1024, 512] inb_S1024x2816_S1024x512_0_2048)))
                (View.ld B (Rect.unit ![0, 2048] ![1024, 512] inb_S1024x2816_S1024x512_0_2048))⟩,
            ⟨Rect.unit ![0, 1536] ![512, 512] inb_S512x2816_S512x512_0_1536,
              k0_pay8 (k0_pay2 X0 X1)
                (View.ld A (Rect.unit ![0, 1536] ![1024, 512] inb_S1024x2816_S1024x512_0_1536))
                (View.ld B (Rect.unit ![0, 1536] ![1024, 512] inb_S1024x2816_S1024x512_0_1536))⟩,
            ⟨Rect.unit ![0, 1024] ![512, 512] inb_S512x2816_S512x512_0_1024,
              k0_pay7 (k0_pay2 X0 X1)
                (View.ld A (Rect.unit ![0, 1024] ![1024, 512] inb_S1024x2816_S1024x512_0_1024))
                (View.ld B (Rect.unit ![0, 1024] ![1024, 512] inb_S1024x2816_S1024x512_0_1024))⟩,
            ⟨Rect.unit ![0, 512] ![512, 512] inb_S512x2816_S512x512_0_512,
              k0_pay6
                (k0_pay4 X0 X1
                  (View.ld B (Rect.unit ![0, 512] ![1024, 512] inb_S1024x2816_S1024x512_0_512)))
                (k0_pay5 X0 X1
                  (View.ld A (Rect.unit ![0, 512] ![1024, 512] inb_S1024x2816_S1024x512_0_512)))⟩,
            ⟨Rect.unit ![0, 0] ![512, 512] inb_S512x2816_S512x512_0_0,
              k0_pay3 X0 X1
                (View.ld A (Rect.unit ![0, 0] ![1024, 512] inb_S1024x2816_S1024x512_0_0))
                (View.ld B (Rect.unit ![0, 0] ![1024, 512] inb_S1024x2816_S1024x512_0_0))⟩]

/-- The six column pieces written to the scratch cover it. -/
theorem pieces_cover (X0 : Vec Ideal S512x1024 .f32) (X1 : Vec Ideal S1x1024 .f32) (A B : Vec Ideal S1024x2816 .bf16) :
    ∀ y : S512x2816.Idx, ∃ p ∈ pieces X0 X1 A B, y ∈ p.1.set :=
  View.cover_of_tiledBy _ ![512, 256] (by sl_kernel_rfl)

/-- The hidden layer read back from the scratch buffer. -/
theorem scratch (X0 : Vec Ideal S512x1024 .f32) (X1 : Vec Ideal S1x1024 .f32) (A B : Vec Ideal S1024x2816 .bf16) :
    (View.whole cc0_scratch0).readCov (pieces X0 X1 A B)
          (Rect.unit ![0, 0] ![512, 2816] inb_S512x2816_S512x2816_0_0).toLoadRect = hidden (k0_pay2 X0 X1) A B := by
  rw [View.readCov_eq_canon']
  funext y
  have hy : (Rect.unit ![0, 0] ![512, 2816] inb_S512x2816_S512x2816_0_0).toLoadRect.idx y = y :=
    funext fun a => Fin.ext (by
      refine (Rect.idx_unit_val _ _ inb_S512x2816_S512x2816_0_0 y a).trans ?_
      fin_cases a <;> simp)
  rw [hy]
  have hc := pieces_cover X0 X1 A B y
  canon_tiles x h using hc
  all_goals
    pointwise [k0_pay3, k0_pay4, k0_pay5, k0_pay6, k0_pay7, k0_pay8, k0_pay9, k0_pay10, k0_pay11, hidden]
    blk_point []

/-- A grid point's output entry is the reference's entry at its row. -/
theorem point (c : Dev nD) (mr : (ℓ : Loc Cert.FfnRefIdeal.nD Cert.FfnRefIdeal.τ Cert.FfnRefIdeal.sig) → Buf (Elt Ideal) ℓ)
    (c' : Dev Cert.FfnRefIdeal.nD)
    (h0 : m ((c : Thread nD τ).loc main_arg0) = mr ((c'.tc : Thread _ _).loc Cert.FfnRefIdeal.main_arg0))
    (h1 : m ((c : Thread nD τ).loc main_arg1) = mr ((c'.tc : Thread _ _).loc Cert.FfnRefIdeal.main_arg1))
    (h2 : m ((c : Thread nD τ).loc main_arg2) = mr ((c'.tc : Thread _ _).loc Cert.FfnRefIdeal.main_arg2))
    (h3 : m ((c : Thread nD τ).loc main_arg3) = mr ((c'.tc : Thread _ _).loc Cert.FfnRefIdeal.main_arg3))
    (h4 : m ((c : Thread nD τ).loc main_arg4) = mr ((c'.tc : Thread _ _).loc Cert.FfnRefIdeal.main_arg4))
    (h5 : m ((c : Thread nD τ).loc main_arg5) = mr ((c'.tc : Thread _ _).loc Cert.FfnRefIdeal.main_arg5)) :
    (dats m 0 c).arrAt 6 (cfgs 0).N = Cert.FfnRefIdeal.Value.res_main_v33 mr c' := by
  refine (dats m 0 c).arrAt_eq_of_covers 6 _ (by decide +kernel) fun t _ y => ?_
  blk_simp
  rw [after0_6]; unfold Gen.outsAt0; frame_out
  rw [scratch]
  unfold Cert.FfnRefIdeal.Value.res_main_v33
  rw [← h0, ← h1, ← h2, ← h3, ← h4, ← h5]
  pointwise [k0_pay1, k0_pay12, k0_pay2, hidden]
  simp only [Ideal.logistic]
  blk_point [iblk, V, idx t]

end Cert.FfnIdeal.Value
-- ==== Proof.FfnClaims.lean ====
module

public import proofs.«01_k».proof.Defs
public import proofs.«01_k».proof.Proof.Gen.Ffn
public import proofs.«01_k».proof.Proof.Gen.Ffn.Frame
public import proofs.«01_k».proof.Proof.Gen.FfnIdeal
public import proofs.«01_k».proof.Proof.Gen.FfnIdeal.Frame
public import proofs.«01_k».proof.Proof.Gen.FfnIdeal.Value
public import proofs.«01_k».proof.Proof.Gen.FfnRefIdeal
public import proofs.«01_k».proof.Proof.Gen.FfnRefIdeal.Run
public import proofs.«01_k».proof.Proof.FfnValue
public import Idealize.ShloMosaic.Adequacy
public import Idealize.ShloMosaic.Init

@[expose] public section

set_option maxRecDepth 16384
set_option maxHeartbeats 4000000

noncomputable section

namespace Cert.Proof

open Idealize.ShloMosaic Idealize.SL.Sem

/-- The feed-forward kernel runs to the end from every memory and leaves its arguments as they were. -/
theorem frame_Ffn [h : Cert.Ffn.Facts] : Cert.quiescent_Ffn (hFfn := h) :=
  fun m ρ _ => Cert.Ffn.Gen.frame m ρ

/-- So does the idealized feed-forward kernel. -/
theorem frame_FfnIdeal [h : Cert.FfnIdeal.Facts] : Cert.quiescent_FfnIdeal (hFfnIdeal := h) :=
  fun m ρ _ => Cert.FfnIdeal.Gen.frame m ρ

/-- So does the idealized feed-forward reference. -/
theorem frame_FfnRefIdeal [h : Cert.FfnRefIdeal.Facts] :
    Cert.quiescent_FfnRefIdeal (hFfnRefIdeal := h) :=
  fun m ρ _ => (θ_run (Cert.FfnRefIdeal.defs (F := Ideal)) _ _).mono
    (fun r h => ⟨fun c => (h c).2,
      Idealize.ShloMosaic.sem_eq_zero_of_no_sems (by decide) r.2⟩)
    (Cert.FfnRefIdeal.Value.run (F := Ideal) m ρ)

/-- The idealized feed-forward kernel is the kernel: no rule was applied. -/
theorem preserves_Ffn : Cert.preserves_Ffn_FfnIdeal := trivial

/-- At real values the feed-forward kernel returns what the reference returns. -/
theorem algebraic_Ffn [h : Cert.FfnIdeal.Facts] [h' : Cert.FfnRefIdeal.Facts] :
    Cert.algebraic_FfnIdeal_FfnRefIdeal (hFfnIdeal := h) (hFfnRefIdeal := h') := by
  intro m ρ m' ρ' _ hagree
  refine ⟨fun c => (Cert.FfnIdeal.Gen.dats (F := Ideal) m 0 c).arrAt 6 Cert.FfnIdeal.cfg0.N,
    (θ_run (Cert.FfnIdeal.defs (F := Ideal)) _ _).mono (fun r h c => ?_)
      (Cert.FfnIdeal.Value.run_blocks (F := Ideal) m ρ),
    (θ_run (Cert.FfnRefIdeal.defs (F := Ideal)) _ _).mono (fun r h c => ?_)
      (Cert.FfnRefIdeal.Value.run (F := Ideal) m' ρ')⟩
  · exact h c
  · obtain ⟨e0, e1, e2, e3, e4, e5⟩ := hagree c
    have q0 := Cert.FfnIdeal.Value.point m c m' c e0.symm e1.symm e2.symm e3.symm e4.symm e5.symm
    obtain ⟨r0, hk⟩ := h c
    exact ⟨r0.trans q0.symm, hk⟩

end Cert.Proof

end
-- ==== Proof.InprojRef.lean ====
/- The input projection's seven results, as the reference computes them. -/
module

public import proofs.«01_k».proof.Proof.Gen.InprojRefIdeal.Run
public import Idealize.ShloMosaic.Lib.Pipeline.ValueKit

@[expose] public section

set_option maxRecDepth 16384

noncomputable section

open Idealize.ShloMosaic Idealize.ShloMosaic.TcCoe Idealize.SL.Sem Idealize.ShloMosaic.StableHlo

namespace Cert.InprojRefIdeal.Value

open Cert.InprojRefIdeal Cert.InprojRefIdeal.Gen

variable (a0 : FVec Ideal S16384x1024 .f32) (a1 : FVec Ideal S1024 .f32) (a2 : FVec Ideal S1024x2568 .f32)

/-- Result 0 of the reference. -/
def out0 : FVec Ideal S16384x512 .f32 :=
  extractStridedSlice S16384x512 ![0, 0] (Host.dotGeneral dot_S16384x1024_S1024x2568_S16384x2568_1_0_0_1_n_n none (mulf (mulf a0 (broadcastInDim S16384x1024 ![0, 1] bcast_S16384x1_S16384x1024_0_1 (Host.rsqrt (addf (Host.divf (broadcastInDim S16384x1 ![0] bcast_S16384_S16384x1_0 (Host.reduceAdd (mulf a0 a0) (constant S_ .f32 0x00000000#32) reducesTo_S16384x1024_S16384_d1 h_S_)) (broadcastInDim S16384x1 ![] bcast_S_S16384x1 (constant S_ .f32 0x44800000#32))) (broadcastInDim S16384x1 ![] bcast_S_S16384x1 (constant S_ .f32 0x358637BD#32)))))) (broadcastInDim S16384x1024 ![0, 1] bcast_S1x1024_S16384x1024_0_1 (broadcastInDim S1x1024 ![1] bcast_S1024_S1x1024_1 a1))) a2) slices_S16384x2568_S16384x512_0_0

/-- Result 1 of the reference. -/
def out1 : FVec Ideal S16384x1024 .f32 :=
  extractStridedSlice S16384x1024 ![0, 512] (Host.dotGeneral dot_S16384x1024_S1024x2568_S16384x2568_1_0_0_1_n_n none (mulf (mulf a0 (broadcastInDim S16384x1024 ![0, 1] bcast_S16384x1_S16384x1024_0_1 (Host.rsqrt (addf (Host.divf (broadcastInDim S16384x1 ![0] bcast_S16384_S16384x1_0 (Host.reduceAdd (mulf a0 a0) (constant S_ .f32 0x00000000#32) reducesTo_S16384x1024_S16384_d1 h_S_)) (broadcastInDim S16384x1 ![] bcast_S_S16384x1 (constant S_ .f32 0x44800000#32))) (broadcastInDim S16384x1 ![] bcast_S_S16384x1 (constant S_ .f32 0x358637BD#32)))))) (broadcastInDim S16384x1024 ![0, 1] bcast_S1x1024_S16384x1024_0_1 (broadcastInDim S1x1024 ![1] bcast_S1024_S1x1024_1 a1))) a2) slices_S16384x2568_S16384x1024_0_512

/-- Result 2 of the reference. -/
def out2 : FVec Ideal S16384x256 .f32 :=
  extractStridedSlice S16384x256 ![0, 1544] (Host.dotGeneral dot_S16384x1024_S1024x2568_S16384x2568_1_0_0_1_n_n none (mulf (mulf a0 (broadcastInDim S16384x1024 ![0, 1] bcast_S16384x1_S16384x1024_0_1 (Host.rsqrt (addf (Host.divf (broadcastInDim S16384x1 ![0] bcast_S16384_S16384x1_0 (Host.reduceAdd (mulf a0 a0) (constant S_ .f32 0x00000000#32) reducesTo_S16384x1024_S16384_d1 h_S_)) (broadcastInDim S16384x1 ![] bcast_S_S16384x1 (constant S_ .f32 0x44800000#32))) (broadcastInDim S16384x1 ![] bcast_S_S16384x1 (constant S_ .f32 0x358637BD#32)))))) (broadcastInDim S16384x1024 ![0, 1] bcast_S1x1024_S16384x1024_0_1 (broadcastInDim S1x1024 ![1] bcast_S1024_S1x1024_1 a1))) a2) slices_S16384x2568_S16384x256_0_1544

/-- Result 3 of the reference. -/
def out3 : FVec Ideal S16384x256 .f32 :=
  extractStridedSlice S16384x256 ![0, 1800] (Host.dotGeneral dot_S16384x1024_S1024x2568_S16384x2568_1_0_0_1_n_n none (mulf (mulf a0 (broadcastInDim S16384x1024 ![0, 1] bcast_S16384x1_S16384x1024_0_1 (Host.rsqrt (addf (Host.divf (broadcastInDim S16384x1 ![0] bcast_S16384_S16384x1_0 (Host.reduceAdd (mulf a0 a0) (constant S_ .f32 0x00000000#32) reducesTo_S16384x1024_S16384_d1 h_S_)) (broadcastInDim S16384x1 ![] bcast_S_S16384x1 (constant S_ .f32 0x44800000#32))) (broadcastInDim S16384x1 ![] bcast_S_S16384x1 (constant S_ .f32 0x358637BD#32)))))) (broadcastInDim S16384x1024 ![0, 1] bcast_S1x1024_S16384x1024_0_1 (broadcastInDim S1x1024 ![1] bcast_S1024_S1x1024_1 a1))) a2) slices_S16384x2568_S16384x256_0_1800

/-- Result 4 of the reference. -/
def out4 : FVec Ideal S16384x256 .f32 :=
  extractStridedSlice S16384x256 ![0, 2056] (Host.dotGeneral dot_S16384x1024_S1024x2568_S16384x2568_1_0_0_1_n_n none (mulf (mulf a0 (broadcastInDim S16384x1024 ![0, 1] bcast_S16384x1_S16384x1024_0_1 (Host.rsqrt (addf (Host.divf (broadcastInDim S16384x1 ![0] bcast_S16384_S16384x1_0 (Host.reduceAdd (mulf a0 a0) (constant S_ .f32 0x00000000#32) reducesTo_S16384x1024_S16384_d1 h_S_)) (broadcastInDim S16384x1 ![] bcast_S_S16384x1 (constant S_ .f32 0x44800000#32))) (broadcastInDim S16384x1 ![] bcast_S_S16384x1 (constant S_ .f32 0x358637BD#32)))))) (broadcastInDim S16384x1024 ![0, 1] bcast_S1x1024_S16384x1024_0_1 (broadcastInDim S1x1024 ![1] bcast_S1024_S1x1024_1 a1))) a2) slices_S16384x2568_S16384x256_0_2056

/-- Result 5 of the reference. -/
def out5 : FVec Ideal S16384x256 .f32 :=
  extractStridedSlice S16384x256 ![0, 2312] (Host.dotGeneral dot_S16384x1024_S1024x2568_S16384x2568_1_0_0_1_n_n none (mulf (mulf a0 (broadcastInDim S16384x1024 ![0, 1] bcast_S16384x1_S16384x1024_0_1 (Host.rsqrt (addf (Host.divf (broadcastInDim S16384x1 ![0] bcast_S16384_S16384x1_0 (Host.reduceAdd (mulf a0 a0) (constant S_ .f32 0x00000000#32) reducesTo_S16384x1024_S16384_d1 h_S_)) (broadcastInDim S16384x1 ![] bcast_S_S16384x1 (constant S_ .f32 0x44800000#32))) (broadcastInDim S16384x1 ![] bcast_S_S16384x1 (constant S_ .f32 0x358637BD#32)))))) (broadcastInDim S16384x1024 ![0, 1] bcast_S1x1024_S16384x1024_0_1 (broadcastInDim S1x1024 ![1] bcast_S1024_S1x1024_1 a1))) a2) slices_S16384x2568_S16384x256_0_2312

/-- Result 6 of the reference. -/
def out6 : FVec Ideal S16384x128 .f32 :=
  pad S16384x128 ![0, 0] ![0, 120] ![0, 0] (extractStridedSlice S16384x8 ![0, 1536] (Host.dotGeneral dot_S16384x1024_S1024x2568_S16384x2568_1_0_0_1_n_n none (mulf (mulf a0 (broadcastInDim S16384x1024 ![0, 1] bcast_S16384x1_S16384x1024_0_1 (Host.rsqrt (addf (Host.divf (broadcastInDim S16384x1 ![0] bcast_S16384_S16384x1_0 (Host.reduceAdd (mulf a0 a0) (constant S_ .f32 0x00000000#32) reducesTo_S16384x1024_S16384_d1 h_S_)) (broadcastInDim S16384x1 ![] bcast_S_S16384x1 (constant S_ .f32 0x44800000#32))) (broadcastInDim S16384x1 ![] bcast_S_S16384x1 (constant S_ .f32 0x358637BD#32)))))) (broadcastInDim S16384x1024 ![0, 1] bcast_S1x1024_S16384x1024_0_1 (broadcastInDim S1x1024 ![1] bcast_S1024_S1x1024_1 a1))) a2) slices_S16384x2568_S16384x8_0_1536) (sitofp .f32 (constantI S_ 32 0#32)) pads_S16384x8_S16384x128_000_01200 h_S_

end Cert.InprojRefIdeal.Value
-- ==== Proof.InprojValue.lean ====
/- The input projection: each of the seven result arrays is the reference's. -/
module

public import proofs.«01_k».proof.Proof.Gen.InprojRefIdeal.Run
public import proofs.«01_k».proof.Proof.Gen.InprojIdeal.Value
public import proofs.«01_k».proof.Proof.InprojRef
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.InprojIdeal.Value

open Cert.InprojIdeal Cert.InprojIdeal.Gen

variable (m : (ℓ : Loc nD τ sig) → Buf (Elt Ideal) ℓ)

/-- The blocks each grid point reads and writes, window by window. -/
theorem idx : ∀ t : Fin cfg0.N, win0_0.index t = ![t.val, 0] ∧ win0_1.index t = ![0, 0] ∧ win0_2.index t = ![0, 0] ∧ win0_3.index t = ![t.val, 0] ∧ win0_4.index t = ![t.val, 0] ∧ win0_5.index t = ![t.val, 0] ∧ win0_6.index t = ![t.val, 0] ∧ win0_7.index t = ![t.val, 0] ∧ win0_8.index t = ![t.val, 0] ∧ win0_9.index t = ![t.val, 0] :=
  (by decide +kernel : ∀ t : Fin grid0.N, _)

/-- The weight matrix with its columns in the order of the results, the eight step columns last and padded with zeros. -/
def arranged (w : FVec Ideal S1024x2568 .f32) : FVec Ideal S1024x2688 .bf16 :=
  truncf .bf16 (concatenate S1024x2688 1 [⟨S1024x512, extractStridedSlice S1024x512 ![0, 0] w slices_S1024x2568_S1024x512_0_0⟩,
    ⟨S1024x1024, extractStridedSlice S1024x1024 ![0, 512] w slices_S1024x2568_S1024x1024_0_512⟩,
    ⟨S1024x256, extractStridedSlice S1024x256 ![0, 1544] w slices_S1024x2568_S1024x256_0_1544⟩,
    ⟨S1024x256, extractStridedSlice S1024x256 ![0, 1800] w slices_S1024x2568_S1024x256_0_1800⟩,
    ⟨S1024x256, extractStridedSlice S1024x256 ![0, 2056] w slices_S1024x2568_S1024x256_0_2056⟩,
    ⟨S1024x256, extractStridedSlice S1024x256 ![0, 2312] w slices_S1024x2568_S1024x256_0_2312⟩,
    ⟨S1024x128, pad S1024x128 ![0, 0] ![0, 120] ![0, 0] (extractStridedSlice S1024x8 ![0, 1536] w slices_S1024x2568_S1024x8_0_1536)
      (sitofp (F := Ideal) .f32 (constantI S_ 32 0#32)) pads_S1024x8_S1024x128_000_01200 h_S_⟩]
    concatenates_S1024x512_S1024x1024_S1024x256_S1024x256_S1024x256_S1024x256_S1024x128_S1024x2688_d1) bitsLt_bf16_f32

/-- What the kernel reads as weights is the arranged matrix. -/
theorem V_weights (c : Dev nD) : V m c main_v10 = arranged (m ((c : Thread nD τ).loc main_arg2)) := by
  unfold V arranged
  simp only [List.flatten_cons, List.flatten_nil, List.append_nil, List.cons_append, List.nil_append]
  after_results <;> rfl

/-- What the kernel reads as gains is the row of gains. -/
theorem V_gain (c : Dev nD) (k : Fin 1024) : V m c main_v0 (ix2 0 k) = m ((c : Thread nD τ).loc main_arg1) (ix1 k) := by
  have h : V m c main_v0 = broadcastInDim S1x1024 ![1] bcast_S1024_S1x1024_1 (m ((c : Thread nD τ).loc main_arg1)) := by
    unfold V
    simp only [List.flatten_cons, List.flatten_nil, List.append_nil, List.cons_append, List.nil_append]
    after_results <;> rfl
  rw [h]
  pointwise

/-- Its columns of result 0. -/
theorem arranged0 (w : FVec Ideal S1024x2568 .f32) (k : Fin 1024) (i : Fin 2688) (j : Fin 2568) (h : i.val = 0 + (j.val - 0)) (h1 : 0 ≤ j.val) (h2 : j.val < 512) :
    arranged w (ix2 k i) = w (ix2 k j) := by
  pointwise [arranged]
  have := i.isLt
  simp (disch := omega) only [dif_pos, dif_neg]
  blk_ext []

/-- Its columns of result 1. -/
theorem arranged1 (w : FVec Ideal S1024x2568 .f32) (k : Fin 1024) (i : Fin 2688) (j : Fin 2568) (h : i.val = 512 + (j.val - 512)) (h1 : 512 ≤ j.val) (h2 : j.val < 1536) :
    arranged w (ix2 k i) = w (ix2 k j) := by
  pointwise [arranged]
  have := i.isLt
  simp (disch := omega) only [dif_pos, dif_neg]
  blk_ext []

/-- Its columns of result 2. -/
theorem arranged2 (w : FVec Ideal S1024x2568 .f32) (k : Fin 1024) (i : Fin 2688) (j : Fin 2568) (h : i.val = 1536 + (j.val - 1544)) (h1 : 1544 ≤ j.val) (h2 : j.val < 1800) :
    arranged w (ix2 k i) = w (ix2 k j) := by
  pointwise [arranged]
  have := i.isLt
  simp (disch := omega) only [dif_pos, dif_neg]
  blk_ext []

/-- Its columns of result 3. -/
theorem arranged3 (w : FVec Ideal S1024x2568 .f32) (k : Fin 1024) (i : Fin 2688) (j : Fin 2568) (h : i.val = 1792 + (j.val - 1800)) (h1 : 1800 ≤ j.val) (h2 : j.val < 2056) :
    arranged w (ix2 k i) = w (ix2 k j) := by
  pointwise [arranged]
  have := i.isLt
  simp (disch := omega) only [dif_pos, dif_neg]
  blk_ext []

/-- Its columns of result 4. -/
theorem arranged4 (w : FVec Ideal S1024x2568 .f32) (k : Fin 1024) (i : Fin 2688) (j : Fin 2568) (h : i.val = 2048 + (j.val - 2056)) (h1 : 2056 ≤ j.val) (h2 : j.val < 2312) :
    arranged w (ix2 k i) = w (ix2 k j) := by
  pointwise [arranged]
  have := i.isLt
  simp (disch := omega) only [dif_pos, dif_neg]
  blk_ext []

/-- Its columns of result 5. -/
theorem arranged5 (w : FVec Ideal S1024x2568 .f32) (k : Fin 1024) (i : Fin 2688) (j : Fin 2568) (h : i.val = 2304 + (j.val - 2312)) (h1 : 2312 ≤ j.val) (h2 : j.val < 2568) :
    arranged w (ix2 k i) = w (ix2 k j) := by
  pointwise [arranged]
  have := i.isLt
  simp (disch := omega) only [dif_pos, dif_neg]
  blk_ext []

/-- The integer zero becomes the real zero. -/
theorem sitofp_zero : (FloatOps.sitofp FTy.f32 0#32 : Ideal .f32) = (0 : EReal) := by
  show (((0#32 : BitVec 32).toInt : ℝ) : EReal) = 0
  simp

/-- Its columns of the steps. -/
theorem arranged6 (w : FVec Ideal S1024x2568 .f32) (k : Fin 1024) (i : Fin 2688) (h1 : 2560 ≤ i.val) :
    arranged w (ix2 k i) = if h : i.val < 2568 then w (ix2 k ⟨i.val - 1024, by omega⟩) else 0 := by
  pointwise [arranged]
  have := i.isLt
  simp (disch := omega) only [dif_neg]
  by_cases h2 : i.val < 2568
  · simp (disch := omega) only [dif_pos]
    blk_ext []
  · simp (disch := omega) only [dif_neg]
    exact sitofp_zero

variable (c : Dev nD)

/-- A point's weight block is the whole arranged matrix. -/
theorem weights_block (t : Fin cfg0.N) (k : Fin 1024) (i : Fin 2688) :
    iblk m c 2 t (ix2 k i) = arranged (m ((c : Thread nD τ).loc main_arg2)) (ix2 k i) := by
  rw [← V_weights]
  blk_ext [iblk, idx t]

/-- A point's gain block is the gain row. -/
theorem gain_block (t : Fin cfg0.N) (k : Fin 1024) :
    iblk m c 1 t (ix2 0 k) = m ((c : Thread nD τ).loc main_arg1) (ix1 k) := by
  rw [← V_gain m c]
  blk_ext [iblk, idx t]

/-- Result 0. -/
theorem res0 : (dats m 0 c).arrAt 3 (cfgs 0).N = Cert.InprojRefIdeal.Value.out0 (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]; frame_out
  unfold Cert.InprojRefIdeal.Value.out0
  pointwise [k0_pay1, k0_pay2, k0_pay3, k0_pay4, k0_pay5, k0_pay6, k0_pay7, k0_pay8, k0_pay9]
  simp only [weights_block, gain_block]
  have hy := (y 1).isLt
  blk_simp at hy
  show (_ : EReal) = _
  refine Finset.sum_congr rfl fun x _ => congrArg₂ (· * ·) ?_ ?_
  · blk_point [iblk, V, idx t]
  · refine arranged0 _ x _ _ ?_ ?_ ?_ <;> blk_simp [idx t] <;> (try dsimp only) <;> omega

/-- Result 1. -/
theorem res1 : (dats m 0 c).arrAt 4 (cfgs 0).N = Cert.InprojRefIdeal.Value.out1 (m ((c : Thread nD τ).loc main_arg0)) (m ((c : Thread nD τ).loc main_arg1)) (m ((c : Thread nD τ).loc main_arg2)) := by
  refine (dats m 0 c).arrAt_eq_of_covers 4 _ (by decide +kernel) fun t _ y => ?_
  blk_simp
  rw [after0_4]; frame_out
  unfold Cert.InprojRefIdeal.Value.out1
  pointwise [k0_pay1, k0_pay2, k0_pay3, k0_pay4, k0_pay5, k0_pay6, k0_pay7, k0_pay8, k0_pay9]
  simp only [weights_block, gain_block]
  have hy := (y 1).isLt
  blk_simp at hy
  show (_ : EReal) = _
  refine Finset.sum_congr rfl fun x _ => congrArg₂ (· * ·) ?_ ?_
  · blk_point [iblk, V, idx t]
  · refine arranged1 _ x _ _ ?_ ?_ ?_ <;> blk_simp [idx t] <;> (try dsimp only) <;> omega

/-- Result 2. -/
theorem res2 : (dats m 0 c).arrAt 5 (cfgs 0).N = Cert.InprojRefIdeal.Value.out2 (m ((c : Thread nD τ).loc main_arg0)) (m ((c : Thread nD τ).loc main_arg1)) (m ((c : Thread nD τ).loc main_arg2)) := by
  refine (dats m 0 c).arrAt_eq_of_covers 5 _ (by decide +kernel) fun t _ y => ?_
  blk_simp
  rw [after0_5]; frame_out
  unfold Cert.InprojRefIdeal.Value.out2
  pointwise [k0_pay1, k0_pay2, k0_pay3, k0_pay4, k0_pay5, k0_pay6, k0_pay7, k0_pay8, k0_pay9]
  simp only [weights_block, gain_block]
  have hy := (y 1).isLt
  blk_simp at hy
  show (_ : EReal) = _
  refine Finset.sum_congr rfl fun x _ => congrArg₂ (· * ·) ?_ ?_
  · blk_point [iblk, V, idx t]
  · refine arranged2 _ x _ _ ?_ ?_ ?_ <;> blk_simp [idx t] <;> (try dsimp only) <;> omega

/-- Result 3. -/
theorem res3 : (dats m 0 c).arrAt 6 (cfgs 0).N = Cert.InprojRefIdeal.Value.out3 (m ((c : Thread nD τ).loc main_arg0)) (m ((c : Thread nD τ).loc main_arg1)) (m ((c : Thread nD τ).loc main_arg2)) := by
  refine (dats m 0 c).arrAt_eq_of_covers 6 _ (by decide +kernel) fun t _ y => ?_
  blk_simp
  rw [after0_6]; frame_out
  unfold Cert.InprojRefIdeal.Value.out3
  pointwise [k0_pay1, k0_pay2, k0_pay3, k0_pay4, k0_pay5, k0_pay6, k0_pay7, k0_pay8, k0_pay9]
  simp only [weights_block, gain_block]
  have hy := (y 1).isLt
  blk_simp at hy
  show (_ : EReal) = _
  refine Finset.sum_congr rfl fun x _ => congrArg₂ (· * ·) ?_ ?_
  · blk_point [iblk, V, idx t]
  · refine arranged3 _ x _ _ ?_ ?_ ?_ <;> blk_simp [idx t] <;> (try dsimp only) <;> omega

/-- Result 4. -/
theorem res4 : (dats m 0 c).arrAt 7 (cfgs 0).N = Cert.InprojRefIdeal.Value.out4 (m ((c : Thread nD τ).loc main_arg0)) (m ((c : Thread nD τ).loc main_arg1)) (m ((c : Thread nD τ).loc main_arg2)) := by
  refine (dats m 0 c).arrAt_eq_of_covers 7 _ (by decide +kernel) fun t _ y => ?_
  blk_simp
  rw [after0_7]; frame_out
  unfold Cert.InprojRefIdeal.Value.out4
  pointwise [k0_pay1, k0_pay2, k0_pay3, k0_pay4, k0_pay5, k0_pay6, k0_pay7, k0_pay8, k0_pay9]
  simp only [weights_block, gain_block]
  have hy := (y 1).isLt
  blk_simp at hy
  show (_ : EReal) = _
  refine Finset.sum_congr rfl fun x _ => congrArg₂ (· * ·) ?_ ?_
  · blk_point [iblk, V, idx t]
  · refine arranged4 _ x _ _ ?_ ?_ ?_ <;> blk_simp [idx t] <;> (try dsimp only) <;> omega

/-- Result 5. -/
theorem res5 : (dats m 0 c).arrAt 8 (cfgs 0).N = Cert.InprojRefIdeal.Value.out5 (m ((c : Thread nD τ).loc main_arg0)) (m ((c : Thread nD τ).loc main_arg1)) (m ((c : Thread nD τ).loc main_arg2)) := by
  refine (dats m 0 c).arrAt_eq_of_covers 8 _ (by decide +kernel) fun t _ y => ?_
  blk_simp
  rw [after0_8]; frame_out
  unfold Cert.InprojRefIdeal.Value.out5
  pointwise [k0_pay1, k0_pay2, k0_pay3, k0_pay4, k0_pay5, k0_pay6, k0_pay7, k0_pay8, k0_pay9]
  simp only [weights_block, gain_block]
  have hy := (y 1).isLt
  blk_simp at hy
  show (_ : EReal) = _
  refine Finset.sum_congr rfl fun x _ => congrArg₂ (· * ·) ?_ ?_
  · blk_point [iblk, V, idx t]
  · refine arranged5 _ x _ _ ?_ ?_ ?_ <;> blk_simp [idx t] <;> (try dsimp only) <;> omega

/-- Result 6. -/
theorem res6 : (dats m 0 c).arrAt 9 (cfgs 0).N = Cert.InprojRefIdeal.Value.out6 (m ((c : Thread nD τ).loc main_arg0)) (m ((c : Thread nD τ).loc main_arg1)) (m ((c : Thread nD τ).loc main_arg2)) := by
  refine (dats m 0 c).arrAt_eq_of_covers 9 _ (by decide +kernel) fun t _ y => ?_
  blk_simp
  rw [after0_9]; frame_out
  unfold Cert.InprojRefIdeal.Value.out6
  pointwise [k0_pay1, k0_pay2, k0_pay3, k0_pay4, k0_pay5, k0_pay6, k0_pay7, k0_pay8, k0_pay9]
  simp only [weights_block, gain_block]
  have hy := (y 1).isLt
  blk_simp at hy
  have e1 : ((((View.whole main_v11_6).slice (win0_9.rect t)).emb y 1 : Fin _) : ℕ) = (y 1).val := by
    blk_simp [idx t]
  have hy : (y 1).val < 128 := (y 1).isLt
  show (_ : EReal) = _
  by_cases h8 : (y 1).val < 8
  · rw [dif_pos (by omega)]
    refine Finset.sum_congr rfl fun x _ => congrArg₂ (· * ·) ?_ ?_
    · blk_point [iblk, V, idx t]
    · rw [arranged6 _ _ _ (by simp), dif_pos (show 2560 + (y 1).val < 2568 by omega)]
      blk_ext [idx t]
  · rw [dif_neg (by omega), sitofp_zero]
    refine Finset.sum_eq_zero fun x _ => ?_
    rw [arranged6 _ _ _ (by simp), dif_neg (show ¬ 2560 + (y 1).val < 2568 by omega), mul_zero]

end Cert.InprojIdeal.Value
-- ==== Proof.InprojClaims.lean ====
module

public import proofs.«01_k».proof.Defs
public import proofs.«01_k».proof.Proof.Gen.Inproj
public import proofs.«01_k».proof.Proof.Gen.Inproj.Frame
public import proofs.«01_k».proof.Proof.Gen.InprojIdeal
public import proofs.«01_k».proof.Proof.Gen.InprojIdeal.Frame
public import proofs.«01_k».proof.Proof.Gen.InprojIdeal.Value
public import proofs.«01_k».proof.Proof.Gen.InprojRefIdeal
public import proofs.«01_k».proof.Proof.Gen.InprojRefIdeal.Run
public import proofs.«01_k».proof.Proof.InprojValue
public import Idealize.ShloMosaic.Adequacy
public import Idealize.ShloMosaic.Init

@[expose] public section

set_option maxRecDepth 16384
set_option maxHeartbeats 4000000

noncomputable section

namespace Cert.Proof

open Idealize.ShloMosaic Idealize.SL.Sem

/-- The input projection kernel runs to the end from every memory and leaves its arguments as they were. -/
theorem frame_Inproj [h : Cert.Inproj.Facts] : Cert.quiescent_Inproj (hInproj := h) :=
  fun m ρ _ => Cert.Inproj.Gen.frame m ρ

/-- So does the idealized input projection kernel. -/
theorem frame_InprojIdeal [h : Cert.InprojIdeal.Facts] : Cert.quiescent_InprojIdeal (hInprojIdeal := h) :=
  fun m ρ _ => Cert.InprojIdeal.Gen.frame m ρ

/-- So does the idealized input projection reference. -/
theorem frame_InprojRefIdeal [h : Cert.InprojRefIdeal.Facts] :
    Cert.quiescent_InprojRefIdeal (hInprojRefIdeal := h) :=
  fun m ρ _ => (θ_run (Cert.InprojRefIdeal.defs (F := Ideal)) _ _).mono
    (fun r h => ⟨fun c => (h c).2.2.2.2.2.2.2,
      Idealize.ShloMosaic.sem_eq_zero_of_no_sems (by decide) r.2⟩)
    (Cert.InprojRefIdeal.Value.run (F := Ideal) m ρ)

/-- The idealized input projection kernel is the kernel: no rule was applied. -/
theorem preserves_Inproj : Cert.preserves_Inproj_InprojIdeal := trivial

/-- At real values the input projection kernel returns what the reference returns. -/
theorem algebraic_Inproj [h : Cert.InprojIdeal.Facts] [h' : Cert.InprojRefIdeal.Facts] :
    Cert.algebraic_InprojIdeal_InprojRefIdeal (hInprojIdeal := h) (hInprojRefIdeal := h') := by
  intro m ρ m' ρ' _ hagree
  refine ⟨fun c => (Cert.InprojIdeal.Gen.dats (F := Ideal) m 0 c).arrAt 3 Cert.InprojIdeal.cfg0.N, fun c => (Cert.InprojIdeal.Gen.dats (F := Ideal) m 0 c).arrAt 4 Cert.InprojIdeal.cfg0.N, fun c => (Cert.InprojIdeal.Gen.dats (F := Ideal) m 0 c).arrAt 5 Cert.InprojIdeal.cfg0.N, fun c => (Cert.InprojIdeal.Gen.dats (F := Ideal) m 0 c).arrAt 6 Cert.InprojIdeal.cfg0.N, fun c => (Cert.InprojIdeal.Gen.dats (F := Ideal) m 0 c).arrAt 7 Cert.InprojIdeal.cfg0.N, fun c => (Cert.InprojIdeal.Gen.dats (F := Ideal) m 0 c).arrAt 8 Cert.InprojIdeal.cfg0.N, fun c => (Cert.InprojIdeal.Gen.dats (F := Ideal) m 0 c).arrAt 9 Cert.InprojIdeal.cfg0.N,
    (θ_run (Cert.InprojIdeal.defs (F := Ideal)) _ _).mono (fun r h c => ?_)
      (Cert.InprojIdeal.Value.run_blocks (F := Ideal) m ρ),
    (θ_run (Cert.InprojRefIdeal.defs (F := Ideal)) _ _).mono (fun r h c => ?_)
      (Cert.InprojRefIdeal.Value.run (F := Ideal) m' ρ')⟩
  · exact h c
  · obtain ⟨e0, e1, e2⟩ := hagree c
    have q0 := Cert.InprojIdeal.Value.res0 m c
    rw [← e0, ← e1, ← e2] at q0
    have q1 := Cert.InprojIdeal.Value.res1 m c
    rw [← e0, ← e1, ← e2] at q1
    have q2 := Cert.InprojIdeal.Value.res2 m c
    rw [← e0, ← e1, ← e2] at q2
    have q3 := Cert.InprojIdeal.Value.res3 m c
    rw [← e0, ← e1, ← e2] at q3
    have q4 := Cert.InprojIdeal.Value.res4 m c
    rw [← e0, ← e1, ← e2] at q4
    have q5 := Cert.InprojIdeal.Value.res5 m c
    rw [← e0, ← e1, ← e2] at q5
    have q6 := Cert.InprojIdeal.Value.res6 m c
    rw [← e0, ← e1, ← e2] at q6
    obtain ⟨r0, r1, r2, r3, r4, r5, r6, hk⟩ := h c
    exact ⟨r0.trans q0.symm, r1.trans q1.symm, r2.trans q2.symm, r3.trans q3.symm, r4.trans q4.symm, r5.trans q5.symm, r6.trans q6.symm, hk⟩

end Cert.Proof

end
-- ==== Proof.OutprojRef.lean ====
/- The output projection's result, as the reference computes it. -/
module

public import proofs.«01_k».proof.Proof.Gen.OutprojRefIdeal.Run
public import Idealize.ShloMosaic.Lib.Pipeline.ValueKit

@[expose] public section

set_option maxRecDepth 16384

noncomputable section

open Idealize.ShloMosaic Idealize.ShloMosaic.TcCoe Idealize.SL.Sem Idealize.ShloMosaic.StableHlo

namespace Cert.OutprojRefIdeal.Value

open Cert.OutprojRefIdeal Cert.OutprojRefIdeal.Gen

/-- A contraction with three arrays side by side is the sum of the three contractions. -/
theorem split (A : Vec Ideal S16384x512 .f32) (B C : Vec Ideal S16384x256 .f32) (W : Vec Ideal S1024x1024 .f32) (r : Fin 16384) (j : Fin 1024) :
    (∑ x : Fin 1024, (if h : x.val < 512 then (A (ix2 r ⟨x.val, h⟩) : EReal)
        else if h' : x.val - 512 < 256 then B (ix2 r ⟨x.val - 512, h'⟩)
        else C (ix2 r ⟨x.val - 512 - 256, by omega⟩)) * W (ix2 x j) : EReal)
      = (∑ x : Fin 512, (A (ix2 r x) : EReal) * W (ix2 ⟨x.val, by omega⟩ j)) + (∑ x : Fin 256, (B (ix2 r x) : EReal) * W (ix2 ⟨512 + x.val, by omega⟩ j))
        + (∑ x : Fin 256, (C (ix2 r x) : EReal) * W (ix2 ⟨768 + x.val, by omega⟩ j)) := by
  refine (Fin.sum_univ_add (a := 512) (b := 512) _).trans ?_
  rw [add_assoc]
  refine congrArg₂ (· + ·) ?_ ((Fin.sum_univ_add (a := 256) (b := 256) _).trans (congrArg₂ (· + ·) ?_ ?_))
  · refine Finset.sum_congr rfl fun x _ => ?_
    have hx := x.isLt
    rw [dif_pos (by simp)]
    rfl
  · refine Finset.sum_congr rfl fun x _ => ?_
    have hx := x.isLt
    rw [dif_neg (by simp), dif_pos (by simp)]
    refine congrArg₂ (· * ·) ?_ rfl
    exact congrArg B (congrArg (ix2 r) (Fin.ext (by simp)))
  · refine Finset.sum_congr rfl fun x _ => ?_
    have hx := x.isLt
    rw [dif_neg (by simp), dif_neg (by simp)]
    refine congrArg₂ (· * ·) ?_ ?_
    · exact congrArg C (congrArg (ix2 r) (Fin.ext (by simp)))
    · exact congrArg W (congrArg (ix2 · j) (Fin.ext (by simp; omega)))

variable (a0 : FVec Ideal S16384x1024 .f32) (a1 : FVec Ideal S16384x512 .f32) (a2 : FVec Ideal S16384x256 .f32) (a3 : FVec Ideal S16384x256 .f32) (a4 : FVec Ideal S1024x1024 .f32) (a5 : FVec Ideal S1024 .f32)

/-- The result of the reference. -/
def out0 : FVec Ideal S16384x1024 .f32 :=
  addf a0 (mulf (mulf (Host.dotGeneral (φ₁ := .f32) (φ₂ := .f32) dot_S16384x1024_S1024x1024_S16384x1024_1_0_0_1_n_n none ((concatenate S16384x1024 1 [⟨S16384x512, (a1 : (⟨S16384x512, .f32⟩ : BufTy).Contents (Elt Ideal))⟩, ⟨S16384x256, (a2 : (⟨S16384x256, .f32⟩ : BufTy).Contents (Elt Ideal))⟩, ⟨S16384x256, (a3 : (⟨S16384x256, .f32⟩ : BufTy).Contents (Elt Ideal))⟩] concatenates_S16384x512_S16384x256_S16384x256_S16384x1024_d1 : (⟨S16384x1024, .f32⟩ : BufTy).Contents (Elt Ideal))) a4) (broadcastInDim S16384x1024 ![0, 1] bcast_S16384x1_S16384x1024_0_1 (Host.rsqrt (addf (Host.divf (broadcastInDim S16384x1 ![0] bcast_S16384_S16384x1_0 (Host.reduceAdd (mulf (Host.dotGeneral (φ₁ := .f32) (φ₂ := .f32) dot_S16384x1024_S1024x1024_S16384x1024_1_0_0_1_n_n none ((concatenate S16384x1024 1 [⟨S16384x512, (a1 : (⟨S16384x512, .f32⟩ : BufTy).Contents (Elt Ideal))⟩, ⟨S16384x256, (a2 : (⟨S16384x256, .f32⟩ : BufTy).Contents (Elt Ideal))⟩, ⟨S16384x256, (a3 : (⟨S16384x256, .f32⟩ : BufTy).Contents (Elt Ideal))⟩] concatenates_S16384x512_S16384x256_S16384x256_S16384x1024_d1 : (⟨S16384x1024, .f32⟩ : BufTy).Contents (Elt Ideal))) a4) (Host.dotGeneral (φ₁ := .f32) (φ₂ := .f32) dot_S16384x1024_S1024x1024_S16384x1024_1_0_0_1_n_n none ((concatenate S16384x1024 1 [⟨S16384x512, (a1 : (⟨S16384x512, .f32⟩ : BufTy).Contents (Elt Ideal))⟩, ⟨S16384x256, (a2 : (⟨S16384x256, .f32⟩ : BufTy).Contents (Elt Ideal))⟩, ⟨S16384x256, (a3 : (⟨S16384x256, .f32⟩ : BufTy).Contents (Elt Ideal))⟩] concatenates_S16384x512_S16384x256_S16384x256_S16384x1024_d1 : (⟨S16384x1024, .f32⟩ : BufTy).Contents (Elt Ideal))) a4)) (constant S_ .f32 0x00000000#32) reducesTo_S16384x1024_S16384_d1 h_S_)) (broadcastInDim S16384x1 ![] bcast_S_S16384x1 (constant S_ .f32 0x44800000#32))) (broadcastInDim S16384x1 ![] bcast_S_S16384x1 (constant S_ .f32 0x358637BD#32)))))) (broadcastInDim S16384x1024 ![0, 1] bcast_S1x1024_S16384x1024_0_1 (broadcastInDim S1x1024 ![1] bcast_S1024_S1x1024_1 a5)))

/-- The three parts of the concatenated row against their rows of the weights. -/
def mixed (r : Fin 16384) (j : Fin 1024) : EReal :=
  (∑ x : Fin 512, (a1 (ix2 r x) : EReal) * a4 (ix2 ⟨x.val, by omega⟩ j)) + (∑ x : Fin 256, (a2 (ix2 r x) : EReal) * a4 (ix2 ⟨512 + x.val, by omega⟩ j))
        + (∑ x : Fin 256, (a3 (ix2 r x) : EReal) * a4 (ix2 ⟨768 + x.val, by omega⟩ j))

/-- The reference's result at an index. -/
theorem out0_apply (i : S16384x1024.Idx) : out0 a0 a1 a2 a3 a4 a5 i =
    (a0 i + mixed a1 a2 a3 a4 (i 0) (i 1) *
      Ideal.rsqrt (Ideal.div (∑ x : Fin 1024, mixed a1 a2 a3 a4 (i 0) x * mixed a1 a2 a3 a4 (i 0) x) (Ideal.ofBits FTy.f32 1149239296#32) + Ideal.ofBits FTy.f32 897988541#32) *
      a5 (ix1 (i 1)) : EReal) := by
  idx_vars i
  pointwise [out0]
  have hs := fun r j => split a1 a2 a3 a4 r j
  simp only [hs]
  rfl

end Cert.OutprojRefIdeal.Value
-- ==== Proof.OutprojValue.lean ====
/- The output projection: the result array is the reference's. -/
module

public import proofs.«01_k».proof.Proof.Gen.OutprojRefIdeal.Run
public import proofs.«01_k».proof.Proof.Gen.OutprojIdeal.Value
public import proofs.«01_k».proof.Proof.OutprojRef
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.OutprojIdeal.Value

open Cert.OutprojIdeal Cert.OutprojIdeal.Gen

variable (m : (ℓ : Loc nD τ sig) → Buf (Elt Ideal) ℓ)

/-- The blocks each grid point reads and writes, window by window. -/
theorem idx : ∀ t : Fin cfg0.N, win0_0.index t = ![t.val, 0] ∧ win0_1.index t = ![t.val, 0] ∧ win0_2.index t = ![t.val, 0] ∧ win0_3.index t = ![t.val, 0] ∧ win0_4.index t = ![0, 0] ∧ win0_5.index t = ![0, 0] ∧ win0_6.index t = ![t.val, 0] :=
  (by decide +kernel : ∀ t : Fin grid0.N, _)

variable (c : Dev nD)

/-- The result. -/
theorem res : (dats m 0 c).arrAt 6 (cfgs 0).N = Cert.OutprojRefIdeal.Value.out0 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_covers 6 _ (by decide +kernel) fun t _ y => ?_
  blk_simp
  rw [after0_6]; frame_out
  rw [Cert.OutprojRefIdeal.Value.out0_apply]
  pointwise [k0_pay1, Cert.OutprojRefIdeal.Value.mixed]
  blk_point [iblk, V, idx t]

end Cert.OutprojIdeal.Value
-- ==== Proof.OutprojClaims.lean ====
module

public import proofs.«01_k».proof.Defs
public import proofs.«01_k».proof.Proof.Gen.Outproj
public import proofs.«01_k».proof.Proof.Gen.Outproj.Frame
public import proofs.«01_k».proof.Proof.Gen.OutprojIdeal
public import proofs.«01_k».proof.Proof.Gen.OutprojIdeal.Frame
public import proofs.«01_k».proof.Proof.Gen.OutprojIdeal.Value
public import proofs.«01_k».proof.Proof.Gen.OutprojRefIdeal
public import proofs.«01_k».proof.Proof.Gen.OutprojRefIdeal.Run
public import proofs.«01_k».proof.Proof.OutprojValue
public import Idealize.ShloMosaic.Adequacy
public import Idealize.ShloMosaic.Init

@[expose] public section

set_option maxRecDepth 16384
set_option maxHeartbeats 4000000

noncomputable section

namespace Cert.Proof

open Idealize.ShloMosaic Idealize.SL.Sem

/-- The output projection kernel runs to the end from every memory and leaves its arguments as they were. -/
theorem frame_Outproj [h : Cert.Outproj.Facts] : Cert.quiescent_Outproj (hOutproj := h) :=
  fun m ρ _ => Cert.Outproj.Gen.frame m ρ

/-- So does the idealized output projection kernel. -/
theorem frame_OutprojIdeal [h : Cert.OutprojIdeal.Facts] : Cert.quiescent_OutprojIdeal (hOutprojIdeal := h) :=
  fun m ρ _ => Cert.OutprojIdeal.Gen.frame m ρ

/-- So does the idealized output projection reference. -/
theorem frame_OutprojRefIdeal [h : Cert.OutprojRefIdeal.Facts] :
    Cert.quiescent_OutprojRefIdeal (hOutprojRefIdeal := h) :=
  fun m ρ _ => (θ_run (Cert.OutprojRefIdeal.defs (F := Ideal)) _ _).mono
    (fun r h => ⟨fun c => (h c).2,
      Idealize.ShloMosaic.sem_eq_zero_of_no_sems (by decide) r.2⟩)
    (Cert.OutprojRefIdeal.Value.run (F := Ideal) m ρ)

/-- The idealized output projection kernel is the kernel: no rule was applied. -/
theorem preserves_Outproj : Cert.preserves_Outproj_OutprojIdeal := trivial

/-- At real values the output projection kernel returns what the reference returns. -/
theorem algebraic_Outproj [h : Cert.OutprojIdeal.Facts] [h' : Cert.OutprojRefIdeal.Facts] :
    Cert.algebraic_OutprojIdeal_OutprojRefIdeal (hOutprojIdeal := h) (hOutprojRefIdeal := h') := by
  intro m ρ m' ρ' _ hagree
  refine ⟨fun c => (Cert.OutprojIdeal.Gen.dats (F := Ideal) m 0 c).arrAt 6 Cert.OutprojIdeal.cfg0.N,
    (θ_run (Cert.OutprojIdeal.defs (F := Ideal)) _ _).mono (fun r h c => ?_)
      (Cert.OutprojIdeal.Value.run_blocks (F := Ideal) m ρ),
    (θ_run (Cert.OutprojRefIdeal.defs (F := Ideal)) _ _).mono (fun r h c => ?_)
      (Cert.OutprojRefIdeal.Value.run (F := Ideal) m' ρ')⟩
  · exact h c
  · obtain ⟨e0, e1, e2, e3, e4, e5⟩ := hagree c
    have q0 := Cert.OutprojIdeal.Value.res m c
    rw [← e0, ← e1, ← e2, ← e3, ← e4, ← e5] at q0
    obtain ⟨r0, hk⟩ := h c
    exact ⟨r0.trans q0.symm, hk⟩

end Cert.Proof

end
-- ==== Proof.SsdSpec.lean ====
/- The state-space layer of one chunk of 128 tokens, as plain sums over the extended reals. A lane `j` of the 512 is
   head `j / 64` of the eight and group `j / 256` of the two. -/
module

public import Idealize.ShloMosaic.Lib.Pipeline.ValueKit

@[expose] public section

set_option maxRecDepth 16384

noncomputable section

open Idealize.ShloMosaic

namespace Cert.SsdSpec

/-- The softplus, in the form that does not overflow. -/
def sp (x : EReal) : EReal := max x 0 + Ideal.log1p (Ideal.exp (0 - FloatOps.absf (F := Ideal) (φ := .f32) x))

/-- The gate: a value times its logistic. -/
def silu (x : EReal) : EReal := x * Ideal.logistic x

/-- The first lane of a lane's head. -/
def hd (j : Fin 512) : Fin 512 := ⟨64 * (j.val / 64), by have := j.isLt; omega⟩

/-- The column of the activations where state `n` of the input map of a lane's group stands. -/
def bcol (j : Fin 512) (n : Fin 128) : Fin 1024 := ⟨512 + 128 * (j.val / 256) + n.val, by have := j.isLt; have := n.isLt; omega⟩

/-- The column of the activations where state `n` of the output map of a lane's group stands. -/
def ccol (j : Fin 512) (n : Fin 128) : Fin 1024 := ⟨768 + 128 * (j.val / 256) + n.val, by have := j.isLt; have := n.isLt; omega⟩

/-- The column of the activations where a lane's own value stands. -/
def xcol (j : Fin 512) : Fin 1024 := ⟨j.val, by have := j.isLt; omega⟩

/-- The decay exponents summed from the chunk's first token to token `l`. -/
def acs (da : Fin 128 → Fin 512 → EReal) (l : Fin 128) (j : Fin 512) : EReal :=
  ∑ s : Fin 128, if s ≤ l then da s j else 0

/-- The decay from token `s` to token `l`; none where `s` is later. -/
def seg (A : Fin 128 → Fin 512 → EReal) (j : Fin 512) (l s : Fin 128) : EReal :=
  Ideal.exp (if s ≤ l then A l (hd j) - A s (hd j) else Ideal.ofBits .f32 0xFF800000#32)

/-- The product of token `l`'s output map with token `s`'s input map, in a lane's group. -/
def cb (xc : Fin 128 → Fin 1024 → EReal) (j : Fin 512) (l s : Fin 128) : EReal :=
  ∑ n : Fin 128, xc l (ccol j n) * xc s (bcol j n)

/-- What the chunk's own tokens contribute to token `l`. -/
def yd (xc : Fin 128 → Fin 1024 → EReal) (A xd : Fin 128 → Fin 512 → EReal) (l : Fin 128) (j : Fin 512) : EReal :=
  ∑ s : Fin 128, (cb xc j l s * seg A j l s) * xd s j

/-- What the state before the chunk contributes to token `l`. -/
def yo (xc : Fin 128 → Fin 1024 → EReal) (A : Fin 128 → Fin 512 → EReal) (S : Fin 128 → Fin 512 → EReal) (l : Fin 128) (j : Fin 512) : EReal :=
  (∑ n : Fin 128, xc l (ccol j n) * S n j) * Ideal.exp (A l j)

/-- The state after the chunk. -/
def next (xc : Fin 128 → Fin 1024 → EReal) (A xd : Fin 128 → Fin 512 → EReal) (S : Fin 128 → Fin 512 → EReal) (n : Fin 128) (j : Fin 512) : EReal :=
  S n j * Ideal.exp (A 127 j) + ∑ s : Fin 128, xc s (bcol j n) * (xd s j * Ideal.exp (A 127 j - A s j))

/-- The layer's output before the gate. -/
def y (xc : Fin 128 → Fin 1024 → EReal) (A xd : Fin 128 → Fin 512 → EReal) (S : Fin 128 → Fin 512 → EReal) (D : Fin 512 → EReal)
    (l : Fin 128) (j : Fin 512) : EReal :=
  yd xc A xd l j + yo xc A S l j + D j * xc l (xcol j)

/-- The sum over the chunk's tokens with the head chosen after the sum. -/
theorem yd_of_half (xc : Fin 128 → Fin 1024 → EReal) (A xd : Fin 128 → Fin 512 → EReal) (l : Fin 128) (j h0 h1 : Fin 512) (i : ℕ)
    (hh : hd j = if i < 64 then h0 else h1) :
    (if i < 64 then ∑ s : Fin 128, (cb xc j l s * Ideal.exp (if s ≤ l then A l h0 - A s h0 else Ideal.ofBits .f32 0xFF800000#32)) * xd s j
      else ∑ s : Fin 128, (cb xc j l s * Ideal.exp (if s ≤ l then A l h1 - A s h1 else Ideal.ofBits .f32 0xFF800000#32)) * xd s j) = yd xc A xd l j := by
  unfold yd seg
  rw [hh]
  by_cases h : i < 64
  · simp only [if_pos h]
  · simp only [if_neg h]

/-- The gated and normalised output of one token. -/
def gate (u : Fin 512 → EReal) (g : EReal) (j : Fin 512) : EReal :=
  u j * Ideal.rsqrt (Ideal.div (∑ k : Fin 512, u k * u k) (Ideal.ofBits .f32 0x44000000#32) + Ideal.ofBits .f32 0x358637BD#32) * g

end Cert.SsdSpec
-- ==== Proof.SsdStep.lean ====
/- The state-space kernel's values of one chunk, read at an index. -/
module

public import proofs.«01_k».proof.Proof.Gen.SsdIdeal.Value
public import proofs.«01_k».proof.Proof.SsdSpec
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.SsdIdeal.Value

open Cert.SsdIdeal Cert.SsdIdeal.Gen

/-- The causal mask on words. -/
theorem mask_word : ∀ l s : Fin 128, IntOp.cmpi CmpIPredicate.sle (BitVec.ofNat 32 s.val) (BitVec.ofNat 32 l.val) = if s ≤ l then 1#1 else 0#1 := by
  decide +kernel

/-- The causal mask. -/
theorem pay18_apply (l s : Fin 128) : k0_pay18 (ix2 l s) = if s ≤ l then 1#1 else 0#1 := by
  pointwise [k0_pay18]
  exact mask_word l s

/-- The head of a lane, as the kernel divides it on words. -/
theorem head_word : ∀ j : Fin 512, Scalar.select
      (IntOp.andi
        (IntOp.cmpi CmpIPredicate.ne
          (IntOp.subi (BitVec.setWidth 32 (IntOp.cmpi CmpIPredicate.sgt (BitVec.ofNat 32 j.val) 0#32))
            (BitVec.setWidth 32 (IntOp.cmpi CmpIPredicate.slt (BitVec.ofNat 32 j.val) 0#32)))
          (Scalar.subi (Scalar.extui (Scalar.cmpi CmpIPredicate.sgt 64#32 0#32))
            (Scalar.extui (Scalar.cmpi CmpIPredicate.slt 64#32 0#32))))
        (IntOp.cmpi CmpIPredicate.ne (IntOp.remsi ArithUnit.vector (BitVec.ofNat 32 j.val) 64#32) 0#32))
      (IntOp.subi (IntOp.divsi ArithUnit.vector (BitVec.ofNat 32 j.val) 64#32) 1#32)
      (IntOp.divsi ArithUnit.vector (BitVec.ofNat 32 j.val) 64#32) =
    BitVec.ofNat 32 (j.val / 64) := by
  decide +kernel

/-- The head of a lane. -/
theorem pay11_apply (l : Fin 128) (j : Fin 512) : k0_pay11 (ix2 l j) = BitVec.ofNat 32 (j.val/64) := by
  pointwise [k0_pay11]
  exact head_word j

/-- The kernel's choice among the eight heads' values is the value of the lane's head. -/
theorem chain (f : Fin 8 → EReal) (h : Fin 8) (w : BitVec 32) (hw : w = BitVec.ofNat 32 h.val) :
    Scalar.select (IntOp.cmpi CmpIPredicate.eq w 7#32) (f 7)
            (Scalar.select (IntOp.cmpi CmpIPredicate.eq w 6#32) (f 6)
              (Scalar.select (IntOp.cmpi CmpIPredicate.eq w 5#32) (f 5)
                (Scalar.select (IntOp.cmpi CmpIPredicate.eq w 4#32) (f 4)
                  (Scalar.select (IntOp.cmpi CmpIPredicate.eq w 3#32) (f 3)
                    (Scalar.select (IntOp.cmpi CmpIPredicate.eq w 2#32) (f 2)
                      (Scalar.select (IntOp.cmpi CmpIPredicate.eq w 1#32) (f 1)
                        (Scalar.select (IntOp.cmpi CmpIPredicate.eq w 0#32) (f 0) 0))))))) = f h := by
  subst hw
  fin_cases h <;> rfl

/-- The step size of a token in a lane. -/
theorem pay17_apply (D : Vec Ideal S128x128 .f32) (b : Vec Ideal S1x512 .f32) (l : Fin 128) (j : Fin 512) :
    k0_pay17 (k0_pay14 D k0_pay11 (k0_pay12 D) 1#32 b) (k0_pay15 D k0_pay11 (k0_pay12 D) 1#32 b) k0_pay16 (ix2 l j)
      = SsdSpec.sp (D (ix2 l ⟨j.val / 64, by have := j.isLt; omega⟩) + b (ix2 0 j)) := by
  have hj : j.val / 64 < 8 := by have := j.isLt; omega
  have h := chain (fun h : Fin 8 => (D (ix2 l ⟨h.val, by have := h.isLt; omega⟩) : EReal)) ⟨j.val / 64, hj⟩ (k0_pay11 (ix2 l j)) (pay11_apply l j)
  pointwise [k0_pay17, k0_pay14, k0_pay15, k0_pay16, k0_pay13, k0_pay12]
  unfold SsdSpec.sp
  refine Eq.trans ?_ (congrArg (fun e : EReal => max (e + b (ix2 0 j)) 0 + Ideal.log1p (Ideal.exp (0 - FloatOps.absf (F := Ideal) (φ := .f32) (e + b (ix2 0 j))))) h)
  rfl

/-- The decay exponents summed along the chunk. -/
theorem pay19_apply (a : Vec Ideal S1x512 .f32) (d1 d2 : FVec Ideal S128x512 .f32) (l : Fin 128) (j : Fin 512) :
    k0_pay19 d1 d2 k0_pay16 a (ix2 l j)
      = SsdSpec.acs (fun s j => k0_pay17 d1 d2 k0_pay16 (ix2 s j) * (0 - Ideal.exp (a (ix2 0 j)))) l j := by
  pointwise [k0_pay19]
  unfold SsdSpec.acs
  show (_ : EReal) = _
  refine Finset.sum_congr rfl fun s _ => ?_
  rw [pay18_apply]
  by_cases h : s ≤ l
  · rw [if_pos h, if_pos h]
    have e : (FloatOps.sitofp (F := Ideal) .f32 (BitVec.setWidth 32 1#1) : EReal) = 1 := by
      show ((((1#1 : BitVec 1).setWidth 32).toInt : ℝ) : EReal) = 1
      have : ((1#1 : BitVec 1).setWidth 32).toInt = 1 := by decide
      rw [this]; norm_num
    exact (congrArg (fun x : EReal => x * _) e).trans (one_mul _)
  · rw [if_neg h, if_neg h]
    have e : (FloatOps.sitofp (F := Ideal) .f32 (BitVec.setWidth 32 0#1) : EReal) = 0 := by
      show ((((0#1 : BitVec 1).setWidth 32).toInt : ℝ) : EReal) = 0
      have : ((0#1 : BitVec 1).setWidth 32).toInt = 0 := by decide
      rw [this]; norm_num
    exact (congrArg (fun x : EReal => x * _) e).trans (zero_mul _)

/-- The activations of a chunk from its convolution. -/
def XC (v : FVec Ideal S128x1024 .f32) : Fin 128 → Fin 1024 → EReal := fun l c => SsdSpec.silu (v (ix2 l c))

/-- The step sizes of a chunk. -/
def DT (d1 d2 : FVec Ideal S128x512 .f32) : Fin 128 → Fin 512 → EReal := fun l j => k0_pay17 d1 d2 k0_pay16 (ix2 l j)

/-- The summed decay exponents of a chunk. -/
def AA (d1 d2 : FVec Ideal S128x512 .f32) (a : Vec Ideal S1x512 .f32) : Fin 128 → Fin 512 → EReal := fun l j => k0_pay19 d1 d2 k0_pay16 a (ix2 l j)

/-- The values of a chunk times its step sizes. -/
def XD (v : FVec Ideal S128x1024 .f32) (d1 d2 : FVec Ideal S128x512 .f32) : Fin 128 → Fin 512 → EReal := fun l j => XC v l (SsdSpec.xcol j) * DT d1 d2 l j

/-- The new state of the first group's lanes. -/
theorem pay30_apply (v : FVec Ideal S128x1024 .f32) (d1 d2 : FVec Ideal S128x512 .f32) (a : Vec Ideal S1x512 .f32)
    (S : Vec Ideal S128x256 .f32) (T : Fin 128 → Fin 512 → EReal)
    (hS : ∀ (n : Fin 128) (j : Fin 256), S (ix2 n j) = T n ⟨j.val, by have := j.isLt; omega⟩) (n : Fin 128) (j : Fin 256) :
    k0_pay30 (k0_pay8 v) (k0_pay9 v) d1 d2 k0_pay16 a S (ix2 n j) = SsdSpec.next (XC v) (AA d1 d2 a) (XD v d1 d2) T n ⟨j.val, by have := j.isLt; omega⟩ := by
  have hj := j.isLt
  have hb : ∀ n : Fin 128, SsdSpec.bcol ⟨j.val, by omega⟩ n = ⟨512 + n.val, by have := n.isLt; omega⟩ := fun n => Fin.ext (by
    show 512 + 128 * (j.val / 256) + n.val = 512 + n.val
    omega)
  pointwise [k0_pay30, k0_pay8, k0_pay9, k0_pay7, k0_pay22, k0_pay20, k0_pay25, k0_pay23, k0_pay26]
  unfold SsdSpec.next
  simp only [hb]
  rw [hS]
  rfl

/-- The new state of the second group's lanes. -/
theorem pay45_apply (v : FVec Ideal S128x1024 .f32) (d1 d2 : FVec Ideal S128x512 .f32) (a : Vec Ideal S1x512 .f32)
    (S : Vec Ideal S128x256 .f32) (T : Fin 128 → Fin 512 → EReal)
    (hS : ∀ (n : Fin 128) (j : Fin 256), S (ix2 n j) = T n ⟨256 + j.val, by have := j.isLt; omega⟩) (n : Fin 128) (j : Fin 256) :
    k0_pay45 (k0_pay9 v) (k0_pay22 d1 d2 k0_pay16 a) (k0_pay25 (k0_pay8 v) d1 d2 k0_pay16 a) S (ix2 n j)
      = SsdSpec.next (XC v) (AA d1 d2 a) (XD v d1 d2) T n ⟨256 + j.val, by have := j.isLt; omega⟩ := by
  have hj := j.isLt
  have hb : ∀ n : Fin 128, SsdSpec.bcol ⟨256 + j.val, by omega⟩ n = ⟨512 + (128 + n.val), by have := n.isLt; omega⟩ := fun n => Fin.ext (by
    show 512 + 128 * ((256 + j.val) / 256) + n.val = 512 + (128 + n.val)
    omega)
  pointwise [k0_pay45, k0_pay8, k0_pay9, k0_pay7, k0_pay22, k0_pay20, k0_pay25, k0_pay23, k0_pay41]
  unfold SsdSpec.next
  simp only [hb]
  rw [hS]
  rfl

/-- The kernel's mask as a choice between two values. -/
theorem mask_select (l s : Fin 128) (x y : EReal) : Scalar.select (k0_pay18 (ix2 l s)) x y = if s ≤ l then x else y := by
  rw [pay18_apply]
  by_cases h : s ≤ l
  · rw [if_pos h, if_pos h]; rfl
  · rw [if_neg h, if_neg h]; rfl

/-- The half of a pair of heads a lane is in, on words. -/
theorem half_word : ∀ i : Fin 128, IntOp.cmpi CmpIPredicate.slt (BitVec.ofNat 32 i.val) 64#32 = if i.val < 64 then 1#1 else 0#1 := by
  decide +kernel

/-- The choice between the heads of a pair. -/
theorem half_select (i : Fin 128) (x y : EReal) : Scalar.select (IntOp.cmpi CmpIPredicate.slt (BitVec.ofNat 32 i.val) 64#32) x y = if i.val < 64 then x else y := by
  rw [half_word]
  by_cases h : i.val < 64
  · rw [if_pos h, if_pos h]; rfl
  · rw [if_neg h, if_neg h]; rfl

/-- The first pair of heads' output, before the skip. -/
theorem pay35_apply (v : FVec Ideal S128x1024 .f32) (d1 d2 : FVec Ideal S128x512 .f32) (a : Vec Ideal S1x512 .f32)
    (S : Vec Ideal S128x256 .f32) (T : Fin 128 → Fin 512 → EReal)
    (hS : ∀ (n : Fin 128) (j : Fin 256), S (ix2 n j) = T n ⟨j.val, by have := j.isLt; omega⟩) (l i : Fin 128) (j : Fin 512) (hj : j.val = i.val) :
    k0_pay35 k0_pay18 (k0_pay19 d1 d2 k0_pay16 a) (k0_pay21 d1 d2 k0_pay16 a) (k0_pay28 (k0_pay9 v) (k0_pay10 v)) (k0_pay29 (k0_pay10 v) S)
      (k0_pay31 d1 d2 k0_pay16 a) (k0_pay32 (k0_pay8 v) d1 d2 k0_pay16) (k0_pay33 d1 d2 k0_pay16 a) (k0_pay34 d1 d2 k0_pay16 a) (ix2 l i)
      = SsdSpec.yd (XC v) (AA d1 d2 a) (XD v d1 d2) l j + SsdSpec.yo (XC v) (AA d1 d2 a) T l j := by
  have hi := i.isLt
  have hb : ∀ n : Fin 128, SsdSpec.bcol j n = ⟨512 + n.val, by have := n.isLt; omega⟩ := fun n => Fin.ext (by
    show 512 + 128 * (j.val / 256) + n.val = 512 + n.val
    omega)
  have hc : ∀ n : Fin 128, SsdSpec.ccol j n = ⟨768 + n.val, by have := n.isLt; omega⟩ := fun n => Fin.ext (by
    show 768 + 128 * (j.val / 256) + n.val = 768 + n.val
    omega)
  rw [← SsdSpec.yd_of_half _ _ _ l j 0 64 i.val (by
    by_cases h : i.val < 64
    · rw [if_pos h]; exact Fin.ext (by show 64 * (j.val / 64) = 0; omega)
    · rw [if_neg h]; exact Fin.ext (by show 64 * (j.val / 64) = 64; omega))]
  unfold SsdSpec.yo SsdSpec.cb
  simp only [hb, hc]
  obtain rfl : j = ⟨i.val, Nat.lt_of_lt_of_le i.isLt (by decide)⟩ := Fin.ext hj
  pointwise [k0_pay35, k0_pay21, k0_pay28, k0_pay29, k0_pay31, k0_pay32, k0_pay33, k0_pay34, k0_pay24, k0_pay23, k0_pay8, k0_pay9, k0_pay10, k0_pay7, k0_pay26, k0_pay27]
  simp only [mask_select, half_select, hS]
  rfl

/-- The second pair of heads' output, before the skip. -/
theorem pay40_apply (v : FVec Ideal S128x1024 .f32) (d1 d2 : FVec Ideal S128x512 .f32) (a : Vec Ideal S1x512 .f32)
    (S : Vec Ideal S128x256 .f32) (T : Fin 128 → Fin 512 → EReal)
    (hS : ∀ (n : Fin 128) (j : Fin 256), S (ix2 n j) = T n ⟨j.val, by have := j.isLt; omega⟩) (l i : Fin 128) (j : Fin 512) (hj : j.val = 128 + i.val) :
    k0_pay40 (k0_pay21 d1 d2 k0_pay16 a) (k0_pay29 (k0_pay10 v) S) (k0_pay37 (k0_pay24 (k0_pay8 v) d1 d2 k0_pay16))
      (k0_pay38 k0_pay18 (k0_pay19 d1 d2 k0_pay16 a) (k0_pay24 (k0_pay8 v) d1 d2 k0_pay16) (k0_pay28 (k0_pay9 v) (k0_pay10 v)))
      (k0_pay39 k0_pay18 (k0_pay19 d1 d2 k0_pay16 a) (k0_pay28 (k0_pay9 v) (k0_pay10 v))) (constant S128x128 FTy.f32 0#32) (ix2 l i)
      = SsdSpec.yd (XC v) (AA d1 d2 a) (XD v d1 d2) l j + SsdSpec.yo (XC v) (AA d1 d2 a) T l j := by
  have hi := i.isLt
  have hb : ∀ n : Fin 128, SsdSpec.bcol j n = ⟨512 + n.val, by have := n.isLt; omega⟩ := fun n => Fin.ext (by
    show 512 + 128 * (j.val / 256) + n.val = 512 + n.val
    omega)
  have hc : ∀ n : Fin 128, SsdSpec.ccol j n = ⟨768 + n.val, by have := n.isLt; omega⟩ := fun n => Fin.ext (by
    show 768 + 128 * (j.val / 256) + n.val = 768 + n.val
    omega)
  rw [← SsdSpec.yd_of_half _ _ _ l j 128 192 i.val (by
    by_cases h : i.val < 64
    · rw [if_pos h]; exact Fin.ext (by show 64 * (j.val / 64) = 128; omega)
    · rw [if_neg h]; exact Fin.ext (by show 64 * (j.val / 64) = 192; omega))]
  unfold SsdSpec.yo SsdSpec.cb
  simp only [hb, hc]
  obtain rfl : j = ⟨128 + i.val, Nat.lt_of_lt_of_le (Nat.add_lt_add_left i.isLt 128) (by decide)⟩ := Fin.ext hj
  pointwise [k0_pay40, k0_pay36, k0_pay37, k0_pay38, k0_pay39, k0_pay21, k0_pay28, k0_pay29, k0_pay24, k0_pay23, k0_pay8, k0_pay9, k0_pay10, k0_pay7, k0_pay26, k0_pay27]
  simp only [mask_select, half_select, hS]
  rfl

set_option maxHeartbeats 1000000 in
/-- The output before the gate, from the first two pairs of heads' output. -/
theorem pay50_apply (v : FVec Ideal S128x1024 .f32) (d1 d2 : FVec Ideal S128x512 .f32) (a : Vec Ideal S1x512 .f32)
    (S : Vec Ideal S128x256 .f32) (T : Fin 128 → Fin 512 → EReal)
    (hS : ∀ (n : Fin 128) (j : Fin 256), S (ix2 n j) = T n ⟨256 + j.val, by have := j.isLt; omega⟩)
    (D : Vec Ideal S1x512 .f32) (p q : FVec Ideal S128x128 .f32)
    (hp : ∀ (l i : Fin 128) (j : Fin 512), j.val = i.val → p (ix2 l i) = SsdSpec.yd (XC v) (AA d1 d2 a) (XD v d1 d2) l j + SsdSpec.yo (XC v) (AA d1 d2 a) T l j)
    (hq : ∀ (l i : Fin 128) (j : Fin 512), j.val = 128 + i.val → q (ix2 l i) = SsdSpec.yd (XC v) (AA d1 d2 a) (XD v d1 d2) l j + SsdSpec.yo (XC v) (AA d1 d2 a) T l j)
    (l : Fin 128) (j : Fin 512) :
    k0_pay50 (k0_pay8 v) k0_pay18 (k0_pay19 d1 d2 k0_pay16 a) (k0_pay21 d1 d2 k0_pay16 a) (k0_pay24 (k0_pay8 v) d1 d2 k0_pay16) p q
       (k0_pay43 (k0_pay9 v) (k0_pay10 v)) (k0_pay44 (k0_pay10 v) S) (k0_pay47 (k0_pay24 (k0_pay8 v) d1 d2 k0_pay16))
       (k0_pay48 (k0_pay9 v) (k0_pay10 v) k0_pay18 (k0_pay19 d1 d2 k0_pay16 a) (k0_pay24 (k0_pay8 v) d1 d2 k0_pay16))
       (k0_pay49 (k0_pay9 v) (k0_pay10 v) k0_pay18 (k0_pay19 d1 d2 k0_pay16 a)) D (ix2 l j)
      = SsdSpec.y (XC v) (AA d1 d2 a) (XD v d1 d2) T (fun j => D (ix2 0 j)) l j := by
  have hj := j.isLt
  pointwise [k0_pay50]
  unfold SsdSpec.y
  refine congrArg₂ (fun x y : EReal => x + y) ?_ (by pointwise [k0_pay8, k0_pay7]; rfl)
  by_cases h1 : j.val < 128
  · simp only [dif_pos h1]
    exact hp l _ j rfl
  simp only [dif_neg h1]
  by_cases h2 : j.val - 128 < 128
  · simp only [dif_pos h2]
    exact hq l _ j (by show j.val = 128 + (j.val - 128); omega)
  simp only [dif_neg h2]
  have hb : ∀ n : Fin 128, SsdSpec.bcol j n = ⟨512 + (128 + n.val), by have := n.isLt; omega⟩ := fun n => Fin.ext (by
    show 512 + 128 * (j.val / 256) + n.val = 512 + (128 + n.val)
    omega)
  have hc : ∀ n : Fin 128, SsdSpec.ccol j n = ⟨768 + (128 + n.val), by have := n.isLt; omega⟩ := fun n => Fin.ext (by
    show 768 + 128 * (j.val / 256) + n.val = 768 + (128 + n.val)
    omega)
  by_cases h3 : j.val - 128 - 128 < 128
  · simp only [dif_pos h3]
    rw [← SsdSpec.yd_of_half _ _ _ l j 256 320 (j.val - 128 - 128) (by
      by_cases h : j.val - 128 - 128 < 64
      · rw [if_pos h]; exact Fin.ext (by show 64 * (j.val / 64) = 256; omega)
      · rw [if_neg h]; exact Fin.ext (by show 64 * (j.val / 64) = 320; omega))]
    unfold SsdSpec.yo SsdSpec.cb
    simp only [hb, hc]
    obtain ⟨i, hi⟩ : ∃ i : Fin 128, j = ⟨256 + i.val, Nat.lt_of_lt_of_le (Nat.add_lt_add_left i.isLt 256) (by decide)⟩ := ⟨⟨j.val - 128 - 128, h3⟩, Fin.ext (by show j.val = 256 + (j.val - 128 - 128); omega)⟩
    have hv : j.val - 128 - 128 = i.val := by
      have e := congrArg Fin.val hi
      dsimp only at e
      omega
    simp only [hv]
    pointwise [k0_pay36, k0_pay46, k0_pay47, k0_pay48, k0_pay49, k0_pay43, k0_pay44, k0_pay41, k0_pay42, k0_pay21, k0_pay24, k0_pay23, k0_pay8, k0_pay9, k0_pay10, k0_pay7]
    simp only [mask_select, half_select, hS]
    subst hi
    rfl
  · simp only [dif_neg h3]
    have h4 : j.val - 128 - 128 - 128 < 128 := by omega
    rw [← SsdSpec.yd_of_half _ _ _ l j 384 448 (j.val - 128 - 128 - 128) (by
      by_cases h : j.val - 128 - 128 - 128 < 64
      · rw [if_pos h]; exact Fin.ext (by show 64 * (j.val / 64) = 384; omega)
      · rw [if_neg h]; exact Fin.ext (by show 64 * (j.val / 64) = 448; omega))]
    unfold SsdSpec.yo SsdSpec.cb
    simp only [hb, hc]
    obtain ⟨i, hi⟩ : ∃ i : Fin 128, j = ⟨384 + i.val, Nat.lt_of_lt_of_le (Nat.add_lt_add_left i.isLt 384) (by decide)⟩ := ⟨⟨j.val - 128 - 128 - 128, h4⟩, Fin.ext (by show j.val = 384 + (j.val - 128 - 128 - 128); omega)⟩
    have hv : j.val - 128 - 128 - 128 = i.val := by
      have e := congrArg Fin.val hi
      dsimp only at e
      omega
    simp only [hv]
    pointwise [k0_pay36, k0_pay46, k0_pay47, k0_pay48, k0_pay49, k0_pay43, k0_pay44, k0_pay41, k0_pay42, k0_pay21, k0_pay24, k0_pay23, k0_pay8, k0_pay9, k0_pay10, k0_pay7]
    simp only [mask_select, half_select, hS]
    subst hi
    simp only [show ∀ h : 256 + (128 + i.val) < 512, (⟨256 + (128 + i.val), h⟩ : Fin 512) = ⟨384 + i.val, Nat.lt_of_lt_of_le (Nat.add_lt_add_left i.isLt 384) (by decide)⟩ from
      fun h => Fin.ext (by show 256 + (128 + i.val) = 384 + i.val; omega)]
    rfl

/-- The gated and normalised output. -/
theorem pay1_apply (y z : FVec Ideal S128x512 .f32) (g : Vec Ideal S1x512 .f32) (l : Fin 128) (j : Fin 512) :
    k0_pay1 y z g (ix2 l j) = SsdSpec.gate (fun k => y (ix2 l k) * SsdSpec.silu (z (ix2 l k))) (g (ix2 0 j)) j := by
  pointwise [k0_pay1]
  rfl

end Cert.SsdIdeal.Value
-- ==== Proof.SsdChunk.lean ====
/- The state-space layer over a whole sequence batch: the tokens stand in one column of 16384 rows, 128 chunks of 128
   tokens, sixteen chunks to a sequence. -/
module

public import proofs.«01_k».proof.Proof.SsdSpec

@[expose] public section

set_option maxRecDepth 16384

noncomputable section

open Idealize.ShloMosaic

namespace Cert.SsdSpec

/-- The layer's operands, entry by entry. -/
structure In where
  /-- The channels to convolve. -/
  X : Fin 16384 → Fin 1024 → EReal
  /-- The gates. -/
  Z : Fin 16384 → Fin 512 → EReal
  /-- The raw step sizes. -/
  Dt : Fin 16384 → Fin 8 → EReal
  /-- The convolution's four taps. -/
  W : Fin 4 → Fin 1024 → EReal
  /-- The convolution's bias. -/
  b : Fin 1024 → EReal
  /-- The step sizes' bias. -/
  db : Fin 8 → EReal
  /-- The logarithms of the decay rates. -/
  al : Fin 8 → EReal
  /-- The skip weights. -/
  D : Fin 8 → EReal
  /-- The normalisation's gains. -/
  g : Fin 512 → EReal

/-- Token `l` of chunk `t`. -/
def row (t : ℕ) (l : Fin 128) : Fin 16384 := ⟨(t * 128 + l.val) % 16384, Nat.mod_lt _ (by decide)⟩

/-- The head of a lane. -/
def head (j : Fin 512) : Fin 8 := ⟨j.val / 64, by have := j.isLt; omega⟩

variable (I : In)

/-- The convolution's operand at tap `k`: the token `3 - k` before, zero before the sequence's start. -/
def tap (t : ℕ) (l : Fin 128) (ch : Fin 1024) (k : ℕ) : EReal :=
  if t % 16 = 0 ∧ l.val + k < 3 then 0 else I.X ⟨(t * 128 + l.val + k - 3) % 16384, Nat.mod_lt _ (by decide)⟩ ch

/-- The convolution. -/
def conv (t : ℕ) (l : Fin 128) (ch : Fin 1024) : EReal :=
  I.b ch + I.W 0 ch * tap I t l ch 0 + I.W 1 ch * tap I t l ch 1 + I.W 2 ch * tap I t l ch 2 + I.W 3 ch * tap I t l ch 3

/-- The activations. -/
def xc (t : ℕ) (l : Fin 128) (ch : Fin 1024) : EReal := silu (conv I t l ch)

/-- The step sizes. -/
def dt (t : ℕ) (l : Fin 128) (j : Fin 512) : EReal := sp (I.Dt (row t l) (head j) + I.db (head j))

/-- The summed decay exponents. -/
def A (t : ℕ) : Fin 128 → Fin 512 → EReal := acs fun s j => dt I t s j * (0 - Ideal.exp (I.al (head j)))

/-- The values times their step sizes. -/
def xd (t : ℕ) (l : Fin 128) (j : Fin 512) : EReal := xc I t l (xcol j) * dt I t l j

/-- The state before chunk `t`: zero where a sequence starts. -/
def H : ℕ → Fin 128 → Fin 512 → EReal
  | 0 => fun _ _ => 0
  | t + 1 => if (t + 1) % 16 = 0 then fun _ _ => 0 else next (xc I t) (A I t) (xd I t) (H t)

/-- The state is zero where a sequence starts. -/
theorem H_start (t : ℕ) (h : t % 16 = 0) : H I t = fun _ _ => 0 := by
  cases t with
  | zero => rfl
  | succ t => exact if_pos h

/-- Elsewhere it is the step from the chunk before. -/
theorem H_succ (t : ℕ) (h : ¬ (t + 1) % 16 = 0) : H I (t + 1) = next (xc I t) (A I t) (xd I t) (H I t) := if_neg h

/-- The layer's gated output before its normalisation. -/
def gated (t : ℕ) (l : Fin 128) (k : Fin 512) : EReal :=
  y (xc I t) (A I t) (xd I t) (H I t) (fun j => I.D (head j)) l k * silu (I.Z (row t l) k)

/-- The layer's output. -/
def out (t : ℕ) (l : Fin 128) (j : Fin 512) : EReal := gate (gated I t l) (I.g j) j

end Cert.SsdSpec
-- ==== Proof.SsdState.lean ====
/- What the state-space kernel carries from chunk to chunk, and the block it writes. -/
module

public import proofs.«01_k».proof.Proof.SsdStep
public import proofs.«01_k».proof.Proof.SsdChunk

@[expose] public section

set_option maxRecDepth 16384

noncomputable section

open Idealize.ShloMosaic Idealize.ShloMosaic.TcCoe Idealize.SL.Sem
open Idealize.ShloMosaic.Pipeline (Dat)

namespace Cert.SsdIdeal.Value

open Cert.SsdIdeal Cert.SsdIdeal.Gen

variable (m : (ℓ : Loc nD τ sig) → Buf (Elt Ideal) ℓ) (c : Dev nD)

/-- The layer's operands as the kernel is given them. -/
def I : SsdSpec.In where
  X r ch := m ((c : Thread nD τ).loc main_arg0) (ix2 r ch)
  Z r j := m ((c : Thread nD τ).loc main_arg1) (ix2 r j)
  Dt r h := m ((c : Thread nD τ).loc main_arg2) (ix2 r ⟨h.val, Nat.lt_of_lt_of_le h.isLt (by decide)⟩)
  W k ch := m ((c : Thread nD τ).loc main_arg3) (ix2 k ch)
  b ch := m ((c : Thread nD τ).loc main_arg4) (ix1 ch)
  db h := m ((c : Thread nD τ).loc main_arg5) (ix1 h)
  al h := m ((c : Thread nD τ).loc main_arg6) (ix1 h)
  D h := m ((c : Thread nD τ).loc main_arg7) (ix1 h)
  g j := m ((c : Thread nD τ).loc main_arg8) (ix1 j)

/-- The blocks' places. -/
theorem idx : ∀ t : Fin cfg0.N, win0_0.index t = ![t.val, 0] ∧ win0_1.index t = ![t.val, 0] ∧ win0_2.index t = ![t.val, 0] ∧ win0_3.index t = ![0, 0] ∧ win0_4.index t = ![0, 0] ∧ win0_5.index t = ![0, 0] ∧ win0_6.index t = ![0, 0] ∧ win0_7.index t = ![0, 0] ∧ win0_8.index t = ![0, 0] ∧ win0_9.index t = ![t.val, 0] :=
  (by decide +kernel : ∀ t : Fin grid0.N, _)

/-- The convolution's bias as the kernel reads it. -/
theorem V_v0 (k : Fin 1024) : V m c main_v0 (ix2 0 k) = (I m c).b k := by
  have h : V m c main_v0 = broadcastInDim S1x1024 ![1] bcast_S1024_S1x1024_1 (m ((c : Thread nD τ).loc main_arg4)) := by
    unfold V
    simp only [List.flatten_cons, List.flatten_nil, List.append_nil, List.cons_append, List.nil_append]
    after_results <;> rfl
  rw [h]
  pointwise
  rfl

/-- The gains as the kernel reads them. -/
theorem V_v10 (k : Fin 512) : V m c main_v10 (ix2 0 k) = (I m c).g k := by
  have h : V m c main_v10 = broadcastInDim S1x512 ![1] bcast_S512_S1x512_1 (m ((c : Thread nD τ).loc main_arg8)) := by
    unfold V
    simp only [List.flatten_cons, List.flatten_nil, List.append_nil, List.cons_append, List.nil_append]
    after_results <;> rfl
  rw [h]
  pointwise
  rfl

/-- A value a head, laid out a value a lane. -/
theorem lanes_apply (x : FVec Ideal S8 .f32) (k : Fin 512) :
    broadcastInDim S1x512 ![1] bcast_S512_S1x512_1 (shapeCast S512 (broadcastInDim S8x64 ![0] bcast_S8_S8x64_0 x) shapeCasts_S8x64_S512) (ix2 0 k)
      = x (ix1 (SsdSpec.head k)) := by
  pointwise
  rfl

/-- The steps' bias as the kernel reads it. -/
theorem V_v3 (k : Fin 512) : V m c main_v3 (ix2 0 k) = (I m c).db (SsdSpec.head k) := by
  have h : V m c main_v3 = broadcastInDim S1x512 ![1] bcast_S512_S1x512_1 (shapeCast S512 (broadcastInDim S8x64 ![0] bcast_S8_S8x64_0 (m ((c : Thread nD τ).loc main_arg5))) shapeCasts_S8x64_S512) := by
    unfold V
    simp only [List.flatten_cons, List.flatten_nil, List.append_nil, List.cons_append, List.nil_append]
    after_results <;> rfl
  rw [h]
  exact lanes_apply _ k

/-- The decay rates' logarithms as the kernel reads them. -/
theorem V_v6 (k : Fin 512) : V m c main_v6 (ix2 0 k) = (I m c).al (SsdSpec.head k) := by
  have h : V m c main_v6 = broadcastInDim S1x512 ![1] bcast_S512_S1x512_1 (shapeCast S512 (broadcastInDim S8x64 ![0] bcast_S8_S8x64_0 (m ((c : Thread nD τ).loc main_arg6))) shapeCasts_S8x64_S512) := by
    unfold V
    simp only [List.flatten_cons, List.flatten_nil, List.append_nil, List.cons_append, List.nil_append]
    after_results <;> rfl
  rw [h]
  exact lanes_apply _ k

/-- The skip weights as the kernel reads them. -/
theorem V_v9 (k : Fin 512) : V m c main_v9 (ix2 0 k) = (I m c).D (SsdSpec.head k) := by
  have h : V m c main_v9 = broadcastInDim S1x512 ![1] bcast_S512_S1x512_1 (shapeCast S512 (broadcastInDim S8x64 ![0] bcast_S8_S8x64_0 (m ((c : Thread nD τ).loc main_arg7))) shapeCasts_S8x64_S512) := by
    unfold V
    simp only [List.flatten_cons, List.flatten_nil, List.append_nil, List.cons_append, List.nil_append]
    after_results <;> rfl
  rw [h]
  exact lanes_apply _ k

variable (t : Fin cfg0.N)

/-- There are 128 chunks. -/
theorem lt (t : Fin cfg0.N) : t.val < 128 := t.isLt

/-- A chunk's row of the column. -/
theorem row_val (l : Fin 128) : (SsdSpec.row t.val l).val = t.val * 128 + l.val := by
  have := lt t
  have := l.isLt
  show (t.val * 128 + l.val) % 16384 = _
  omega

/-- A chunk's channels. -/
theorem blk0 (l : Fin 128) (ch : Fin 1024) : iblk m c 0 t (ix2 l ch) = (I m c).X (SsdSpec.row t.val l) ch := by
  have := row_val t l
  show _ = m ((c : Thread nD τ).loc main_arg0) (ix2 (SsdSpec.row t.val l) ch)
  rw [← V_main_arg0 m c]
  blk_ext [iblk, idx t]

/-- A chunk's gates. -/
theorem blk1 (l : Fin 128) (j : Fin 512) : iblk m c 1 t (ix2 l j) = (I m c).Z (SsdSpec.row t.val l) j := by
  have := row_val t l
  show _ = m ((c : Thread nD τ).loc main_arg1) (ix2 (SsdSpec.row t.val l) j)
  rw [← V_main_arg1 m c]
  blk_ext [iblk, idx t]

/-- A chunk's raw step sizes. -/
theorem blk2 (l : Fin 128) (j : Fin 128) : iblk m c 2 t (ix2 l j) = m ((c : Thread nD τ).loc main_arg2) (ix2 (SsdSpec.row t.val l) j) := by
  have := row_val t l
  rw [← V_main_arg2 m c]
  blk_ext [iblk, idx t]

/-- The taps. -/
theorem blk3 (k : Fin 4) (ch : Fin 1024) : iblk m c 3 t (ix2 k ch) = (I m c).W k ch := by
  show _ = m ((c : Thread nD τ).loc main_arg3) (ix2 k ch)
  rw [← V_main_arg3 m c]
  blk_ext [iblk, idx t]

/-- The convolution's bias. -/
theorem blk4 (ch : Fin 1024) : iblk m c 4 t (ix2 0 ch) = (I m c).b ch := by
  rw [← V_v0]
  blk_ext [iblk, idx t]

/-- The steps' bias. -/
theorem blk5 (j : Fin 512) : iblk m c 5 t (ix2 0 j) = (I m c).db (SsdSpec.head j) := by
  rw [← V_v3]
  blk_ext [iblk, idx t]

/-- The decay rates' logarithms. -/
theorem blk6 (j : Fin 512) : iblk m c 6 t (ix2 0 j) = (I m c).al (SsdSpec.head j) := by
  rw [← V_v6]
  blk_ext [iblk, idx t]

/-- The skip weights. -/
theorem blk7 (j : Fin 512) : iblk m c 7 t (ix2 0 j) = (I m c).D (SsdSpec.head j) := by
  rw [← V_v9]
  blk_ext [iblk, idx t]

/-- The gains. -/
theorem blk8 (j : Fin 512) : iblk m c 8 t (ix2 0 j) = (I m c).g j := by
  rw [← V_v10]
  blk_ext [iblk, idx t]

end Cert.SsdIdeal.Value
-- ==== Proof.SsdConv.lean ====
/- The state-space kernel's convolution: the buffer of the chunk's rows behind the last rows of the chunk before. -/
module

public import proofs.«01_k».proof.Proof.SsdState

@[expose] public section

set_option maxRecDepth 16384

noncomputable section

open Idealize.ShloMosaic Idealize.ShloMosaic.TcCoe Idealize.SL.Sem
open Idealize.ShloMosaic.Pipeline (Dat)

namespace Cert.SsdIdeal.Value

open Cert.SsdIdeal Cert.SsdIdeal.Gen

variable (m : (ℓ : Loc nD τ sig) → Buf (Elt Ideal) ℓ) (c : Dev nD)

/-- A row of the buffer behind the first eight is a row of the piece written there. -/
theorem emb_hi (i : Fin 136) (ch : Fin 1024) (h : 8 ≤ i.val) :
    (ix2 i ch : S136x1024.Idx) = (Rect.unit ![8, 0] ![128, 1024] inb_S136x1024_S128x1024_8_0).emb (ix2 ⟨i.val - 8, by have := i.isLt; omega⟩ ch) := by
  funext a
  refine Fin.ext ?_
  rw [Rect.emb_apply]
  match a with
  | 0 => show i.val = 8 + 1 * (i.val - 8); omega
  | 1 => show ch.val = 0 + 1 * ch.val; omega

/-- A row of the first eight is a row of the piece written there. -/
theorem emb_lo (i : Fin 136) (ch : Fin 1024) (h : i.val < 8) :
    (ix2 i ch : S136x1024.Idx) = (Rect.unit ![0, 0] ![8, 1024] inb_S136x1024_S8x1024_0_0).emb (ix2 ⟨i.val, h⟩ ch) := by
  funext a
  refine Fin.ext ?_
  rw [Rect.emb_apply]
  match a with
  | 0 => show i.val = 0 + 1 * i.val; omega
  | 1 => show ch.val = 0 + 1 * ch.val; omega

/-- The first eight rows are not in the piece behind them. -/
theorem not_hi (i : Fin 136) (ch : Fin 1024) (h : i.val < 8) :
    (ix2 i ch : S136x1024.Idx) ∉ (Rect.unit ![8, 0] ![128, 1024] inb_S136x1024_S128x1024_8_0).set := by
  intro hm
  have := (Rect.mem_set_unit.mp hm 0).1
  have e : (8 : ℕ) ≤ i.val := this
  omega

/-- The rows behind the first eight are not in the piece of the first eight. -/
theorem not_lo (i : Fin 136) (ch : Fin 1024) (h : 8 ≤ i.val) :
    (ix2 i ch : S136x1024.Idx) ∉ (Rect.unit ![0, 0] ![8, 1024] inb_S136x1024_S8x1024_0_0).set := by
  intro hm
  have := (Rect.mem_set_unit.mp hm 0).2
  have e : i.val < 0 + 8 := this
  omega

/-- The buffer after a chunk's rows are written over what it held: the chunk behind the first eight rows. -/
theorem buf_B (hw : (Memref.whole cc0_scratch0).IsWhole) (P : Vec Ideal S136x1024 .f32) (Q : FVec Ideal S128x1024 .f32) (i : Fin 136) (ch : Fin 1024) :
    View.read (Elt Ideal) (View.whole cc0_scratch0) ((View.whole cc0_scratch0).writes (Elt Ideal) (hw.unread P)
      [⟨Rect.unit ![8, 0] ![128, 1024] inb_S136x1024_S128x1024_8_0, Q⟩]) (ix2 i ch)
      = if h : 8 ≤ i.val then Q (ix2 ⟨i.val - 8, by have := i.isLt; omega⟩ ch) else P (ix2 i ch) := by
  by_cases h : 8 ≤ i.val
  · rw [dif_pos h, emb_hi i ch h, View.read_writes_cons_emb]
  · rw [dif_neg h, View.writes_cons, View.read_slice_write_of_not_mem _ _ _ _ (by rw [Rect.map_emb_univ]; exact not_hi i ch (by omega)), View.writes_nil]
    exact congrFun (hw.read_unread P) (ix2 i ch)

/-- Off the last piece, the earlier pieces. -/
theorem canon_skip {s : Shape} (r : Rect s) (w : r.shape.Idx → EReal) (L : List (View.Piece (Elt Ideal) s .f32)) (y : s.Idx) (h : y ∉ r.set) :
    View.canon (Val := Elt Ideal) (e := .f32) (⟨r, w⟩ :: L) y = View.canon (Val := Elt Ideal) (e := .f32) L y :=
  View.canon_cons_of_not_mem _ L h

/-- The buffer after a sequence's first chunk is written over zeros. -/
theorem buf_A (Z : FVec Ideal S8x1024 .f32) (hZ : ∀ i ch, Z (ix2 i ch) = (0 : EReal)) (Q : FVec Ideal S128x1024 .f32) (i : Fin 136) (ch : Fin 1024) :
    View.canon (Val := Elt Ideal) (e := .f32) [⟨Rect.unit ![8, 0] ![128, 1024] inb_S136x1024_S128x1024_8_0, Q⟩, ⟨Rect.unit ![0, 0] ![8, 1024] inb_S136x1024_S8x1024_0_0, Z⟩] (ix2 i ch)
      = if h : 8 ≤ i.val then (Q (ix2 ⟨i.val - 8, by have := i.isLt; omega⟩ ch) : EReal) else (0 : EReal) := by
  by_cases h : 8 ≤ i.val
  · rw [dif_pos h, emb_hi i ch h, View.canon_cons_emb]
  · have hi : i.val < 8 := by omega
    rw [dif_neg h]
    refine (canon_skip _ _ _ _ (not_hi i ch hi)).trans ?_
    rw [emb_lo i ch hi]
    exact (View.canon_cons_emb _ _ _ _).trans (hZ _ _)

/-- The rows of the buffer a tap reads. -/
theorem tap_row (o : ℕ) (inb) (l : Fin 128) (ch : Fin 1024) :
    (Rect.unit (s := S136x1024) ![o, 0] ![128, 1024] inb).idx (ix2 l ch) = ix2 ⟨o + l.val, by have h := inb 0; have h' : o + 128 ≤ 136 := h; have := l.isLt; omega⟩ ch := by
  funext a
  refine Fin.ext ?_
  match a with
  | 0 => show o + 1 * l.val = o + l.val; omega
  | 1 => show 0 + 1 * ch.val = ch.val; omega

/-- The buffer's rows after a chunk: the first eight are the chunk's last eight. -/
theorem tail (t : Fin cfg0.N) (i : Fin 136) (ch : Fin 1024) (h : i.val < 8) :
    (outsAt0 m c t.val t.isLt).2.1 (ix2 i ch) = (I m c).X ⟨(t.val * 128 + 120 + i.val) % 16384, Nat.mod_lt _ (by decide)⟩ ch := by
  have key : ∀ L, View.canon (Val := Elt Ideal) (e := .f32) (⟨Rect.unit ![0, 0] ![8, 1024] inb_S136x1024_S8x1024_0_0,
          k0_pay6 ((View.whole cc0_scratch0).readCov
              (⟨Rect.unit ![8, 0] ![128, 1024] inb_S136x1024_S128x1024_8_0, k0_pay4 (iblk m c 0 t)⟩ :: L)
              (Rect.unit ![128, 0] ![8, 1024] inb_S136x1024_S8x1024_128_0).toLoadRect)⟩ ::
        ⟨Rect.unit ![8, 0] ![128, 1024] inb_S136x1024_S128x1024_8_0, k0_pay4 (iblk m c 0 t)⟩ :: L) (ix2 i ch)
      = (I m c).X ⟨(t.val * 128 + 120 + i.val) % 16384, Nat.mod_lt _ (by decide)⟩ ch := by
    intro L
    rw [emb_lo i ch h, View.canon_cons_emb]
    unfold k0_pay6
    rw [Idealize.ShloMosaic.shapeCast_id]
    rw [View.readCov_eq_canon']
    show View.canon _ _ = _
    have e : ∀ i : Fin 8, (Rect.unit (s := S136x1024) ![128, 0] ![8, 1024] inb_S136x1024_S8x1024_128_0).idx (ix2 i ch) = ix2 ⟨128 + i.val, by have := i.isLt; omega⟩ ch := by
      intro i
      funext a
      refine Fin.ext ?_
      match a with
      | 0 => show 128 + 1 * i.val = 128 + i.val; omega
      | 1 => show 0 + 1 * ch.val = ch.val; omega
    refine (congrArg (View.canon _) (e ⟨i.val, h⟩)).trans ?_
    rw [emb_hi _ ch (by show 8 ≤ 128 + i.val; omega), View.canon_cons_emb]
    unfold k0_pay4
    rw [Idealize.ShloMosaic.shapeCast_id, blk0]
    refine congrArg (fun r => (I m c).X r ch) (Fin.ext ?_)
    rw [row_val]
    have := lt t
    show t.val * 128 + (128 + i.val - 8) = (t.val * 128 + 120 + i.val) % 16384
    omega
  by_cases h0 : t.val % 16 = 0
  · rw [outsAt0_A m c t h0]; frame_out
    exact key _
  · rw [outsAt0_B m c t h0]; frame_out
    exact key _

/-- The kernel's convolution, from the buffer. -/
theorem pay5_apply (b w0 w1 w2 w3 : Vec Ideal S1x1024 .f32) (x0 x1 x2 x3 : Vec Ideal S128x1024 .f32) (l : Fin 128) (ch : Fin 1024) :
    k0_pay5 b w0 x0 w1 x1 w2 x2 w3 x3 (ix2 l ch)
      = b (ix2 0 ch) + w0 (ix2 0 ch) * x0 (ix2 l ch) + w1 (ix2 0 ch) * x1 (ix2 l ch) + w2 (ix2 0 ch) * x2 (ix2 l ch) + w3 (ix2 0 ch) * x3 (ix2 l ch) := by
  pointwise [k0_pay5]

/-- One row of the taps. -/
theorem tapw (t : Fin cfg0.N) (k : ℕ) (hk : k < 4) (inb) (ch : Fin 1024) :
    View.ld (Val := Elt Ideal) (e' := .f32) (iblk m c 3 t) (Rect.unit (s := S4x1024) ![k, 0] ![1, 1024] inb) (ix2 0 ch) = (I m c).W ⟨k, hk⟩ ch := by
  rw [← blk3 m c t]
  refine congrArg (iblk m c 3 t) ?_
  funext a
  refine Fin.ext ?_
  match a with
  | 0 => show k + 1 * 0 = k; omega
  | 1 => show 0 + 1 * ch.val = ch.val; omega

/-- A tap of a chunk behind another: the buffer's row. -/
theorem win_B (t : Fin cfg0.N) (h0 : ¬ t.val % 16 = 0) (hw : (Memref.whole cc0_scratch0).IsWhole) (ht : t.val - 1 < cfg0.N) (o k : ℕ) (ho : o = 5 + k) (hk : k < 4) (inb)
    (l : Fin 128) (ch : Fin 1024) :
    View.ld (View.read (Elt Ideal) (View.whole cc0_scratch0) ((View.whole cc0_scratch0).writes (Elt Ideal) (hw.unread (outsAt0 m c (t.val - 1) ht).2.1)
      [⟨Rect.unit ![8, 0] ![128, 1024] inb_S136x1024_S128x1024_8_0, k0_pay4 (iblk m c 0 t)⟩])) (Rect.unit (s := S136x1024) ![o, 0] ![128, 1024] inb) (ix2 l ch)
      = SsdSpec.tap (I m c) t.val l ch k := by
  have hl := l.isLt
  have htl := lt t
  refine (congrArg (View.read (Elt Ideal) (View.whole cc0_scratch0) _) (tap_row o inb l ch)).trans ?_
  rw [buf_B]
  unfold SsdSpec.tap
  rw [if_neg (fun h => h0 h.1)]
  by_cases h : 8 ≤ o + l.val
  · rw [dif_pos h]
    unfold k0_pay4
    rw [Idealize.ShloMosaic.shapeCast_id, blk0]
    refine congrArg (fun r => (I m c).X r ch) (Fin.ext ?_)
    rw [row_val]
    show t.val * 128 + (o + l.val - 8) = (t.val * 128 + l.val + k - 3) % 16384
    omega
  · rw [dif_neg h]
    refine (tail m c ⟨t.val - 1, ht⟩ _ ch (by show o + l.val < 8; omega)).trans ?_
    refine congrArg (fun r => (I m c).X r ch) (Fin.ext ?_)
    show ((t.val - 1) * 128 + 120 + (o + l.val)) % 16384 = (t.val * 128 + l.val + k - 3) % 16384
    omega

/-- A tap of a sequence's first chunk: the buffer's row. -/
theorem win_A (t : Fin cfg0.N) (h0 : t.val % 16 = 0) (o k : ℕ) (ho : o = 5 + k) (hk : k < 4) (inb)
    (l : Fin 128) (ch : Fin 1024) :
    (View.whole cc0_scratch0).readCov (Val := Elt Ideal) [⟨Rect.unit ![8, 0] ![128, 1024] inb_S136x1024_S128x1024_8_0, k0_pay4 (iblk m c 0 t)⟩,
        ⟨Rect.unit ![0, 0] ![8, 1024] inb_S136x1024_S8x1024_0_0, k0_pay2 (F := Ideal)⟩] (Rect.unit (s := S136x1024) ![o, 0] ![128, 1024] inb).toLoadRect (ix2 l ch)
      = SsdSpec.tap (I m c) t.val l ch k := by
  have hl := l.isLt
  have htl := lt t
  rw [View.readCov_eq_canon']
  refine (congrArg (View.canon _) (tap_row o inb l ch)).trans ?_
  rw [buf_A _ (fun i ch => by pointwise [k0_pay2])]
  unfold SsdSpec.tap
  by_cases h : 8 ≤ o + l.val
  · rw [dif_pos h, if_neg (by omega)]
    unfold k0_pay4
    rw [Idealize.ShloMosaic.shapeCast_id, blk0]
    refine congrArg (fun r => (I m c).X r ch) (Fin.ext ?_)
    rw [row_val]
    show t.val * 128 + (o + l.val - 8) = (t.val * 128 + l.val + k - 3) % 16384
    omega
  · rw [dif_neg h, if_pos (by omega)]

/-- The last tap is the chunk itself. -/
theorem win_3 (t : Fin cfg0.N) (L) (inb) (l : Fin 128) (ch : Fin 1024) :
    (View.whole cc0_scratch0).readCov (Val := Elt Ideal) (⟨Rect.unit ![8, 0] ![128, 1024] inb_S136x1024_S128x1024_8_0, k0_pay4 (iblk m c 0 t)⟩ :: L)
      (Rect.unit (s := S136x1024) ![8, 0] ![128, 1024] inb).toLoadRect (ix2 l ch)
      = SsdSpec.tap (I m c) t.val l ch 3 := by
  have hl := l.isLt
  have htl := lt t
  rw [View.readCov_eq_canon']
  refine (congrArg (View.canon _) (tap_row 8 inb l ch)).trans ?_
  rw [emb_hi _ ch (by show 8 ≤ 8 + l.val; omega), View.canon_cons_emb]
  unfold SsdSpec.tap k0_pay4
  rw [if_neg (by omega), Idealize.ShloMosaic.shapeCast_id, blk0]
  refine congrArg (fun r => (I m c).X r ch) (Fin.ext ?_)
  rw [row_val]
  show t.val * 128 + (8 + l.val - 8) = (t.val * 128 + l.val + 3 - 3) % 16384
  omega

end Cert.SsdIdeal.Value
-- ==== Proof.SsdCarry.lean ====
/- The state the kernel carries from chunk to chunk, and the block it writes at each. -/
module

public import proofs.«01_k».proof.Proof.SsdConv

@[expose] public section

set_option maxRecDepth 16384

noncomputable section

open Idealize.ShloMosaic Idealize.ShloMosaic.TcCoe Idealize.SL.Sem
open Idealize.ShloMosaic.Pipeline (Dat)

namespace Cert.SsdIdeal.Value

open Cert.SsdIdeal Cert.SsdIdeal.Gen

variable (m : (ℓ : Loc nD τ sig) → Buf (Elt Ideal) ℓ) (c : Dev nD)

/-- A lane of the first half of the states. -/
theorem emb_l (n : Fin 128) (j : Fin 256) :
    (Rect.unit (s := S128x512) ![0, 0] ![128, 256] inb_S128x512_S128x256_0_0).emb (ix2 n j) = ix2 n ⟨j.val, by have := j.isLt; omega⟩ := by
  funext a
  refine Fin.ext ?_
  rw [Rect.emb_apply]
  match a with
  | 0 => show 0 + 1 * n.val = n.val; omega
  | 1 => show 0 + 1 * j.val = j.val; omega

/-- A lane of the second half of the states. -/
theorem emb_r (n : Fin 128) (j : Fin 256) :
    (Rect.unit (s := S128x512) ![0, 256] ![128, 256] inb_S128x512_S128x256_0_256).emb (ix2 n j) = ix2 n ⟨256 + j.val, by have := j.isLt; omega⟩ := by
  funext a
  refine Fin.ext ?_
  rw [Rect.emb_apply]
  match a with
  | 0 => show 0 + 1 * n.val = n.val; omega
  | 1 => show 256 + 1 * j.val = 256 + j.val; omega

/-- A lane of all the states. -/
theorem emb_w (n : Fin 128) (j : Fin 512) :
    (Rect.unit (s := S128x512) ![0, 0] ![128, 512] inb_S128x512_S128x512_0_0).emb (ix2 n j) = ix2 n j := by
  funext a
  refine Fin.ext ?_
  rw [Rect.emb_apply]
  match a with
  | 0 => show 0 + 1 * n.val = n.val; omega
  | 1 => show 0 + 1 * j.val = j.val; omega

/-- A lane of the first half is not in the second. -/
theorem not_r (n : Fin 128) (j : Fin 512) (h : j.val < 256) :
    (ix2 n j : S128x512.Idx) ∉ (Rect.unit (s := S128x512) ![0, 256] ![128, 256] inb_S128x512_S128x256_0_256).set := by
  intro hm
  have e : (256 : ℕ) ≤ j.val := (Rect.mem_set_unit.mp hm 1).1
  omega

/-- A lane of the second half is not in the first. -/
theorem not_l (n : Fin 128) (j : Fin 512) (h : 256 ≤ j.val) :
    (ix2 n j : S128x512.Idx) ∉ (Rect.unit (s := S128x512) ![0, 0] ![128, 256] inb_S128x512_S128x256_0_0).set := by
  intro hm
  have e : j.val < 0 + 256 := (Rect.mem_set_unit.mp hm 1).2
  omega

/-- The states after their two halves are written. -/
theorem states (wr wl : S128x256.Idx → EReal) (L : List (View.Piece (Elt Ideal) S128x512 .f32)) (T : Fin 128 → Fin 512 → EReal)
    (hr : ∀ n (j : Fin 256), wr (ix2 n j) = T n ⟨256 + j.val, by have := j.isLt; omega⟩)
    (hl : ∀ n (j : Fin 256), wl (ix2 n j) = T n ⟨j.val, by have := j.isLt; omega⟩) (n : Fin 128) (j : Fin 512) :
    View.canon (Val := Elt Ideal) (e := .f32) (⟨Rect.unit ![0, 256] ![128, 256] inb_S128x512_S128x256_0_256, wr⟩ ::
      ⟨Rect.unit ![0, 0] ![128, 256] inb_S128x512_S128x256_0_0, wl⟩ :: L) (ix2 n j) = T n j := by
  have hj := j.isLt
  by_cases h : j.val < 256
  · refine (canon_skip _ _ _ _ (not_r n j h)).trans ?_
    have e := emb_l n ⟨j.val, h⟩
    have e' : (ix2 n j : S128x512.Idx) = _ := e.symm
    rw [e']
    exact (View.canon_cons_emb _ _ _ _).trans (hl n ⟨j.val, h⟩)
  · have e' : (ix2 n j : S128x512.Idx) = ix2 n ⟨256 + (j.val - 256), by omega⟩ := congrArg (ix2 n) (Fin.ext (by show j.val = 256 + (j.val - 256); omega))
    have e := (emb_r n ⟨j.val - 256, by omega⟩).symm
    rw [e'.trans e]
    refine (View.canon_cons_emb _ _ _ _).trans ((hr n ⟨j.val - 256, by omega⟩).trans ?_)
    exact congrArg (T n) (Fin.ext (by show 256 + (j.val - 256) = j.val; omega))

/-- The zero states. -/
theorem pay3_apply (n : Fin 128) (j : Fin 512) : k0_pay3 (F := Ideal) (ix2 n j) = (0 : EReal) := by
  pointwise [k0_pay3]

/-- The first half of the states at a sequence's start. -/
theorem zero_l (n : Fin 128) (j : Fin 256) :
    (View.whole cc0_scratch1).readCov (Val := Elt Ideal) [⟨Rect.unit ![0, 0] ![128, 512] inb_S128x512_S128x512_0_0, k0_pay3 (F := Ideal)⟩]
      (Rect.unit (s := S128x512) ![0, 0] ![128, 256] inb_S128x512_S128x256_0_0).toLoadRect (ix2 n j) = (0 : EReal) := by
  rw [View.readCov_eq_canon']
  refine (congrArg (View.canon _) ((emb_l n j).trans (emb_w n _).symm)).trans ?_
  exact (View.canon_cons_emb _ _ _ _).trans (pay3_apply n _)

/-- The second half of the states at a sequence's start. -/
theorem zero_r (wl : S128x256.Idx → EReal) (n : Fin 128) (j : Fin 256) :
    (View.whole cc0_scratch1).readCov (Val := Elt Ideal) [⟨Rect.unit ![0, 0] ![128, 256] inb_S128x512_S128x256_0_0, wl⟩,
        ⟨Rect.unit ![0, 0] ![128, 512] inb_S128x512_S128x512_0_0, k0_pay3 (F := Ideal)⟩]
      (Rect.unit (s := S128x512) ![0, 256] ![128, 256] inb_S128x512_S128x256_0_256).toLoadRect (ix2 n j) = (0 : EReal) := by
  rw [View.readCov_eq_canon']
  refine (congrArg (View.canon _) (emb_r n j)).trans ?_
  refine (canon_skip _ _ _ _ (not_l n _ (by show 256 ≤ 256 + j.val; omega))).trans ?_
  rw [← emb_w n]
  exact (View.canon_cons_emb _ _ _ _).trans (pay3_apply n _)

variable (t : Fin cfg0.N)

/-- The step sizes of a chunk. -/
theorem DT_eq : DT (k0_pay14 (iblk m c 2 t) k0_pay11 (k0_pay12 (iblk m c 2 t)) 1#32 (iblk m c 5 t)) (k0_pay15 (iblk m c 2 t) k0_pay11 (k0_pay12 (iblk m c 2 t)) 1#32 (iblk m c 5 t))
    = SsdSpec.dt (I m c) t.val := by
  funext l j
  unfold DT
  rw [pay17_apply, blk2, blk5]
  rfl

/-- The summed decay exponents of a chunk. -/
theorem AA_eq : AA (k0_pay14 (iblk m c 2 t) k0_pay11 (k0_pay12 (iblk m c 2 t)) 1#32 (iblk m c 5 t)) (k0_pay15 (iblk m c 2 t) k0_pay11 (k0_pay12 (iblk m c 2 t)) 1#32 (iblk m c 5 t)) (iblk m c 6 t)
    = SsdSpec.A (I m c) t.val := by
  funext l j
  unfold AA
  rw [pay19_apply]
  unfold SsdSpec.A
  refine congrFun (congrFun (congrArg SsdSpec.acs ?_) l) j
  funext s j
  rw [blk6]
  exact congrArg (· * _) (congrFun (congrFun (DT_eq m c t) s) j)

/-- The activations of a chunk. -/
theorem XC_eq (v : FVec Ideal S128x1024 .f32) (hv : ∀ l ch, v (ix2 l ch) = SsdSpec.conv (I m c) t.val l ch) : XC v = SsdSpec.xc (I m c) t.val := by
  funext l ch
  unfold XC
  rw [hv]
  rfl

/-- The values times their step sizes. -/
theorem XD_eq (v : FVec Ideal S128x1024 .f32) (hv : ∀ l ch, v (ix2 l ch) = SsdSpec.conv (I m c) t.val l ch) :
    XD v (k0_pay14 (iblk m c 2 t) k0_pay11 (k0_pay12 (iblk m c 2 t)) 1#32 (iblk m c 5 t)) (k0_pay15 (iblk m c 2 t) k0_pay11 (k0_pay12 (iblk m c 2 t)) 1#32 (iblk m c 5 t)) = SsdSpec.xd (I m c) t.val := by
  funext l j
  unfold XD
  rw [XC_eq m c t v hv, DT_eq]
  rfl

/-- The convolution at a sequence's first chunk, from its reads. -/
theorem conv_of (x0 x1 x2 x3 : Vec Ideal S128x1024 .f32) (w0 w1 w2 w3 : Vec Ideal S1x1024 .f32)
    (h0 : ∀ l ch, x0 (ix2 l ch) = SsdSpec.tap (I m c) t.val l ch 0) (h1 : ∀ l ch, x1 (ix2 l ch) = SsdSpec.tap (I m c) t.val l ch 1)
    (h2 : ∀ l ch, x2 (ix2 l ch) = SsdSpec.tap (I m c) t.val l ch 2) (h3 : ∀ l ch, x3 (ix2 l ch) = SsdSpec.tap (I m c) t.val l ch 3)
    (e0 : ∀ ch, w0 (ix2 0 ch) = (I m c).W 0 ch) (e1 : ∀ ch, w1 (ix2 0 ch) = (I m c).W 1 ch)
    (e2 : ∀ ch, w2 (ix2 0 ch) = (I m c).W 2 ch) (e3 : ∀ ch, w3 (ix2 0 ch) = (I m c).W 3 ch) (l : Fin 128) (ch : Fin 1024) :
    k0_pay5 (iblk m c 4 t) w0 x0 w1 x1 w2 x2 w3 x3 (ix2 l ch) = SsdSpec.conv (I m c) t.val l ch := by
  rw [pay5_apply, blk4, h0, h1, h2, h3, e0, e1, e2, e3]
  rfl

/-- The states after a chunk, at a sequence's start. -/
theorem carry_A (h0 : t.val % 16 = 0) (n : Fin 128) (j : Fin 512) :
    (outsAt0 m c t.val t.isLt).2.2 (ix2 n j) = SsdSpec.next (SsdSpec.xc (I m c) t.val) (SsdSpec.A (I m c) t.val) (SsdSpec.xd (I m c) t.val) (SsdSpec.H (I m c) t.val) n j := by
  rw [outsAt0_A m c t h0]; frame_out
  generalize hv : k0_pay5 (F := Ideal) _ _ _ _ _ _ _ _ _ = v
  have hc : ∀ l ch, v (ix2 l ch) = SsdSpec.conv (I m c) t.val l ch := by
    rw [← hv]
    exact conv_of m c t _ _ _ _ _ _ _ _ (win_A m c t h0 5 0 rfl (by decide) _) (win_A m c t h0 6 1 rfl (by decide) _) (win_A m c t h0 7 2 rfl (by decide) _)
      (win_3 m c t _ _) (tapw m c t 0 (by decide) _) (tapw m c t 1 (by decide) _) (tapw m c t 2 (by decide) _) (tapw m c t 3 (by decide) _)
  rw [SsdSpec.H_start _ _ h0, ← XC_eq m c t v hc, ← AA_eq m c t, ← XD_eq m c t v hc]
  exact states _ _ _ _ (fun n j => pay45_apply _ _ _ _ _ _ (zero_r _) n j) (fun n j => pay30_apply _ _ _ _ _ _ zero_l n j) n j

/-- The states after a chunk behind another. -/
theorem carry_B (h0 : ¬ t.val % 16 = 0) (ht : t.val - 1 < cfg0.N) (T : Fin 128 → Fin 512 → EReal)
    (hT : ∀ n j, (outsAt0 m c (t.val - 1) ht).2.2 (ix2 n j) = T n j) (n : Fin 128) (j : Fin 512) :
    (outsAt0 m c t.val t.isLt).2.2 (ix2 n j) = SsdSpec.next (SsdSpec.xc (I m c) t.val) (SsdSpec.A (I m c) t.val) (SsdSpec.xd (I m c) t.val) T n j := by
  rw [outsAt0_B m c t h0]; frame_out
  generalize hv : k0_pay5 (F := Ideal) _ _ _ _ _ _ _ _ _ = v
  have hc : ∀ l ch, v (ix2 l ch) = SsdSpec.conv (I m c) t.val l ch := by
    rw [← hv]
    exact conv_of m c t _ _ _ _ _ _ _ _ (win_B m c t h0 _ _ 5 0 rfl (by decide) _) (win_B m c t h0 _ _ 6 1 rfl (by decide) _) (win_B m c t h0 _ _ 7 2 rfl (by decide) _)
      (win_3 m c t _ _) (tapw m c t 0 (by decide) _) (tapw m c t 1 (by decide) _) (tapw m c t 2 (by decide) _) (tapw m c t 3 (by decide) _)
  rw [← XC_eq m c t v hc, ← AA_eq m c t, ← XD_eq m c t v hc]
  refine states _ _ _ _ (fun n j => pay45_apply _ _ _ _ _ _ (fun n j => ?_) n j) (fun n j => pay30_apply _ _ _ _ _ _ (fun n j => ?_) n j) n j
  · rw [← hT]
    refine (congrArg (View.read (Elt Ideal) (View.whole cc0_scratch1) _) (emb_r n j)).trans ?_
    exact congrFun ((Memref.isWhole_whole cc0_scratch1).read_unread _) _
  · rw [← hT]
    refine (congrArg (View.read (Elt Ideal) (View.whole cc0_scratch1) _) (emb_l n j)).trans ?_
    exact congrFun ((Memref.isWhole_whole cc0_scratch1).read_unread _) _

/-- The states after every chunk. -/
theorem carry : ∀ (n : ℕ) (hn : n < cfg0.N) (k : Fin 128) (j : Fin 512),
    (outsAt0 m c n hn).2.2 (ix2 k j) = SsdSpec.next (SsdSpec.xc (I m c) n) (SsdSpec.A (I m c) n) (SsdSpec.xd (I m c) n) (SsdSpec.H (I m c) n) k j := by
  intro n
  induction n with
  | zero => intro hn; exact carry_A m c ⟨0, hn⟩ rfl
  | succ n ih =>
    intro hn
    by_cases h0 : (n + 1) % 16 = 0
    · exact carry_A m c ⟨n + 1, hn⟩ h0
    · rw [SsdSpec.H_succ _ _ h0]
      exact carry_B m c ⟨n + 1, hn⟩ h0 (Nat.lt_of_succ_lt hn) _ (ih (Nat.lt_of_succ_lt hn))

/-- The block written at a chunk, from the states before it. -/
theorem block (v : FVec Ideal S128x1024 .f32) (d1 d2 : FVec Ideal S128x512 .f32) (a D g : Vec Ideal S1x512 .f32) (z : Vec Ideal S128x512 .f32) (Sl Sr : Vec Ideal S128x256 .f32)
    (T : Fin 128 → Fin 512 → EReal)
    (hl : ∀ (n : Fin 128) (j : Fin 256), Sl (ix2 n j) = T n ⟨j.val, by have := j.isLt; omega⟩)
    (hr : ∀ (n : Fin 128) (j : Fin 256), Sr (ix2 n j) = T n ⟨256 + j.val, by have := j.isLt; omega⟩) (l : Fin 128) (j : Fin 512) :
    k0_pay1 (k0_pay50 (k0_pay8 v) k0_pay18 (k0_pay19 d1 d2 k0_pay16 a) (k0_pay21 d1 d2 k0_pay16 a) (k0_pay24 (k0_pay8 v) d1 d2 k0_pay16)
        (k0_pay35 k0_pay18 (k0_pay19 d1 d2 k0_pay16 a) (k0_pay21 d1 d2 k0_pay16 a) (k0_pay28 (k0_pay9 v) (k0_pay10 v)) (k0_pay29 (k0_pay10 v) Sl)
          (k0_pay31 d1 d2 k0_pay16 a) (k0_pay32 (k0_pay8 v) d1 d2 k0_pay16) (k0_pay33 d1 d2 k0_pay16 a) (k0_pay34 d1 d2 k0_pay16 a))
        (k0_pay40 (k0_pay21 d1 d2 k0_pay16 a) (k0_pay29 (k0_pay10 v) Sl) (k0_pay37 (k0_pay24 (k0_pay8 v) d1 d2 k0_pay16))
          (k0_pay38 k0_pay18 (k0_pay19 d1 d2 k0_pay16 a) (k0_pay24 (k0_pay8 v) d1 d2 k0_pay16) (k0_pay28 (k0_pay9 v) (k0_pay10 v)))
          (k0_pay39 k0_pay18 (k0_pay19 d1 d2 k0_pay16 a) (k0_pay28 (k0_pay9 v) (k0_pay10 v))) (constant S128x128 FTy.f32 0#32))
        (k0_pay43 (k0_pay9 v) (k0_pay10 v)) (k0_pay44 (k0_pay10 v) Sr) (k0_pay47 (k0_pay24 (k0_pay8 v) d1 d2 k0_pay16))
        (k0_pay48 (k0_pay9 v) (k0_pay10 v) k0_pay18 (k0_pay19 d1 d2 k0_pay16 a) (k0_pay24 (k0_pay8 v) d1 d2 k0_pay16))
        (k0_pay49 (k0_pay9 v) (k0_pay10 v) k0_pay18 (k0_pay19 d1 d2 k0_pay16 a)) D) z g (ix2 l j)
      = SsdSpec.gate (fun k => SsdSpec.y (XC v) (AA d1 d2 a) (XD v d1 d2) T (fun j => D (ix2 0 j)) l k * SsdSpec.silu (z (ix2 l k))) (g (ix2 0 j)) j := by
  rw [pay1_apply]
  refine congrArg (fun u => SsdSpec.gate u _ j) (funext fun k => ?_)
  refine congrArg (· * SsdSpec.silu (z (ix2 l k))) ?_
  exact pay50_apply v d1 d2 a Sr T hr D _ _ (fun l i j hj => pay35_apply v d1 d2 a Sl T hl l i j hj) (fun l i j hj => pay40_apply v d1 d2 a Sl T hl l i j hj) l k

/-- The layer's output from a chunk's values. -/
theorem out_of (v : FVec Ideal S128x1024 .f32) (hv : ∀ l ch, v (ix2 l ch) = SsdSpec.conv (I m c) t.val l ch) (T : Fin 128 → Fin 512 → EReal) (hT : T = SsdSpec.H (I m c) t.val) (l : Fin 128) (j : Fin 512) :
    SsdSpec.gate (fun k => SsdSpec.y (XC v) (AA (k0_pay14 (iblk m c 2 t) k0_pay11 (k0_pay12 (iblk m c 2 t)) 1#32 (iblk m c 5 t)) (k0_pay15 (iblk m c 2 t) k0_pay11 (k0_pay12 (iblk m c 2 t)) 1#32 (iblk m c 5 t)) (iblk m c 6 t))
      (XD v (k0_pay14 (iblk m c 2 t) k0_pay11 (k0_pay12 (iblk m c 2 t)) 1#32 (iblk m c 5 t)) (k0_pay15 (iblk m c 2 t) k0_pay11 (k0_pay12 (iblk m c 2 t)) 1#32 (iblk m c 5 t))) T (fun j => iblk m c 7 t (ix2 0 j)) l k * SsdSpec.silu (iblk m c 1 t (ix2 l k))) (iblk m c 8 t (ix2 0 j)) j
      = SsdSpec.out (I m c) t.val l j := by
  rw [XC_eq m c t v hv, AA_eq m c t, XD_eq m c t v hv, hT, blk8]
  unfold SsdSpec.out
  refine congrArg (fun u => SsdSpec.gate u _ j) (funext fun k => ?_)
  unfold SsdSpec.gated
  rw [blk1]
  refine congrArg (fun D => SsdSpec.y _ _ _ _ D l k * _) (funext fun j => ?_)
  exact blk7 m c t j

/-- The block written at every chunk. -/
theorem written (l : Fin 128) (j : Fin 512) : (outsAt0 m c t.val t.isLt).1 (ix2 l j) = SsdSpec.out (I m c) t.val l j := by
  by_cases h0 : t.val % 16 = 0
  · rw [outsAt0_A m c t h0]; frame_out
    generalize hv : k0_pay5 (F := Ideal) _ _ _ _ _ _ _ _ _ = v
    have hc : ∀ l ch, v (ix2 l ch) = SsdSpec.conv (I m c) t.val l ch := by
      rw [← hv]
      exact conv_of m c t _ _ _ _ _ _ _ _ (win_A m c t h0 5 0 rfl (by decide) _) (win_A m c t h0 6 1 rfl (by decide) _) (win_A m c t h0 7 2 rfl (by decide) _)
        (win_3 m c t _ _) (tapw m c t 0 (by decide) _) (tapw m c t 1 (by decide) _) (tapw m c t 2 (by decide) _) (tapw m c t 3 (by decide) _)
    exact (block v _ _ _ _ _ _ _ _ (fun _ _ => 0) zero_l (zero_r _) l j).trans (out_of m c t v hc _ (SsdSpec.H_start _ _ h0).symm l j)
  · have ht : t.val - 1 < cfg0.N := by have := t.isLt; omega
    have hT : ∀ n j, (outsAt0 m c (t.val - 1) ht).2.2 (ix2 n j) = SsdSpec.H (I m c) t.val n j := by
      intro n j
      rw [carry m c (t.val - 1) ht, ← SsdSpec.H_succ _ _ (by omega)]
      exact congrFun (congrFun (congrArg (SsdSpec.H (I m c)) (by omega)) n) j
    rw [outsAt0_B m c t h0]; frame_out
    generalize hv : k0_pay5 (F := Ideal) _ _ _ _ _ _ _ _ _ = v
    have hc : ∀ l ch, v (ix2 l ch) = SsdSpec.conv (I m c) t.val l ch := by
      rw [← hv]
      exact conv_of m c t _ _ _ _ _ _ _ _ (win_B m c t h0 _ _ 5 0 rfl (by decide) _) (win_B m c t h0 _ _ 6 1 rfl (by decide) _) (win_B m c t h0 _ _ 7 2 rfl (by decide) _)
        (win_3 m c t _ _) (tapw m c t 0 (by decide) _) (tapw m c t 1 (by decide) _) (tapw m c t 2 (by decide) _) (tapw m c t 3 (by decide) _)
    refine (block v _ _ _ _ _ _ _ _ (SsdSpec.H (I m c) t.val) (fun n j => ?_) (fun n j => ?_) l j).trans (out_of m c t v hc _ rfl l j)
    · rw [← hT]
      refine (congrArg (View.read (Elt Ideal) (View.whole cc0_scratch1) _) (emb_l n j)).trans ?_
      exact congrFun ((Memref.isWhole_whole cc0_scratch1).read_unread _) _
    · rw [← hT]
      refine (congrArg (View.read (Elt Ideal) (View.whole cc0_scratch1) _) (emb_r n j)).trans ?_
      exact congrFun ((Memref.isWhole_whole cc0_scratch1).read_unread _) _

/-- The whole result, row by row. -/
def result : FVec Ideal S16384x512 .f32 := fun i => SsdSpec.out (I m c) ((i 0).val / 128) ⟨(i 0).val % 128, Nat.mod_lt _ (by decide)⟩ ⟨(i 1).val, (i 1).isLt⟩

/-- The result's array after the run. -/
theorem arr : (dats m 0 c).arrAt 9 (cfgs 0).N = result m c := by
  refine (dats m 0 c).arrAt_eq_of_covers 9 _ (by decide +kernel) fun t _ y => ?_
  blk_simp
  rw [after0_9]
  idx_vars y
  have e : result m c (ix2 (SsdSpec.row t.val y0) y1) = SsdSpec.out (I m c) t.val y0 y1 := by
    have hr := row_val t y0
    have hy := y0.isLt
    have e1 : (SsdSpec.row t.val y0).val / 128 = t.val := by omega
    have e2 : (⟨(SsdSpec.row t.val y0).val % 128, Nat.mod_lt _ (by decide)⟩ : Fin 128) = y0 := Fin.ext (by show (SsdSpec.row t.val y0).val % 128 = y0.val; omega)
    show SsdSpec.out (I m c) ((SsdSpec.row t.val y0).val / 128) ⟨(SsdSpec.row t.val y0).val % 128, _⟩ y1 = _
    rw [e1, e2]
  refine (written m c t y0 y1).trans (e.symm.trans ?_)
  have hr := row_val t y0
  blk_ext [idx t]

end Cert.SsdIdeal.Value
-- ==== Proof.SsdRefA.lean ====
/- The reference's operands of the recurrence: its convolution, activations and step sizes, entry by entry. -/
module

public import proofs.«01_k».proof.Proof.Gen.SsdRefIdeal.Read
public import proofs.«01_k».proof.Proof.SsdChunk
public import Idealize.ShloMosaic.Lib.Pipeline.ValueKit

@[expose] public section

set_option maxRecDepth 16384

noncomputable section

open Idealize.ShloMosaic

namespace Cert.SsdRefIdeal.Layer

open Cert.SsdRefIdeal Cert.SsdRefIdeal.Read Cert.SsdSpec

/-- The layer's operands as the reference is given them. -/
def inp (x0 : FVec Ideal S16384x1024 .f32) (x1 : FVec Ideal S16384x512 .f32) (x2 : FVec Ideal S16384x128 .f32) (x3 : FVec Ideal S4x1024 .f32)
    (x4 : FVec Ideal S1024 .f32) (x5 x6 x7 : FVec Ideal S8 .f32) (x8 : FVec Ideal S512 .f32) : In where
  X r ch := x0 (ix2 r ch)
  Z r j := x1 (ix2 r j)
  Dt r h := x2 (ix2 r ⟨h.val, Nat.lt_of_lt_of_le h.isLt (by decide)⟩)
  W k ch := x3 (ix2 k ch)
  b ch := x4 (ix1 ch)
  db h := x5 (ix1 h)
  al h := x6 (ix1 h)
  D h := x7 (ix1 h)
  g j := x8 (ix1 j)

variable (x0 : FVec Ideal S16384x1024 .f32) (x1 : FVec Ideal S16384x512 .f32) (x2 : FVec Ideal S16384x128 .f32) (x3 : FVec Ideal S4x1024 .f32)
  (x4 : FVec Ideal S1024 .f32) (x5 x6 x7 : FVec Ideal S8 .f32) (x8 : FVec Ideal S512 .f32)

/-- The chunk's number in the column of all chunks. -/
def tk (b : Fin 8) (c : Fin 16) : ℕ := b.val * 16 + c.val

/-- A chunk's token in its sequence. -/
def sq (c : Fin 16) (l : Fin 128) : Fin 2048 := ⟨c.val * 128 + l.val, by have := c.isLt; have := l.isLt; omega⟩

/-- The zero word is zero. -/
theorem sitofp_zero : (FloatOps.sitofp FTy.f32 0#32 : Ideal .f32) = (0 : EReal) := by
  show (((0#32 : BitVec 32).toInt : ℝ) : EReal) = 0
  simp

/-- The sequences with three zero tokens before each. -/
theorem v4 (b : Fin 8) (p : Fin 2051) (ch : Fin 1024) :
    val_main_v4 (F := Ideal) x0 (ix3 b p ch) = if h : 3 ≤ p.val then (x0 (ix2 ⟨b.val * 2048 + (p.val - 3), by have := b.isLt; have := p.isLt; omega⟩ ch) : EReal) else 0 := by
  have := p.isLt
  pointwise [val_main_v4, val_main_v0, val_main_call0_v0, val_main_c]
  by_cases h : 3 ≤ p.val
  · rw [dif_pos h, dif_pos ⟨h, by omega⟩]
  · rw [dif_neg h, dif_neg (fun h' => h h'.1)]
    exact sitofp_zero

/-- A tap of the convolution. -/
theorem tap_of (b : Fin 8) (c : Fin 16) (l : Fin 128) (ch : Fin 1024) (k : ℕ) (hk : k < 4) (p : Fin 2051) (hp : p.val = (sq c l).val + k) :
    val_main_v4 (F := Ideal) x0 (ix3 b p ch) = tap (inp x0 x1 x2 x3 x4 x5 x6 x7 x8) (tk b c) l ch k := by
  have hb := b.isLt
  have hc := c.isLt
  have hl := l.isLt
  have e1 : (sq c l).val = c.val * 128 + l.val := rfl
  have e2 : tk b c = b.val * 16 + c.val := rfl
  rw [v4]
  unfold tap
  by_cases h : 3 ≤ p.val
  · rw [dif_pos h, if_neg (by omega)]
    refine congrArg (fun r => x0 (ix2 r ch)) (Fin.ext ?_)
    show b.val * 2048 + (p.val - 3) = (tk b c * 128 + l.val + k - 3) % 16384
    omega
  · rw [dif_neg h, if_pos (by omega)]

/-- The convolution. -/
theorem v36 (b : Fin 8) (c : Fin 16) (l : Fin 128) (ch : Fin 1024) :
    val_main_v36 (F := Ideal) x0 x3 x4 (ix3 b (sq c l) ch) = conv (inp x0 x1 x2 x3 x4 x5 x6 x7 x8) (tk b c) l ch := by
  pointwise [val_main_v36, val_main_v35, val_main_v34, val_main_v33, val_main_v32, val_main_v31, val_main_v30, val_main_v29, val_main_v28, val_main_v27,
    val_main_v26, val_main_v25, val_main_v24, val_main_v23, val_main_v22, val_main_v21, val_main_v20, val_main_v19, val_main_v18, val_main_v17, val_main_v16,
    val_main_v15, val_main_v14, val_main_v13, val_main_v12, val_main_v11, val_main_cst, val_main_v10, val_main_v9, val_main_v8, val_main_v7, val_main_v6, val_main_v5]
  rw [tap_of x0 x1 x2 x3 x4 x5 x6 x7 x8 b c l ch 0 (by decide) _ (by show (sq c l).val = (sq c l).val + 0; omega), tap_of x0 x1 x2 x3 x4 x5 x6 x7 x8 b c l ch 1 (by decide) _ (by show 1 + (sq c l).val = _; omega),
    tap_of x0 x1 x2 x3 x4 x5 x6 x7 x8 b c l ch 2 (by decide) _ (by show 2 + (sq c l).val = _; omega), tap_of x0 x1 x2 x3 x4 x5 x6 x7 x8 b c l ch 3 (by decide) _ (by show 3 + (sq c l).val = _; omega)]
  unfold conv
  show (_ : EReal) * x3 (ix2 0 ch) + _ * x3 (ix2 1 ch) + _ * x3 (ix2 2 ch) + _ * x3 (ix2 3 ch) + x4 (ix1 ch)
    = x4 (ix1 ch) + x3 (ix2 0 ch) * _ + x3 (ix2 1 ch) * _ + x3 (ix2 2 ch) * _ + x3 (ix2 3 ch) * _
  rw [mul_comm (x3 (ix2 0 ch) : EReal), mul_comm (x3 (ix2 1 ch) : EReal), mul_comm (x3 (ix2 2 ch) : EReal), mul_comm (x3 (ix2 3 ch) : EReal)]
  rw [add_comm (_ : EReal) (x4 (ix1 ch) : EReal)]
  simp only [add_assoc]

/-- The activations. -/
theorem v37 (b : Fin 8) (c : Fin 16) (l : Fin 128) (ch : Fin 1024) :
    val_main_v37 (F := Ideal) x0 x3 x4 (ix3 b (sq c l) ch) = xc (inp x0 x1 x2 x3 x4 x5 x6 x7 x8) (tk b c) l ch := by
  pointwise [val_main_v37, val_main_call1_v5, val_main_call1_v4, val_main_call1_cst_0, val_main_call1_v3, val_main_call1_v2, val_main_call1_cst, val_main_call1_v1, val_main_call1_v0]
  rw [v36 x0 x1 x2 x3 x4 x5 x6 x7 x8]
  rfl

/-- The step sizes. -/
theorem v47 (b : Fin 8) (c : Fin 16) (l : Fin 128) (h : Fin 8) (j : Fin 512) (hj : head j = h) :
    val_main_v47 (F := Ideal) x2 x5 (ix3 b (sq c l) h) = dt (inp x0 x1 x2 x3 x4 x5 x6 x7 x8) (tk b c) l j := by
  pointwise [val_main_v47, val_main_call2_v11, val_main_call2_v10, val_main_call2_v9, val_main_call2_v8, val_main_call2_v7, val_main_call2_v6, val_main_call2_v5,
   val_main_call2_v4, val_main_call2_v3, val_main_call2_v2, val_main_call2_v1, val_main_call2_v0, val_main_call2_cst, val_main_v46, val_main_v45, val_main_v44, val_main_v3, val_main_v2]
  rw [if_neg (fun h => h rfl)]
  have e : (⟨b.val * 2048 + (sq c l).val, by have := b.isLt; have := (sq c l).isLt; omega⟩ : Fin 16384) = row (tk b c) l := Fin.ext (by
    have := b.isLt
    have := c.isLt
    have := l.isLt
    show b.val * 2048 + (c.val * 128 + l.val) = ((b.val * 16 + c.val) * 128 + l.val) % 16384
    omega)
  rw [e]
  subst hj
  unfold dt sp
  rw [zero_sub]
  rfl

end Cert.SsdRefIdeal.Layer
-- ==== Proof.SsdRefB.lean ====
/- The reference's chunks: what each chunk's own tokens contribute, and the state each adds. -/
module

public import proofs.«01_k».proof.Proof.SsdRefA

@[expose] public section

set_option maxRecDepth 16384

noncomputable section

open Idealize.ShloMosaic

namespace Cert.SsdRefIdeal.Layer

open Cert.SsdRefIdeal Cert.SsdRefIdeal.Read Cert.SsdSpec

/-- A running sum over a list is the starting value plus the list's sum. -/
theorem foldl_sum {α : Type} (g : α → EReal) (L : List α) (v : EReal) : L.foldl (fun r n => r + g n) v = v + (L.map g).sum := by
  induction L generalizing v with
  | nil => simp
  | cons a L ih => rw [List.foldl_cons, ih, List.map_cons, List.sum_cons, add_assoc]

/-- The positions of a window that spans the last of five axes are that axis's positions. -/
def lastEquiv : (⟨5, ![1, 1, 1, 1, 128]⟩ : Shape).Idx ≃ Fin 128 where
  toFun w := w 4
  invFun k := fun a => match a with
    | ⟨0, _⟩ => ⟨0, Nat.one_pos⟩
    | ⟨1, _⟩ => ⟨0, Nat.one_pos⟩
    | ⟨2, _⟩ => ⟨0, Nat.one_pos⟩
    | ⟨3, _⟩ => ⟨0, Nat.one_pos⟩
    | ⟨4, _⟩ => k
  left_inv w := by
    funext a
    match a with
    | ⟨0, _⟩ => exact Fin.ext (by have h : (w 0).val < 1 := (w 0).isLt; show 0 = (w 0).val; omega)
    | ⟨1, _⟩ => exact Fin.ext (by have h : (w 1).val < 1 := (w 1).isLt; show 0 = (w 1).val; omega)
    | ⟨2, _⟩ => exact Fin.ext (by have h : (w 2).val < 1 := (w 2).isLt; show 0 = (w 2).val; omega)
    | ⟨3, _⟩ => exact Fin.ext (by have h : (w 3).val < 1 := (w 3).isLt; show 0 = (w 3).val; omega)
    | ⟨4, _⟩ => rfl
  right_inv k := rfl

/-- The windows that end at `l` and reach below the first position hold the positions up to `l`. -/
theorem sum_shift (f : Fin 128 → EReal) (l : Fin 128) :
    (∑ k : Fin 128, if h : 127 ≤ l.val + k.val then f ⟨l.val + k.val - 127, by have := l.isLt; have := k.isLt; omega⟩ else 0)
      = ∑ s : Fin 128, if s ≤ l then f s else 0 := by
  rw [← Equiv.sum_comp (Equiv.addRight (l + 1)) fun s : Fin 128 => if s ≤ l then f s else 0]
  refine Finset.sum_congr rfl fun k _ => ?_
  have hl := l.isLt
  have hk := k.isLt
  have hv : (k + (l + 1)).val = (k.val + (l.val + 1)) % 128 := by
    rw [Fin.val_add, Fin.val_add]
    show (k.val + (l.val + 1) % 128) % 128 = _
    omega
  show _ = if k + (l + 1) ≤ l then f (k + (l + 1)) else 0
  by_cases h : 127 ≤ l.val + k.val
  · rw [dif_pos h, if_pos (Fin.le_def.2 (by rw [hv]; omega))]
    exact congrArg f (Fin.ext (by rw [hv]; show l.val + k.val - 127 = _; omega))
  · rw [dif_neg h, if_neg (fun hc => by have := Fin.le_def.1 hc; rw [hv] at this; omega)]

/-- A running sum over the last of five axes. -/
theorem cumsum_last (x : FVec Ideal S8x2x4x16x128 .f32) (init : S_.Idx → EReal) (hi : ∀ i, init i = 0)
    (h : S8x2x4x16x128.ReduceWindows ![1, 1, 1, 1, 128] ![1, 1, 1, 1, 1] ![0, 0, 0, 0, 127] ![0, 0, 0, 0, 0] S8x2x4x16x128) (hu : 0 < S_.numel)
    (b : Fin 8) (g : Fin 2) (e : Fin 4) (c : Fin 16) (l : Fin 128) :
    Host.reduceWindowAdd (F := Ideal) ![1, 1, 1, 1, 128] ![1, 1, 1, 1, 1] ![0, 0, 0, 0, 127] ![0, 0, 0, 0, 0] x init h hu (ix5 b g e c l)
      = ∑ s : Fin 128, if s ≤ l then x (ix5 b g e c s) else 0 := by
  rw [← sum_shift (fun s => x (ix5 b g e c s)) l]
  show (List.finRange _).foldl (fun (r : EReal) n => r + _) (init (Shape.Idx.first hu)) = _
  rw [foldl_sum, hi, zero_add, ← Fin.sum_univ_def]
  rw [← Equiv.sum_comp (lastEquiv.symm.trans (⟨5, ![1, 1, 1, 1, 128]⟩ : Shape).rowMajor)]
  refine Finset.sum_congr rfl fun k _ => ?_
  have hl := l.isLt
  have hk := k.isLt
  simp only [Equiv.trans_apply, Equiv.symm_apply_apply]
  by_cases hw : 127 ≤ l.val + k.val
  · rw [dif_pos hw, dif_pos (by
      intro a
      match a with
      | ⟨0, _⟩ => show 0 ≤ b.val * 1 + 0 ∧ b.val * 1 + 0 - 0 < 8; have := b.isLt; omega
      | ⟨1, _⟩ => show 0 ≤ g.val * 1 + 0 ∧ g.val * 1 + 0 - 0 < 2; have := g.isLt; omega
      | ⟨2, _⟩ => show 0 ≤ e.val * 1 + 0 ∧ e.val * 1 + 0 - 0 < 4; have := e.isLt; omega
      | ⟨3, _⟩ => show 0 ≤ c.val * 1 + 0 ∧ c.val * 1 + 0 - 0 < 16; have := c.isLt; omega
      | ⟨4, _⟩ => show 127 ≤ l.val * 1 + k.val ∧ l.val * 1 + k.val - 127 < 128; omega)]
    refine congrArg x (funext fun a => Fin.ext ?_)
    match a with
    | ⟨0, _⟩ => show b.val * 1 + 0 - 0 = b.val; omega
    | ⟨1, _⟩ => show g.val * 1 + 0 - 0 = g.val; omega
    | ⟨2, _⟩ => show e.val * 1 + 0 - 0 = e.val; omega
    | ⟨3, _⟩ => show c.val * 1 + 0 - 0 = c.val; omega
    | ⟨4, _⟩ => show l.val * 1 + k.val - 127 = l.val + k.val - 127; omega
  · rw [dif_neg hw, dif_neg (fun hc => hw (by
      have h4 := (hc 4).1
      change 127 ≤ l.val * 1 + k.val at h4
      omega))]

variable (x0 : FVec Ideal S16384x1024 .f32) (x1 : FVec Ideal S16384x512 .f32) (x2 : FVec Ideal S16384x128 .f32) (x3 : FVec Ideal S4x1024 .f32)
  (x4 : FVec Ideal S1024 .f32) (x5 x6 x7 : FVec Ideal S8 .f32) (x8 : FVec Ideal S512 .f32)

/-- The lane of a group's head. -/
def lane (g : Fin 2) (e : Fin 4) (p : Fin 64) : Fin 512 := ⟨(g.val * 4 + e.val) * 64 + p.val, by have := g.isLt; have := e.isLt; have := p.isLt; omega⟩

/-- The values times their step sizes. -/
theorem v56 (b : Fin 8) (c : Fin 16) (l : Fin 128) (g : Fin 2) (e : Fin 4) (p : Fin 64) :
    val_main_v56 (F := Ideal) x0 x2 x3 x4 x5 (ix6 b c l g e p) = xd (inp x0 x1 x2 x3 x4 x5 x6 x7 x8) (tk b c) l (lane g e p) := by
  have hb := b.isLt; have hc := c.isLt; have hl := l.isLt; have hg := g.isLt; have he := e.isLt; have hp := p.isLt
  unfold val_main_v56
  refine (shapeCast_apply _ _ (ix6 b c l g e p) (ix4 b (sq c l) (⟨g.val * 4 + e.val, by omega⟩ : Fin 8) p) ?_).trans ?_
  · rw [Shape.rowMajor_val_four, rowMajor_val6 _ 1048576 65536 512 256 64 rfl rfl rfl rfl rfl]
    show ((b.val * 2048 + (c.val * 128 + l.val)) * 8 + (g.val * 4 + e.val)) * 64 + p.val
      = b.val * 1048576 + c.val * 65536 + l.val * 512 + g.val * 256 + e.val * 64 + p.val
    omega
  pointwise [val_main_v52, val_main_v51, val_main_v50, val_main_v39, val_main_v38]
  unfold xd
  rw [← v37, ← v47 x0 x1 x2 x3 x4 x5 x6 x7 x8 b c l (⟨g.val * 4 + e.val, by omega⟩ : Fin 8) (lane g e p) (Fin.ext (by show ((g.val * 4 + e.val) * 64 + p.val) / 64 = g.val * 4 + e.val; omega))]
  rfl

/-- The decay exponents. -/
theorem v58 (b : Fin 8) (c : Fin 16) (l : Fin 128) (g : Fin 2) (e : Fin 4) (p : Fin 64) :
    val_main_v58 (F := Ideal) x2 x5 x6 (ix5 b g e c l) = dt (inp x0 x1 x2 x3 x4 x5 x6 x7 x8) (tk b c) l (lane g e p) * (0 - Ideal.exp (x6 (ix1 (head (lane g e p))))) := by
  have hg := g.isLt; have he := e.isLt; have hp := p.isLt
  have hh : head (lane g e p) = (⟨g.val * 4 + e.val, by omega⟩ : Fin 8) := Fin.ext (by show ((g.val * 4 + e.val) * 64 + p.val) / 64 = g.val * 4 + e.val; omega)
  pointwise [val_main_v58, val_main_v57, val_main_v55, val_main_v54, val_main_v53, val_main_v49, val_main_v48]
  rw [hh, zero_sub, ← v47 x0 x1 x2 x3 x4 x5 x6 x7 x8 b c l _ (lane g e p) hh]
  rfl

/-- The input maps. -/
theorem v59 (b : Fin 8) (c : Fin 16) (l : Fin 128) (g : Fin 2) (e : Fin 4) (p : Fin 64) (n : Fin 128) :
    val_main_v59 (F := Ideal) x0 x3 x4 (ix5 b c l g n) = xc (inp x0 x1 x2 x3 x4 x5 x6 x7 x8) (tk b c) l (bcol (lane g e p) n) := by
  have hg := g.isLt; have he := e.isLt; have hp := p.isLt; have hn := n.isLt
  pointwise [val_main_v59, val_main_v41, val_main_v40]
  rw [← v37]
  refine congrArg (fun ch => val_main_v37 (F := Ideal) x0 x3 x4 (ix3 b (sq c l) ch)) (Fin.ext ?_)
  show 512 + (g.val * 128 + n.val) = 512 + 128 * (((g.val * 4 + e.val) * 64 + p.val) / 256) + n.val
  omega

/-- The output maps. -/
theorem v60 (b : Fin 8) (c : Fin 16) (l : Fin 128) (g : Fin 2) (e : Fin 4) (p : Fin 64) (n : Fin 128) :
    val_main_v60 (F := Ideal) x0 x3 x4 (ix5 b c l g n) = xc (inp x0 x1 x2 x3 x4 x5 x6 x7 x8) (tk b c) l (ccol (lane g e p) n) := by
  have hg := g.isLt; have he := e.isLt; have hp := p.isLt; have hn := n.isLt
  pointwise [val_main_v60, val_main_v43, val_main_v42]
  rw [← v37]
  refine congrArg (fun ch => val_main_v37 (F := Ideal) x0 x3 x4 (ix3 b (sq c l) ch)) (Fin.ext ?_)
  show 768 + (g.val * 128 + n.val) = 768 + 128 * (((g.val * 4 + e.val) * 64 + p.val) / 256) + n.val
  omega

/-- The summed decay exponents. -/
theorem v61 (b : Fin 8) (c : Fin 16) (l : Fin 128) (g : Fin 2) (e : Fin 4) (p : Fin 64) :
    val_main_v61 (F := Ideal) x2 x5 x6 (ix5 b g e c l) = A (inp x0 x1 x2 x3 x4 x5 x6 x7 x8) (tk b c) l (lane g e p) := by
  unfold val_main_v61
  rw [cumsum_last _ _ (fun i => by
    rw [val_main_call3_call0_v0_apply]
    exact Ideal.ofBits_zero .f32)]
  unfold A acs
  refine Finset.sum_congr rfl fun s _ => ?_
  rw [v58 x0 x1 x2 x3 x4 x5 x6 x7 x8 b c s g e p]
  rfl

/-- The lower triangle. -/
theorem v63 (l s : Fin 128) : val_main_v63 (F := Ideal) (ix2 l s) = if s ≤ l then 1#1 else 0#1 := by
  have hm : ∀ l s : Fin 128, Scalar.select (IntOp.cmpi CmpIPredicate.sge (IntOp.addi (BitVec.ofNat 32 l.val) 0#32) (BitVec.ofNat 32 s.val)) 1#1 0#1 = if s ≤ l then 1#1 else 0#1 := by
    decide +kernel
  pointwise [val_main_v63, val_main_call4_v4, val_main_v62, val_main_call4_v5, val_main_c_0, val_main_call4_c_0, val_main_call4_v3, val_main_call4_v2, val_main_call4_v1, val_main_call4_v0, val_main_call4_c]
  exact hm l s

/-- The decays between tokens. -/
theorem v70 (b : Fin 8) (c : Fin 16) (l s : Fin 128) (g : Fin 2) (e : Fin 4) (p : Fin 64) :
    val_main_v70 (F := Ideal) x2 x5 x6 (ix6 b g e c l s) = seg (A (inp x0 x1 x2 x3 x4 x5 x6 x7 x8) (tk b c)) (lane g e p) l s := by
  have hg := g.isLt; have he := e.isLt; have hp := p.isLt
  have hh : hd (lane g e p) = lane g e 0 := Fin.ext (by show 64 * (((g.val * 4 + e.val) * 64 + p.val) / 64) = (g.val * 4 + e.val) * 64 + 0; omega)
  pointwise [val_main_v70, val_main_v69, val_main_v68, val_main_v67, val_main_v66, val_main_v65, val_main_v64, val_main_call5_v1, val_main_call5_v2, val_main_call5_v0, val_main_cst_1]
  unfold seg
  rw [v63, hh, v61 x0 x1 x2 x3 x4 x5 x6 x7 x8 b c l g e 0, v61 x0 x1 x2 x3 x4 x5 x6 x7 x8 b c s g e 0]
  by_cases h : s ≤ l
  · rw [if_pos h, if_pos h]
    rfl
  · rw [if_neg h, if_neg h]
    rfl

/-- The products of the maps. -/
theorem v71 (b : Fin 8) (c : Fin 16) (l s : Fin 128) (g : Fin 2) (e : Fin 4) (p : Fin 64) :
    val_main_v71 (F := Ideal) x0 x3 x4 (ix5 b g c l s) = cb (xc (inp x0 x1 x2 x3 x4 x5 x6 x7 x8) (tk b c)) (lane g e p) l s := by
  rw [val_main_v71_apply]
  refine Finset.sum_congr rfl fun k _ => ?_
  have el : lidx_main_v71 (ix5 b g c l s) k = ix5 b c l g k := by
    funext a
    match a with
    | ⟨0, _⟩ => rfl
    | ⟨1, _⟩ => rfl
    | ⟨2, _⟩ => rfl
    | ⟨3, _⟩ => rfl
    | ⟨4, _⟩ => rfl
  have er : ridx_main_v71 (ix5 b g c l s) k = ix5 b c s g k := by
    funext a
    match a with
    | ⟨0, _⟩ => rfl
    | ⟨1, _⟩ => rfl
    | ⟨2, _⟩ => rfl
    | ⟨3, _⟩ => rfl
    | ⟨4, _⟩ => rfl
  rw [el, er, v60 x0 x1 x2 x3 x4 x5 x6 x7 x8 b c l g e p k, v59 x0 x1 x2 x3 x4 x5 x6 x7 x8 b c s g e p k]

/-- The products of the maps times the decays. -/
theorem v74 (b : Fin 8) (c : Fin 16) (l s : Fin 128) (g : Fin 2) (e : Fin 4) (p : Fin 64) :
    val_main_v74 (F := Ideal) x0 x2 x3 x4 x5 x6 (ix6 b g e c l s) = cb (xc (inp x0 x1 x2 x3 x4 x5 x6 x7 x8) (tk b c)) (lane g e p) l s * seg (A (inp x0 x1 x2 x3 x4 x5 x6 x7 x8) (tk b c)) (lane g e p) l s := by
  rw [val_main_v74_apply, val_main_v73_apply, val_main_v72_apply, v70 x0 x1 x2 x3 x4 x5 x6 x7 x8 b c l s g e p, ← v71 x0 x1 x2 x3 x4 x5 x6 x7 x8 b c l s g e p]
  refine congrArg (fun i => val_main_v71 (F := Ideal) x0 x3 x4 i * _) ?_
  funext a
  match a with
  | ⟨0, _⟩ => rfl
  | ⟨1, _⟩ => rfl
  | ⟨2, _⟩ => rfl
  | ⟨3, _⟩ => rfl
  | ⟨4, _⟩ => rfl

/-- What the chunk's own tokens contribute. -/
theorem v75 (b : Fin 8) (c : Fin 16) (l : Fin 128) (g : Fin 2) (e : Fin 4) (p : Fin 64) :
    val_main_v75 (F := Ideal) x0 x2 x3 x4 x5 x6 (ix6 b c g e p l) = yd (xc (inp x0 x1 x2 x3 x4 x5 x6 x7 x8) (tk b c)) (A (inp x0 x1 x2 x3 x4 x5 x6 x7 x8) (tk b c)) (xd (inp x0 x1 x2 x3 x4 x5 x6 x7 x8) (tk b c)) l (lane g e p) := by
  rw [val_main_v75_apply]
  refine Finset.sum_congr rfl fun s _ => ?_
  have el : lidx_main_v75 (ix6 b c g e p l) s = ix6 b c s g e p := by
    funext a
    match a with
    | ⟨0, _⟩ => rfl
    | ⟨1, _⟩ => rfl
    | ⟨2, _⟩ => rfl
    | ⟨3, _⟩ => rfl
    | ⟨4, _⟩ => rfl
    | ⟨5, _⟩ => rfl
  have er : ridx_main_v75 (ix6 b c g e p l) s = ix6 b g e c l s := by
    funext a
    match a with
    | ⟨0, _⟩ => rfl
    | ⟨1, _⟩ => rfl
    | ⟨2, _⟩ => rfl
    | ⟨3, _⟩ => rfl
    | ⟨4, _⟩ => rfl
    | ⟨5, _⟩ => rfl
  rw [el, er, v56 x0 x1 x2 x3 x4 x5 x6 x7 x8 b c s g e p, v74 x0 x1 x2 x3 x4 x5 x6 x7 x8 b c l s g e p]
  exact mul_comm _ _

/-- The decay from a token to the chunk's end. -/
theorem v81 (b : Fin 8) (c : Fin 16) (s : Fin 128) (g : Fin 2) (e : Fin 4) (p : Fin 64) :
    val_main_v81 (F := Ideal) x2 x5 x6 (ix5 b c s g e) = Ideal.exp (A (inp x0 x1 x2 x3 x4 x5 x6 x7 x8) (tk b c) 127 (lane g e p) - A (inp x0 x1 x2 x3 x4 x5 x6 x7 x8) (tk b c) s (lane g e p)) := by
  pointwise [val_main_v81, val_main_v80, val_main_v79, val_main_v78, val_main_v77]
  rw [v61 x0 x1 x2 x3 x4 x5 x6 x7 x8 b c 127 g e p, v61 x0 x1 x2 x3 x4 x5 x6 x7 x8 b c s g e p]

/-- The values times their step sizes and the decay to the chunk's end. -/
theorem v84 (b : Fin 8) (c : Fin 16) (s : Fin 128) (g : Fin 2) (e : Fin 4) (p : Fin 64) :
    val_main_v84 (F := Ideal) x0 x2 x3 x4 x5 x6 (ix6 b c s g e p) = xd (inp x0 x1 x2 x3 x4 x5 x6 x7 x8) (tk b c) s (lane g e p) *
      Ideal.exp (A (inp x0 x1 x2 x3 x4 x5 x6 x7 x8) (tk b c) 127 (lane g e p) - A (inp x0 x1 x2 x3 x4 x5 x6 x7 x8) (tk b c) s (lane g e p)) := by
  rw [val_main_v84_apply, val_main_v83_apply, val_main_v82_apply, v56 x0 x1 x2 x3 x4 x5 x6 x7 x8 b c s g e p, ← v81 x0 x1 x2 x3 x4 x5 x6 x7 x8 b c s g e p]
  refine congrArg (fun i => xd (inp x0 x1 x2 x3 x4 x5 x6 x7 x8) (tk b c) s (lane g e p) * val_main_v81 (F := Ideal) x2 x5 x6 i) ?_
  funext a
  match a with
  | ⟨0, _⟩ => rfl
  | ⟨1, _⟩ => rfl
  | ⟨2, _⟩ => rfl
  | ⟨3, _⟩ => rfl
  | ⟨4, _⟩ => rfl

/-- The state a chunk adds. -/
theorem v85 (b : Fin 8) (c : Fin 16) (n : Fin 128) (g : Fin 2) (e : Fin 4) (p : Fin 64) :
    val_main_v85 (F := Ideal) x0 x2 x3 x4 x5 x6 (ix6 b c g e p n) = ∑ s : Fin 128, xc (inp x0 x1 x2 x3 x4 x5 x6 x7 x8) (tk b c) s (bcol (lane g e p) n) *
      (xd (inp x0 x1 x2 x3 x4 x5 x6 x7 x8) (tk b c) s (lane g e p) * Ideal.exp (A (inp x0 x1 x2 x3 x4 x5 x6 x7 x8) (tk b c) 127 (lane g e p) - A (inp x0 x1 x2 x3 x4 x5 x6 x7 x8) (tk b c) s (lane g e p))) := by
  rw [val_main_v85_apply]
  refine Finset.sum_congr rfl fun s _ => ?_
  have el : lidx_main_v85 (ix6 b c g e p n) s = ix6 b c s g e p := by
    funext a
    match a with
    | ⟨0, _⟩ => rfl
    | ⟨1, _⟩ => rfl
    | ⟨2, _⟩ => rfl
    | ⟨3, _⟩ => rfl
    | ⟨4, _⟩ => rfl
    | ⟨5, _⟩ => rfl
  have er : ridx_main_v85 (ix6 b c g e p n) s = ix5 b c s g n := by
    funext a
    match a with
    | ⟨0, _⟩ => rfl
    | ⟨1, _⟩ => rfl
    | ⟨2, _⟩ => rfl
    | ⟨3, _⟩ => rfl
    | ⟨4, _⟩ => rfl
  rw [el, er, v84 x0 x1 x2 x3 x4 x5 x6 x7 x8 b c s g e p, v59 x0 x1 x2 x3 x4 x5 x6 x7 x8 b c s g e p n]
  exact mul_comm _ _

/-- The states the chunks add, the chunk axis first. -/
theorem v93 (b : Fin 8) (c : Fin 16) (n : Fin 128) (g : Fin 2) (e : Fin 4) (p : Fin 64) :
    val_main_v93 (F := Ideal) x0 x2 x3 x4 x5 x6 (ix6 c b g e p n) = ∑ s : Fin 128, xc (inp x0 x1 x2 x3 x4 x5 x6 x7 x8) (tk b c) s (bcol (lane g e p) n) *
      (xd (inp x0 x1 x2 x3 x4 x5 x6 x7 x8) (tk b c) s (lane g e p) * Ideal.exp (A (inp x0 x1 x2 x3 x4 x5 x6 x7 x8) (tk b c) 127 (lane g e p) - A (inp x0 x1 x2 x3 x4 x5 x6 x7 x8) (tk b c) s (lane g e p))) := by
  rw [val_main_v93_apply, val_main_v90_apply, ← v85 x0 x1 x2 x3 x4 x5 x6 x7 x8 b c n g e p]
  refine congrArg (val_main_v85 (F := Ideal) x0 x2 x3 x4 x5 x6) (funext fun a => ?_)
  match a with
  | ⟨0, _⟩ => rfl
  | ⟨1, _⟩ => rfl
  | ⟨2, _⟩ => rfl
  | ⟨3, _⟩ => rfl
  | ⟨4, _⟩ => rfl
  | ⟨5, _⟩ => rfl

/-- The decays over whole chunks, the chunk axis first. -/
theorem v95 (b : Fin 8) (c : Fin 16) (g : Fin 2) (e : Fin 4) (p : Fin 64) :
    val_main_v95 (F := Ideal) x2 x5 x6 (ix4 c b g e) = Ideal.exp (A (inp x0 x1 x2 x3 x4 x5 x6 x7 x8) (tk b c) 127 (lane g e p)) := by
  pointwise [val_main_v95, val_main_v91, val_main_v88, val_main_v87, val_main_v86]
  rw [v61 x0 x1 x2 x3 x4 x5 x6 x7 x8 b c 127 g e p]

end Cert.SsdRefIdeal.Layer
-- ==== Proof.SsdRefC.lean ====
/- The reference's states: the state before each chunk, step by step, and the stack of them. -/
module

public import proofs.«01_k».proof.Proof.SsdRefB

@[expose] public section

set_option maxRecDepth 16384

noncomputable section

open Idealize.ShloMosaic

namespace Cert.SsdRefIdeal.Layer

open Cert.SsdRefIdeal Cert.SsdRefIdeal.Read Cert.SsdSpec

variable (x0 : FVec Ideal S16384x1024 .f32) (x1 : FVec Ideal S16384x512 .f32) (x2 : FVec Ideal S16384x128 .f32) (x3 : FVec Ideal S4x1024 .f32)
  (x4 : FVec Ideal S1024 .f32) (x5 x6 x7 : FVec Ideal S8 .f32) (x8 : FVec Ideal S512 .f32)

/-- Dropping a leading axis of one element. -/
theorem drop_first (y : FVec Ideal S1x8x2x4x64x128 .f32) (h : S1x8x2x4x64x128.ShapeCasts S8x2x4x64x128) (b : Fin 8) (g : Fin 2) (e : Fin 4) (p : Fin 64) (n : Fin 128) :
    shapeCast S8x2x4x64x128 y h (ix5 b g e p n) = y (ix6 0 b g e p n) := by
  refine shapeCast_apply _ _ _ _ ?_
  rw [Shape.rowMajor_val_five, rowMajor_val6 _ 524288 65536 32768 8192 128 rfl rfl rfl rfl rfl]
  show 0 * 524288 + b.val * 65536 + g.val * 32768 + e.val * 8192 + p.val * 128 + n.val
    = (((b.val * 2 + g.val) * 4 + e.val) * 64 + p.val) * 128 + n.val
  omega

/-- The state after a step, from the state before it. -/
theorem step (b : Fin 8) (k : ℕ) (hk : k < 15) (g : Fin 2) (e : Fin 4) (p : Fin 64) (n : Fin 128) (u v w : EReal)
    (hu : u = H (inp x0 x1 x2 x3 x4 x5 x6 x7 x8) (tk b ⟨k, by omega⟩) n (lane g e p))
    (hv : v = val_main_v95 (F := Ideal) x2 x5 x6 (ix4 ⟨k, by omega⟩ b g e))
    (hw : w = val_main_v93 (F := Ideal) x0 x2 x3 x4 x5 x6 (ix6 ⟨k, by omega⟩ b g e p n)) :
    u * v + w = H (inp x0 x1 x2 x3 x4 x5 x6 x7 x8) (tk b ⟨k + 1, by omega⟩) n (lane g e p) := by
  have e1 : tk b ⟨k + 1, by omega⟩ = tk b ⟨k, by omega⟩ + 1 := by unfold tk; show b.val * 16 + (k + 1) = b.val * 16 + k + 1; omega
  have e2 : ¬ (tk b ⟨k, by omega⟩ + 1) % 16 = 0 := by unfold tk; show ¬ (b.val * 16 + k + 1) % 16 = 0; omega
  rw [e1, H_succ _ _ e2, hu, hv, hw, v95 x0 x1 x2 x3 x4 x5 x6 x7 x8 b ⟨k, by omega⟩ g e p, v93 x0 x1 x2 x3 x4 x5 x6 x7 x8 b ⟨k, by omega⟩ n g e p]
  rfl

/-- The state before a sequence's first chunk. -/
theorem v89 (b : Fin 8) (g : Fin 2) (e : Fin 4) (p : Fin 64) (n : Fin 128) :
    val_main_v89 (F := Ideal) (ix5 b g e p n) = H (inp x0 x1 x2 x3 x4 x5 x6 x7 x8) (tk b ⟨0, by omega⟩) n (lane g e p) := by
  rw [H_start _ _ (by unfold tk; show (b.val * 16 + 0) % 16 = 0; omega), val_main_v89_apply]
  exact Ideal.ofBits_zero .f32

/-- The decay over chunk 0. -/
theorem v102 (b : Fin 8) (g : Fin 2) (e : Fin 4) (p : Fin 64) (n : Fin 128) :
    val_main_v102 (F := Ideal) x2 x5 x6 (ix5 b g e p n) = val_main_v95 (F := Ideal) x2 x5 x6 (ix4 ⟨0, by omega⟩ b g e) := by
  pointwise [val_main_v102, val_main_v101, val_main_v100, val_main_v99]

/-- The state chunk 0 adds. -/
theorem v98 (b : Fin 8) (g : Fin 2) (e : Fin 4) (p : Fin 64) (n : Fin 128) :
    val_main_v98 (F := Ideal) x0 x2 x3 x4 x5 x6 (ix5 b g e p n) = val_main_v93 (F := Ideal) x0 x2 x3 x4 x5 x6 (ix6 ⟨0, by omega⟩ b g e p n) := by
  unfold val_main_v98
  rw [drop_first, val_main_v97_apply]
  refine congrArg (val_main_v93 (F := Ideal) x0 x2 x3 x4 x5 x6) (funext fun a => Fin.ext ?_)
  match a with
  | ⟨0, _⟩ => rfl
  | ⟨1, _⟩ => rfl
  | ⟨2, _⟩ => rfl
  | ⟨3, _⟩ => rfl
  | ⟨4, _⟩ => rfl
  | ⟨5, _⟩ => rfl

/-- The state before chunk 1. -/
theorem v104 (b : Fin 8) (g : Fin 2) (e : Fin 4) (p : Fin 64) (n : Fin 128) :
    val_main_v104 (F := Ideal) x0 x2 x3 x4 x5 x6 (ix5 b g e p n) = H (inp x0 x1 x2 x3 x4 x5 x6 x7 x8) (tk b ⟨1, by omega⟩) n (lane g e p) := by
  rw [val_main_v104_apply, val_main_v103_apply]
  exact step x0 x1 x2 x3 x4 x5 x6 x7 x8 b 0 (by omega) g e p n _ _ _ (v89 x0 x1 x2 x3 x4 x5 x6 x7 x8 b g e p n) (v102 x2 x5 x6 b g e p n) (v98 x0 x2 x3 x4 x5 x6 b g e p n)

/-- The decay over chunk 1. -/
theorem v110 (b : Fin 8) (g : Fin 2) (e : Fin 4) (p : Fin 64) (n : Fin 128) :
    val_main_v110 (F := Ideal) x2 x5 x6 (ix5 b g e p n) = val_main_v95 (F := Ideal) x2 x5 x6 (ix4 ⟨1, by omega⟩ b g e) := by
  pointwise [val_main_v110, val_main_v109, val_main_v108, val_main_v107]

/-- The state chunk 1 adds. -/
theorem v106 (b : Fin 8) (g : Fin 2) (e : Fin 4) (p : Fin 64) (n : Fin 128) :
    val_main_v106 (F := Ideal) x0 x2 x3 x4 x5 x6 (ix5 b g e p n) = val_main_v93 (F := Ideal) x0 x2 x3 x4 x5 x6 (ix6 ⟨1, by omega⟩ b g e p n) := by
  unfold val_main_v106
  rw [drop_first, val_main_v105_apply]
  refine congrArg (val_main_v93 (F := Ideal) x0 x2 x3 x4 x5 x6) (funext fun a => Fin.ext ?_)
  match a with
  | ⟨0, _⟩ => rfl
  | ⟨1, _⟩ => rfl
  | ⟨2, _⟩ => rfl
  | ⟨3, _⟩ => rfl
  | ⟨4, _⟩ => rfl
  | ⟨5, _⟩ => rfl

/-- The state before chunk 2. -/
theorem v112 (b : Fin 8) (g : Fin 2) (e : Fin 4) (p : Fin 64) (n : Fin 128) :
    val_main_v112 (F := Ideal) x0 x2 x3 x4 x5 x6 (ix5 b g e p n) = H (inp x0 x1 x2 x3 x4 x5 x6 x7 x8) (tk b ⟨2, by omega⟩) n (lane g e p) := by
  rw [val_main_v112_apply, val_main_v111_apply]
  exact step x0 x1 x2 x3 x4 x5 x6 x7 x8 b 1 (by omega) g e p n _ _ _ (v104 x0 x1 x2 x3 x4 x5 x6 x7 x8 b g e p n) (v110 x2 x5 x6 b g e p n) (v106 x0 x2 x3 x4 x5 x6 b g e p n)

/-- The decay over chunk 2. -/
theorem v118 (b : Fin 8) (g : Fin 2) (e : Fin 4) (p : Fin 64) (n : Fin 128) :
    val_main_v118 (F := Ideal) x2 x5 x6 (ix5 b g e p n) = val_main_v95 (F := Ideal) x2 x5 x6 (ix4 ⟨2, by omega⟩ b g e) := by
  pointwise [val_main_v118, val_main_v117, val_main_v116, val_main_v115]

/-- The state chunk 2 adds. -/
theorem v114 (b : Fin 8) (g : Fin 2) (e : Fin 4) (p : Fin 64) (n : Fin 128) :
    val_main_v114 (F := Ideal) x0 x2 x3 x4 x5 x6 (ix5 b g e p n) = val_main_v93 (F := Ideal) x0 x2 x3 x4 x5 x6 (ix6 ⟨2, by omega⟩ b g e p n) := by
  unfold val_main_v114
  rw [drop_first, val_main_v113_apply]
  refine congrArg (val_main_v93 (F := Ideal) x0 x2 x3 x4 x5 x6) (funext fun a => Fin.ext ?_)
  match a with
  | ⟨0, _⟩ => rfl
  | ⟨1, _⟩ => rfl
  | ⟨2, _⟩ => rfl
  | ⟨3, _⟩ => rfl
  | ⟨4, _⟩ => rfl
  | ⟨5, _⟩ => rfl

/-- The state before chunk 3. -/
theorem v120 (b : Fin 8) (g : Fin 2) (e : Fin 4) (p : Fin 64) (n : Fin 128) :
    val_main_v120 (F := Ideal) x0 x2 x3 x4 x5 x6 (ix5 b g e p n) = H (inp x0 x1 x2 x3 x4 x5 x6 x7 x8) (tk b ⟨3, by omega⟩) n (lane g e p) := by
  rw [val_main_v120_apply, val_main_v119_apply]
  exact step x0 x1 x2 x3 x4 x5 x6 x7 x8 b 2 (by omega) g e p n _ _ _ (v112 x0 x1 x2 x3 x4 x5 x6 x7 x8 b g e p n) (v118 x2 x5 x6 b g e p n) (v114 x0 x2 x3 x4 x5 x6 b g e p n)

/-- The decay over chunk 3. -/
theorem v126 (b : Fin 8) (g : Fin 2) (e : Fin 4) (p : Fin 64) (n : Fin 128) :
    val_main_v126 (F := Ideal) x2 x5 x6 (ix5 b g e p n) = val_main_v95 (F := Ideal) x2 x5 x6 (ix4 ⟨3, by omega⟩ b g e) := by
  pointwise [val_main_v126, val_main_v125, val_main_v124, val_main_v123]

/-- The state chunk 3 adds. -/
theorem v122 (b : Fin 8) (g : Fin 2) (e : Fin 4) (p : Fin 64) (n : Fin 128) :
    val_main_v122 (F := Ideal) x0 x2 x3 x4 x5 x6 (ix5 b g e p n) = val_main_v93 (F := Ideal) x0 x2 x3 x4 x5 x6 (ix6 ⟨3, by omega⟩ b g e p n) := by
  unfold val_main_v122
  rw [drop_first, val_main_v121_apply]
  refine congrArg (val_main_v93 (F := Ideal) x0 x2 x3 x4 x5 x6) (funext fun a => Fin.ext ?_)
  match a with
  | ⟨0, _⟩ => rfl
  | ⟨1, _⟩ => rfl
  | ⟨2, _⟩ => rfl
  | ⟨3, _⟩ => rfl
  | ⟨4, _⟩ => rfl
  | ⟨5, _⟩ => rfl

/-- The state before chunk 4. -/
theorem v128 (b : Fin 8) (g : Fin 2) (e : Fin 4) (p : Fin 64) (n : Fin 128) :
    val_main_v128 (F := Ideal) x0 x2 x3 x4 x5 x6 (ix5 b g e p n) = H (inp x0 x1 x2 x3 x4 x5 x6 x7 x8) (tk b ⟨4, by omega⟩) n (lane g e p) := by
  rw [val_main_v128_apply, val_main_v127_apply]
  exact step x0 x1 x2 x3 x4 x5 x6 x7 x8 b 3 (by omega) g e p n _ _ _ (v120 x0 x1 x2 x3 x4 x5 x6 x7 x8 b g e p n) (v126 x2 x5 x6 b g e p n) (v122 x0 x2 x3 x4 x5 x6 b g e p n)

/-- The decay over chunk 4. -/
theorem v134 (b : Fin 8) (g : Fin 2) (e : Fin 4) (p : Fin 64) (n : Fin 128) :
    val_main_v134 (F := Ideal) x2 x5 x6 (ix5 b g e p n) = val_main_v95 (F := Ideal) x2 x5 x6 (ix4 ⟨4, by omega⟩ b g e) := by
  pointwise [val_main_v134, val_main_v133, val_main_v132, val_main_v131]

/-- The state chunk 4 adds. -/
theorem v130 (b : Fin 8) (g : Fin 2) (e : Fin 4) (p : Fin 64) (n : Fin 128) :
    val_main_v130 (F := Ideal) x0 x2 x3 x4 x5 x6 (ix5 b g e p n) = val_main_v93 (F := Ideal) x0 x2 x3 x4 x5 x6 (ix6 ⟨4, by omega⟩ b g e p n) := by
  unfold val_main_v130
  rw [drop_first, val_main_v129_apply]
  refine congrArg (val_main_v93 (F := Ideal) x0 x2 x3 x4 x5 x6) (funext fun a => Fin.ext ?_)
  match a with
  | ⟨0, _⟩ => rfl
  | ⟨1, _⟩ => rfl
  | ⟨2, _⟩ => rfl
  | ⟨3, _⟩ => rfl
  | ⟨4, _⟩ => rfl
  | ⟨5, _⟩ => rfl

/-- The state before chunk 5. -/
theorem v136 (b : Fin 8) (g : Fin 2) (e : Fin 4) (p : Fin 64) (n : Fin 128) :
    val_main_v136 (F := Ideal) x0 x2 x3 x4 x5 x6 (ix5 b g e p n) = H (inp x0 x1 x2 x3 x4 x5 x6 x7 x8) (tk b ⟨5, by omega⟩) n (lane g e p) := by
  rw [val_main_v136_apply, val_main_v135_apply]
  exact step x0 x1 x2 x3 x4 x5 x6 x7 x8 b 4 (by omega) g e p n _ _ _ (v128 x0 x1 x2 x3 x4 x5 x6 x7 x8 b g e p n) (v134 x2 x5 x6 b g e p n) (v130 x0 x2 x3 x4 x5 x6 b g e p n)

/-- The decay over chunk 5. -/
theorem v142 (b : Fin 8) (g : Fin 2) (e : Fin 4) (p : Fin 64) (n : Fin 128) :
    val_main_v142 (F := Ideal) x2 x5 x6 (ix5 b g e p n) = val_main_v95 (F := Ideal) x2 x5 x6 (ix4 ⟨5, by omega⟩ b g e) := by
  pointwise [val_main_v142, val_main_v141, val_main_v140, val_main_v139]

/-- The state chunk 5 adds. -/
theorem v138 (b : Fin 8) (g : Fin 2) (e : Fin 4) (p : Fin 64) (n : Fin 128) :
    val_main_v138 (F := Ideal) x0 x2 x3 x4 x5 x6 (ix5 b g e p n) = val_main_v93 (F := Ideal) x0 x2 x3 x4 x5 x6 (ix6 ⟨5, by omega⟩ b g e p n) := by
  unfold val_main_v138
  rw [drop_first, val_main_v137_apply]
  refine congrArg (val_main_v93 (F := Ideal) x0 x2 x3 x4 x5 x6) (funext fun a => Fin.ext ?_)
  match a with
  | ⟨0, _⟩ => rfl
  | ⟨1, _⟩ => rfl
  | ⟨2, _⟩ => rfl
  | ⟨3, _⟩ => rfl
  | ⟨4, _⟩ => rfl
  | ⟨5, _⟩ => rfl

/-- The state before chunk 6. -/
theorem v144 (b : Fin 8) (g : Fin 2) (e : Fin 4) (p : Fin 64) (n : Fin 128) :
    val_main_v144 (F := Ideal) x0 x2 x3 x4 x5 x6 (ix5 b g e p n) = H (inp x0 x1 x2 x3 x4 x5 x6 x7 x8) (tk b ⟨6, by omega⟩) n (lane g e p) := by
  rw [val_main_v144_apply, val_main_v143_apply]
  exact step x0 x1 x2 x3 x4 x5 x6 x7 x8 b 5 (by omega) g e p n _ _ _ (v136 x0 x1 x2 x3 x4 x5 x6 x7 x8 b g e p n) (v142 x2 x5 x6 b g e p n) (v138 x0 x2 x3 x4 x5 x6 b g e p n)

/-- The decay over chunk 6. -/
theorem v150 (b : Fin 8) (g : Fin 2) (e : Fin 4) (p : Fin 64) (n : Fin 128) :
    val_main_v150 (F := Ideal) x2 x5 x6 (ix5 b g e p n) = val_main_v95 (F := Ideal) x2 x5 x6 (ix4 ⟨6, by omega⟩ b g e) := by
  pointwise [val_main_v150, val_main_v149, val_main_v148, val_main_v147]

/-- The state chunk 6 adds. -/
theorem v146 (b : Fin 8) (g : Fin 2) (e : Fin 4) (p : Fin 64) (n : Fin 128) :
    val_main_v146 (F := Ideal) x0 x2 x3 x4 x5 x6 (ix5 b g e p n) = val_main_v93 (F := Ideal) x0 x2 x3 x4 x5 x6 (ix6 ⟨6, by omega⟩ b g e p n) := by
  unfold val_main_v146
  rw [drop_first, val_main_v145_apply]
  refine congrArg (val_main_v93 (F := Ideal) x0 x2 x3 x4 x5 x6) (funext fun a => Fin.ext ?_)
  match a with
  | ⟨0, _⟩ => rfl
  | ⟨1, _⟩ => rfl
  | ⟨2, _⟩ => rfl
  | ⟨3, _⟩ => rfl
  | ⟨4, _⟩ => rfl
  | ⟨5, _⟩ => rfl

/-- The state before chunk 7. -/
theorem v152 (b : Fin 8) (g : Fin 2) (e : Fin 4) (p : Fin 64) (n : Fin 128) :
    val_main_v152 (F := Ideal) x0 x2 x3 x4 x5 x6 (ix5 b g e p n) = H (inp x0 x1 x2 x3 x4 x5 x6 x7 x8) (tk b ⟨7, by omega⟩) n (lane g e p) := by
  rw [val_main_v152_apply, val_main_v151_apply]
  exact step x0 x1 x2 x3 x4 x5 x6 x7 x8 b 6 (by omega) g e p n _ _ _ (v144 x0 x1 x2 x3 x4 x5 x6 x7 x8 b g e p n) (v150 x2 x5 x6 b g e p n) (v146 x0 x2 x3 x4 x5 x6 b g e p n)

/-- The decay over chunk 7. -/
theorem v158 (b : Fin 8) (g : Fin 2) (e : Fin 4) (p : Fin 64) (n : Fin 128) :
    val_main_v158 (F := Ideal) x2 x5 x6 (ix5 b g e p n) = val_main_v95 (F := Ideal) x2 x5 x6 (ix4 ⟨7, by omega⟩ b g e) := by
  pointwise [val_main_v158, val_main_v157, val_main_v156, val_main_v155]

/-- The state chunk 7 adds. -/
theorem v154 (b : Fin 8) (g : Fin 2) (e : Fin 4) (p : Fin 64) (n : Fin 128) :
    val_main_v154 (F := Ideal) x0 x2 x3 x4 x5 x6 (ix5 b g e p n) = val_main_v93 (F := Ideal) x0 x2 x3 x4 x5 x6 (ix6 ⟨7, by omega⟩ b g e p n) := by
  unfold val_main_v154
  rw [drop_first, val_main_v153_apply]
  refine congrArg (val_main_v93 (F := Ideal) x0 x2 x3 x4 x5 x6) (funext fun a => Fin.ext ?_)
  match a with
  | ⟨0, _⟩ => rfl
  | ⟨1, _⟩ => rfl
  | ⟨2, _⟩ => rfl
  | ⟨3, _⟩ => rfl
  | ⟨4, _⟩ => rfl
  | ⟨5, _⟩ => rfl

/-- The state before chunk 8. -/
theorem v160 (b : Fin 8) (g : Fin 2) (e : Fin 4) (p : Fin 64) (n : Fin 128) :
    val_main_v160 (F := Ideal) x0 x2 x3 x4 x5 x6 (ix5 b g e p n) = H (inp x0 x1 x2 x3 x4 x5 x6 x7 x8) (tk b ⟨8, by omega⟩) n (lane g e p) := by
  rw [val_main_v160_apply, val_main_v159_apply]
  exact step x0 x1 x2 x3 x4 x5 x6 x7 x8 b 7 (by omega) g e p n _ _ _ (v152 x0 x1 x2 x3 x4 x5 x6 x7 x8 b g e p n) (v158 x2 x5 x6 b g e p n) (v154 x0 x2 x3 x4 x5 x6 b g e p n)

/-- The decay over chunk 8. -/
theorem v166 (b : Fin 8) (g : Fin 2) (e : Fin 4) (p : Fin 64) (n : Fin 128) :
    val_main_v166 (F := Ideal) x2 x5 x6 (ix5 b g e p n) = val_main_v95 (F := Ideal) x2 x5 x6 (ix4 ⟨8, by omega⟩ b g e) := by
  pointwise [val_main_v166, val_main_v165, val_main_v164, val_main_v163]

/-- The state chunk 8 adds. -/
theorem v162 (b : Fin 8) (g : Fin 2) (e : Fin 4) (p : Fin 64) (n : Fin 128) :
    val_main_v162 (F := Ideal) x0 x2 x3 x4 x5 x6 (ix5 b g e p n) = val_main_v93 (F := Ideal) x0 x2 x3 x4 x5 x6 (ix6 ⟨8, by omega⟩ b g e p n) := by
  unfold val_main_v162
  rw [drop_first, val_main_v161_apply]
  refine congrArg (val_main_v93 (F := Ideal) x0 x2 x3 x4 x5 x6) (funext fun a => Fin.ext ?_)
  match a with
  | ⟨0, _⟩ => rfl
  | ⟨1, _⟩ => rfl
  | ⟨2, _⟩ => rfl
  | ⟨3, _⟩ => rfl
  | ⟨4, _⟩ => rfl
  | ⟨5, _⟩ => rfl

/-- The state before chunk 9. -/
theorem v168 (b : Fin 8) (g : Fin 2) (e : Fin 4) (p : Fin 64) (n : Fin 128) :
    val_main_v168 (F := Ideal) x0 x2 x3 x4 x5 x6 (ix5 b g e p n) = H (inp x0 x1 x2 x3 x4 x5 x6 x7 x8) (tk b ⟨9, by omega⟩) n (lane g e p) := by
  rw [val_main_v168_apply, val_main_v167_apply]
  exact step x0 x1 x2 x3 x4 x5 x6 x7 x8 b 8 (by omega) g e p n _ _ _ (v160 x0 x1 x2 x3 x4 x5 x6 x7 x8 b g e p n) (v166 x2 x5 x6 b g e p n) (v162 x0 x2 x3 x4 x5 x6 b g e p n)

/-- The decay over chunk 9. -/
theorem v174 (b : Fin 8) (g : Fin 2) (e : Fin 4) (p : Fin 64) (n : Fin 128) :
    val_main_v174 (F := Ideal) x2 x5 x6 (ix5 b g e p n) = val_main_v95 (F := Ideal) x2 x5 x6 (ix4 ⟨9, by omega⟩ b g e) := by
  pointwise [val_main_v174, val_main_v173, val_main_v172, val_main_v171]

/-- The state chunk 9 adds. -/
theorem v170 (b : Fin 8) (g : Fin 2) (e : Fin 4) (p : Fin 64) (n : Fin 128) :
    val_main_v170 (F := Ideal) x0 x2 x3 x4 x5 x6 (ix5 b g e p n) = val_main_v93 (F := Ideal) x0 x2 x3 x4 x5 x6 (ix6 ⟨9, by omega⟩ b g e p n) := by
  unfold val_main_v170
  rw [drop_first, val_main_v169_apply]
  refine congrArg (val_main_v93 (F := Ideal) x0 x2 x3 x4 x5 x6) (funext fun a => Fin.ext ?_)
  match a with
  | ⟨0, _⟩ => rfl
  | ⟨1, _⟩ => rfl
  | ⟨2, _⟩ => rfl
  | ⟨3, _⟩ => rfl
  | ⟨4, _⟩ => rfl
  | ⟨5, _⟩ => rfl

/-- The state before chunk 10. -/
theorem v176 (b : Fin 8) (g : Fin 2) (e : Fin 4) (p : Fin 64) (n : Fin 128) :
    val_main_v176 (F := Ideal) x0 x2 x3 x4 x5 x6 (ix5 b g e p n) = H (inp x0 x1 x2 x3 x4 x5 x6 x7 x8) (tk b ⟨10, by omega⟩) n (lane g e p) := by
  rw [val_main_v176_apply, val_main_v175_apply]
  exact step x0 x1 x2 x3 x4 x5 x6 x7 x8 b 9 (by omega) g e p n _ _ _ (v168 x0 x1 x2 x3 x4 x5 x6 x7 x8 b g e p n) (v174 x2 x5 x6 b g e p n) (v170 x0 x2 x3 x4 x5 x6 b g e p n)

/-- The decay over chunk 10. -/
theorem v182 (b : Fin 8) (g : Fin 2) (e : Fin 4) (p : Fin 64) (n : Fin 128) :
    val_main_v182 (F := Ideal) x2 x5 x6 (ix5 b g e p n) = val_main_v95 (F := Ideal) x2 x5 x6 (ix4 ⟨10, by omega⟩ b g e) := by
  pointwise [val_main_v182, val_main_v181, val_main_v180, val_main_v179]

/-- The state chunk 10 adds. -/
theorem v178 (b : Fin 8) (g : Fin 2) (e : Fin 4) (p : Fin 64) (n : Fin 128) :
    val_main_v178 (F := Ideal) x0 x2 x3 x4 x5 x6 (ix5 b g e p n) = val_main_v93 (F := Ideal) x0 x2 x3 x4 x5 x6 (ix6 ⟨10, by omega⟩ b g e p n) := by
  unfold val_main_v178
  rw [drop_first, val_main_v177_apply]
  refine congrArg (val_main_v93 (F := Ideal) x0 x2 x3 x4 x5 x6) (funext fun a => Fin.ext ?_)
  match a with
  | ⟨0, _⟩ => rfl
  | ⟨1, _⟩ => rfl
  | ⟨2, _⟩ => rfl
  | ⟨3, _⟩ => rfl
  | ⟨4, _⟩ => rfl
  | ⟨5, _⟩ => rfl

/-- The state before chunk 11. -/
theorem v184 (b : Fin 8) (g : Fin 2) (e : Fin 4) (p : Fin 64) (n : Fin 128) :
    val_main_v184 (F := Ideal) x0 x2 x3 x4 x5 x6 (ix5 b g e p n) = H (inp x0 x1 x2 x3 x4 x5 x6 x7 x8) (tk b ⟨11, by omega⟩) n (lane g e p) := by
  rw [val_main_v184_apply, val_main_v183_apply]
  exact step x0 x1 x2 x3 x4 x5 x6 x7 x8 b 10 (by omega) g e p n _ _ _ (v176 x0 x1 x2 x3 x4 x5 x6 x7 x8 b g e p n) (v182 x2 x5 x6 b g e p n) (v178 x0 x2 x3 x4 x5 x6 b g e p n)

/-- The decay over chunk 11. -/
theorem v190 (b : Fin 8) (g : Fin 2) (e : Fin 4) (p : Fin 64) (n : Fin 128) :
    val_main_v190 (F := Ideal) x2 x5 x6 (ix5 b g e p n) = val_main_v95 (F := Ideal) x2 x5 x6 (ix4 ⟨11, by omega⟩ b g e) := by
  pointwise [val_main_v190, val_main_v189, val_main_v188, val_main_v187]

/-- The state chunk 11 adds. -/
theorem v186 (b : Fin 8) (g : Fin 2) (e : Fin 4) (p : Fin 64) (n : Fin 128) :
    val_main_v186 (F := Ideal) x0 x2 x3 x4 x5 x6 (ix5 b g e p n) = val_main_v93 (F := Ideal) x0 x2 x3 x4 x5 x6 (ix6 ⟨11, by omega⟩ b g e p n) := by
  unfold val_main_v186
  rw [drop_first, val_main_v185_apply]
  refine congrArg (val_main_v93 (F := Ideal) x0 x2 x3 x4 x5 x6) (funext fun a => Fin.ext ?_)
  match a with
  | ⟨0, _⟩ => rfl
  | ⟨1, _⟩ => rfl
  | ⟨2, _⟩ => rfl
  | ⟨3, _⟩ => rfl
  | ⟨4, _⟩ => rfl
  | ⟨5, _⟩ => rfl

/-- The state before chunk 12. -/
theorem v192 (b : Fin 8) (g : Fin 2) (e : Fin 4) (p : Fin 64) (n : Fin 128) :
    val_main_v192 (F := Ideal) x0 x2 x3 x4 x5 x6 (ix5 b g e p n) = H (inp x0 x1 x2 x3 x4 x5 x6 x7 x8) (tk b ⟨12, by omega⟩) n (lane g e p) := by
  rw [val_main_v192_apply, val_main_v191_apply]
  exact step x0 x1 x2 x3 x4 x5 x6 x7 x8 b 11 (by omega) g e p n _ _ _ (v184 x0 x1 x2 x3 x4 x5 x6 x7 x8 b g e p n) (v190 x2 x5 x6 b g e p n) (v186 x0 x2 x3 x4 x5 x6 b g e p n)

/-- The decay over chunk 12. -/
theorem v198 (b : Fin 8) (g : Fin 2) (e : Fin 4) (p : Fin 64) (n : Fin 128) :
    val_main_v198 (F := Ideal) x2 x5 x6 (ix5 b g e p n) = val_main_v95 (F := Ideal) x2 x5 x6 (ix4 ⟨12, by omega⟩ b g e) := by
  pointwise [val_main_v198, val_main_v197, val_main_v196, val_main_v195]

/-- The state chunk 12 adds. -/
theorem v194 (b : Fin 8) (g : Fin 2) (e : Fin 4) (p : Fin 64) (n : Fin 128) :
    val_main_v194 (F := Ideal) x0 x2 x3 x4 x5 x6 (ix5 b g e p n) = val_main_v93 (F := Ideal) x0 x2 x3 x4 x5 x6 (ix6 ⟨12, by omega⟩ b g e p n) := by
  unfold val_main_v194
  rw [drop_first, val_main_v193_apply]
  refine congrArg (val_main_v93 (F := Ideal) x0 x2 x3 x4 x5 x6) (funext fun a => Fin.ext ?_)
  match a with
  | ⟨0, _⟩ => rfl
  | ⟨1, _⟩ => rfl
  | ⟨2, _⟩ => rfl
  | ⟨3, _⟩ => rfl
  | ⟨4, _⟩ => rfl
  | ⟨5, _⟩ => rfl

/-- The state before chunk 13. -/
theorem v200 (b : Fin 8) (g : Fin 2) (e : Fin 4) (p : Fin 64) (n : Fin 128) :
    val_main_v200 (F := Ideal) x0 x2 x3 x4 x5 x6 (ix5 b g e p n) = H (inp x0 x1 x2 x3 x4 x5 x6 x7 x8) (tk b ⟨13, by omega⟩) n (lane g e p) := by
  rw [val_main_v200_apply, val_main_v199_apply]
  exact step x0 x1 x2 x3 x4 x5 x6 x7 x8 b 12 (by omega) g e p n _ _ _ (v192 x0 x1 x2 x3 x4 x5 x6 x7 x8 b g e p n) (v198 x2 x5 x6 b g e p n) (v194 x0 x2 x3 x4 x5 x6 b g e p n)

/-- The decay over chunk 13. -/
theorem v206 (b : Fin 8) (g : Fin 2) (e : Fin 4) (p : Fin 64) (n : Fin 128) :
    val_main_v206 (F := Ideal) x2 x5 x6 (ix5 b g e p n) = val_main_v95 (F := Ideal) x2 x5 x6 (ix4 ⟨13, by omega⟩ b g e) := by
  pointwise [val_main_v206, val_main_v205, val_main_v204, val_main_v203]

/-- The state chunk 13 adds. -/
theorem v202 (b : Fin 8) (g : Fin 2) (e : Fin 4) (p : Fin 64) (n : Fin 128) :
    val_main_v202 (F := Ideal) x0 x2 x3 x4 x5 x6 (ix5 b g e p n) = val_main_v93 (F := Ideal) x0 x2 x3 x4 x5 x6 (ix6 ⟨13, by omega⟩ b g e p n) := by
  unfold val_main_v202
  rw [drop_first, val_main_v201_apply]
  refine congrArg (val_main_v93 (F := Ideal) x0 x2 x3 x4 x5 x6) (funext fun a => Fin.ext ?_)
  match a with
  | ⟨0, _⟩ => rfl
  | ⟨1, _⟩ => rfl
  | ⟨2, _⟩ => rfl
  | ⟨3, _⟩ => rfl
  | ⟨4, _⟩ => rfl
  | ⟨5, _⟩ => rfl

/-- The state before chunk 14. -/
theorem v208 (b : Fin 8) (g : Fin 2) (e : Fin 4) (p : Fin 64) (n : Fin 128) :
    val_main_v208 (F := Ideal) x0 x2 x3 x4 x5 x6 (ix5 b g e p n) = H (inp x0 x1 x2 x3 x4 x5 x6 x7 x8) (tk b ⟨14, by omega⟩) n (lane g e p) := by
  rw [val_main_v208_apply, val_main_v207_apply]
  exact step x0 x1 x2 x3 x4 x5 x6 x7 x8 b 13 (by omega) g e p n _ _ _ (v200 x0 x1 x2 x3 x4 x5 x6 x7 x8 b g e p n) (v206 x2 x5 x6 b g e p n) (v202 x0 x2 x3 x4 x5 x6 b g e p n)

/-- The decay over chunk 14. -/
theorem v214 (b : Fin 8) (g : Fin 2) (e : Fin 4) (p : Fin 64) (n : Fin 128) :
    val_main_v214 (F := Ideal) x2 x5 x6 (ix5 b g e p n) = val_main_v95 (F := Ideal) x2 x5 x6 (ix4 ⟨14, by omega⟩ b g e) := by
  pointwise [val_main_v214, val_main_v213, val_main_v212, val_main_v211]

/-- The state chunk 14 adds. -/
theorem v210 (b : Fin 8) (g : Fin 2) (e : Fin 4) (p : Fin 64) (n : Fin 128) :
    val_main_v210 (F := Ideal) x0 x2 x3 x4 x5 x6 (ix5 b g e p n) = val_main_v93 (F := Ideal) x0 x2 x3 x4 x5 x6 (ix6 ⟨14, by omega⟩ b g e p n) := by
  unfold val_main_v210
  rw [drop_first, val_main_v209_apply]
  refine congrArg (val_main_v93 (F := Ideal) x0 x2 x3 x4 x5 x6) (funext fun a => Fin.ext ?_)
  match a with
  | ⟨0, _⟩ => rfl
  | ⟨1, _⟩ => rfl
  | ⟨2, _⟩ => rfl
  | ⟨3, _⟩ => rfl
  | ⟨4, _⟩ => rfl
  | ⟨5, _⟩ => rfl

/-- The state before chunk 15. -/
theorem v216 (b : Fin 8) (g : Fin 2) (e : Fin 4) (p : Fin 64) (n : Fin 128) :
    val_main_v216 (F := Ideal) x0 x2 x3 x4 x5 x6 (ix5 b g e p n) = H (inp x0 x1 x2 x3 x4 x5 x6 x7 x8) (tk b ⟨15, by omega⟩) n (lane g e p) := by
  rw [val_main_v216_apply, val_main_v215_apply]
  exact step x0 x1 x2 x3 x4 x5 x6 x7 x8 b 14 (by omega) g e p n _ _ _ (v208 x0 x1 x2 x3 x4 x5 x6 x7 x8 b g e p n) (v214 x2 x5 x6 b g e p n) (v210 x0 x2 x3 x4 x5 x6 b g e p n)

/-- The state before chunk 0 as a row of the stack. -/
theorem v225 (b : Fin 8) (g : Fin 2) (e : Fin 4) (p : Fin 64) (n : Fin 128) :
    val_main_v225 (F := Ideal)  (ix6 0 b g e p n) = H (inp x0 x1 x2 x3 x4 x5 x6 x7 x8) (tk b ⟨0, by omega⟩) n (lane g e p) := by
  rw [val_main_v225_apply, ← v89 x0 x1 x2 x3 x4 x5 x6 x7 x8 b g e p n]
  refine congrArg (val_main_v89 (F := Ideal) ) (funext fun a => ?_)
  match a with
  | ⟨0, _⟩ => rfl
  | ⟨1, _⟩ => rfl
  | ⟨2, _⟩ => rfl
  | ⟨3, _⟩ => rfl
  | ⟨4, _⟩ => rfl

/-- The state before chunk 1 as a row of the stack. -/
theorem v226 (b : Fin 8) (g : Fin 2) (e : Fin 4) (p : Fin 64) (n : Fin 128) :
    val_main_v226 (F := Ideal) x0 x2 x3 x4 x5 x6 (ix6 0 b g e p n) = H (inp x0 x1 x2 x3 x4 x5 x6 x7 x8) (tk b ⟨1, by omega⟩) n (lane g e p) := by
  rw [val_main_v226_apply, ← v104 x0 x1 x2 x3 x4 x5 x6 x7 x8 b g e p n]
  refine congrArg (val_main_v104 (F := Ideal) x0 x2 x3 x4 x5 x6) (funext fun a => ?_)
  match a with
  | ⟨0, _⟩ => rfl
  | ⟨1, _⟩ => rfl
  | ⟨2, _⟩ => rfl
  | ⟨3, _⟩ => rfl
  | ⟨4, _⟩ => rfl

/-- The state before chunk 2 as a row of the stack. -/
theorem v227 (b : Fin 8) (g : Fin 2) (e : Fin 4) (p : Fin 64) (n : Fin 128) :
    val_main_v227 (F := Ideal) x0 x2 x3 x4 x5 x6 (ix6 0 b g e p n) = H (inp x0 x1 x2 x3 x4 x5 x6 x7 x8) (tk b ⟨2, by omega⟩) n (lane g e p) := by
  rw [val_main_v227_apply, ← v112 x0 x1 x2 x3 x4 x5 x6 x7 x8 b g e p n]
  refine congrArg (val_main_v112 (F := Ideal) x0 x2 x3 x4 x5 x6) (funext fun a => ?_)
  match a with
  | ⟨0, _⟩ => rfl
  | ⟨1, _⟩ => rfl
  | ⟨2, _⟩ => rfl
  | ⟨3, _⟩ => rfl
  | ⟨4, _⟩ => rfl

/-- The state before chunk 3 as a row of the stack. -/
theorem v228 (b : Fin 8) (g : Fin 2) (e : Fin 4) (p : Fin 64) (n : Fin 128) :
    val_main_v228 (F := Ideal) x0 x2 x3 x4 x5 x6 (ix6 0 b g e p n) = H (inp x0 x1 x2 x3 x4 x5 x6 x7 x8) (tk b ⟨3, by omega⟩) n (lane g e p) := by
  rw [val_main_v228_apply, ← v120 x0 x1 x2 x3 x4 x5 x6 x7 x8 b g e p n]
  refine congrArg (val_main_v120 (F := Ideal) x0 x2 x3 x4 x5 x6) (funext fun a => ?_)
  match a with
  | ⟨0, _⟩ => rfl
  | ⟨1, _⟩ => rfl
  | ⟨2, _⟩ => rfl
  | ⟨3, _⟩ => rfl
  | ⟨4, _⟩ => rfl

/-- The state before chunk 4 as a row of the stack. -/
theorem v229 (b : Fin 8) (g : Fin 2) (e : Fin 4) (p : Fin 64) (n : Fin 128) :
    val_main_v229 (F := Ideal) x0 x2 x3 x4 x5 x6 (ix6 0 b g e p n) = H (inp x0 x1 x2 x3 x4 x5 x6 x7 x8) (tk b ⟨4, by omega⟩) n (lane g e p) := by
  rw [val_main_v229_apply, ← v128 x0 x1 x2 x3 x4 x5 x6 x7 x8 b g e p n]
  refine congrArg (val_main_v128 (F := Ideal) x0 x2 x3 x4 x5 x6) (funext fun a => ?_)
  match a with
  | ⟨0, _⟩ => rfl
  | ⟨1, _⟩ => rfl
  | ⟨2, _⟩ => rfl
  | ⟨3, _⟩ => rfl
  | ⟨4, _⟩ => rfl

/-- The state before chunk 5 as a row of the stack. -/
theorem v230 (b : Fin 8) (g : Fin 2) (e : Fin 4) (p : Fin 64) (n : Fin 128) :
    val_main_v230 (F := Ideal) x0 x2 x3 x4 x5 x6 (ix6 0 b g e p n) = H (inp x0 x1 x2 x3 x4 x5 x6 x7 x8) (tk b ⟨5, by omega⟩) n (lane g e p) := by
  rw [val_main_v230_apply, ← v136 x0 x1 x2 x3 x4 x5 x6 x7 x8 b g e p n]
  refine congrArg (val_main_v136 (F := Ideal) x0 x2 x3 x4 x5 x6) (funext fun a => ?_)
  match a with
  | ⟨0, _⟩ => rfl
  | ⟨1, _⟩ => rfl
  | ⟨2, _⟩ => rfl
  | ⟨3, _⟩ => rfl
  | ⟨4, _⟩ => rfl

/-- The state before chunk 6 as a row of the stack. -/
theorem v231 (b : Fin 8) (g : Fin 2) (e : Fin 4) (p : Fin 64) (n : Fin 128) :
    val_main_v231 (F := Ideal) x0 x2 x3 x4 x5 x6 (ix6 0 b g e p n) = H (inp x0 x1 x2 x3 x4 x5 x6 x7 x8) (tk b ⟨6, by omega⟩) n (lane g e p) := by
  rw [val_main_v231_apply, ← v144 x0 x1 x2 x3 x4 x5 x6 x7 x8 b g e p n]
  refine congrArg (val_main_v144 (F := Ideal) x0 x2 x3 x4 x5 x6) (funext fun a => ?_)
  match a with
  | ⟨0, _⟩ => rfl
  | ⟨1, _⟩ => rfl
  | ⟨2, _⟩ => rfl
  | ⟨3, _⟩ => rfl
  | ⟨4, _⟩ => rfl

/-- The state before chunk 7 as a row of the stack. -/
theorem v232 (b : Fin 8) (g : Fin 2) (e : Fin 4) (p : Fin 64) (n : Fin 128) :
    val_main_v232 (F := Ideal) x0 x2 x3 x4 x5 x6 (ix6 0 b g e p n) = H (inp x0 x1 x2 x3 x4 x5 x6 x7 x8) (tk b ⟨7, by omega⟩) n (lane g e p) := by
  rw [val_main_v232_apply, ← v152 x0 x1 x2 x3 x4 x5 x6 x7 x8 b g e p n]
  refine congrArg (val_main_v152 (F := Ideal) x0 x2 x3 x4 x5 x6) (funext fun a => ?_)
  match a with
  | ⟨0, _⟩ => rfl
  | ⟨1, _⟩ => rfl
  | ⟨2, _⟩ => rfl
  | ⟨3, _⟩ => rfl
  | ⟨4, _⟩ => rfl

/-- The state before chunk 8 as a row of the stack. -/
theorem v233 (b : Fin 8) (g : Fin 2) (e : Fin 4) (p : Fin 64) (n : Fin 128) :
    val_main_v233 (F := Ideal) x0 x2 x3 x4 x5 x6 (ix6 0 b g e p n) = H (inp x0 x1 x2 x3 x4 x5 x6 x7 x8) (tk b ⟨8, by omega⟩) n (lane g e p) := by
  rw [val_main_v233_apply, ← v160 x0 x1 x2 x3 x4 x5 x6 x7 x8 b g e p n]
  refine congrArg (val_main_v160 (F := Ideal) x0 x2 x3 x4 x5 x6) (funext fun a => ?_)
  match a with
  | ⟨0, _⟩ => rfl
  | ⟨1, _⟩ => rfl
  | ⟨2, _⟩ => rfl
  | ⟨3, _⟩ => rfl
  | ⟨4, _⟩ => rfl

/-- The state before chunk 9 as a row of the stack. -/
theorem v234 (b : Fin 8) (g : Fin 2) (e : Fin 4) (p : Fin 64) (n : Fin 128) :
    val_main_v234 (F := Ideal) x0 x2 x3 x4 x5 x6 (ix6 0 b g e p n) = H (inp x0 x1 x2 x3 x4 x5 x6 x7 x8) (tk b ⟨9, by omega⟩) n (lane g e p) := by
  rw [val_main_v234_apply, ← v168 x0 x1 x2 x3 x4 x5 x6 x7 x8 b g e p n]
  refine congrArg (val_main_v168 (F := Ideal) x0 x2 x3 x4 x5 x6) (funext fun a => ?_)
  match a with
  | ⟨0, _⟩ => rfl
  | ⟨1, _⟩ => rfl
  | ⟨2, _⟩ => rfl
  | ⟨3, _⟩ => rfl
  | ⟨4, _⟩ => rfl

/-- The state before chunk 10 as a row of the stack. -/
theorem v235 (b : Fin 8) (g : Fin 2) (e : Fin 4) (p : Fin 64) (n : Fin 128) :
    val_main_v235 (F := Ideal) x0 x2 x3 x4 x5 x6 (ix6 0 b g e p n) = H (inp x0 x1 x2 x3 x4 x5 x6 x7 x8) (tk b ⟨10, by omega⟩) n (lane g e p) := by
  rw [val_main_v235_apply, ← v176 x0 x1 x2 x3 x4 x5 x6 x7 x8 b g e p n]
  refine congrArg (val_main_v176 (F := Ideal) x0 x2 x3 x4 x5 x6) (funext fun a => ?_)
  match a with
  | ⟨0, _⟩ => rfl
  | ⟨1, _⟩ => rfl
  | ⟨2, _⟩ => rfl
  | ⟨3, _⟩ => rfl
  | ⟨4, _⟩ => rfl

/-- The state before chunk 11 as a row of the stack. -/
theorem v236 (b : Fin 8) (g : Fin 2) (e : Fin 4) (p : Fin 64) (n : Fin 128) :
    val_main_v236 (F := Ideal) x0 x2 x3 x4 x5 x6 (ix6 0 b g e p n) = H (inp x0 x1 x2 x3 x4 x5 x6 x7 x8) (tk b ⟨11, by omega⟩) n (lane g e p) := by
  rw [val_main_v236_apply, ← v184 x0 x1 x2 x3 x4 x5 x6 x7 x8 b g e p n]
  refine congrArg (val_main_v184 (F := Ideal) x0 x2 x3 x4 x5 x6) (funext fun a => ?_)
  match a with
  | ⟨0, _⟩ => rfl
  | ⟨1, _⟩ => rfl
  | ⟨2, _⟩ => rfl
  | ⟨3, _⟩ => rfl
  | ⟨4, _⟩ => rfl

/-- The state before chunk 12 as a row of the stack. -/
theorem v237 (b : Fin 8) (g : Fin 2) (e : Fin 4) (p : Fin 64) (n : Fin 128) :
    val_main_v237 (F := Ideal) x0 x2 x3 x4 x5 x6 (ix6 0 b g e p n) = H (inp x0 x1 x2 x3 x4 x5 x6 x7 x8) (tk b ⟨12, by omega⟩) n (lane g e p) := by
  rw [val_main_v237_apply, ← v192 x0 x1 x2 x3 x4 x5 x6 x7 x8 b g e p n]
  refine congrArg (val_main_v192 (F := Ideal) x0 x2 x3 x4 x5 x6) (funext fun a => ?_)
  match a with
  | ⟨0, _⟩ => rfl
  | ⟨1, _⟩ => rfl
  | ⟨2, _⟩ => rfl
  | ⟨3, _⟩ => rfl
  | ⟨4, _⟩ => rfl

/-- The state before chunk 13 as a row of the stack. -/
theorem v238 (b : Fin 8) (g : Fin 2) (e : Fin 4) (p : Fin 64) (n : Fin 128) :
    val_main_v238 (F := Ideal) x0 x2 x3 x4 x5 x6 (ix6 0 b g e p n) = H (inp x0 x1 x2 x3 x4 x5 x6 x7 x8) (tk b ⟨13, by omega⟩) n (lane g e p) := by
  rw [val_main_v238_apply, ← v200 x0 x1 x2 x3 x4 x5 x6 x7 x8 b g e p n]
  refine congrArg (val_main_v200 (F := Ideal) x0 x2 x3 x4 x5 x6) (funext fun a => ?_)
  match a with
  | ⟨0, _⟩ => rfl
  | ⟨1, _⟩ => rfl
  | ⟨2, _⟩ => rfl
  | ⟨3, _⟩ => rfl
  | ⟨4, _⟩ => rfl

/-- The state before chunk 14 as a row of the stack. -/
theorem v239 (b : Fin 8) (g : Fin 2) (e : Fin 4) (p : Fin 64) (n : Fin 128) :
    val_main_v239 (F := Ideal) x0 x2 x3 x4 x5 x6 (ix6 0 b g e p n) = H (inp x0 x1 x2 x3 x4 x5 x6 x7 x8) (tk b ⟨14, by omega⟩) n (lane g e p) := by
  rw [val_main_v239_apply, ← v208 x0 x1 x2 x3 x4 x5 x6 x7 x8 b g e p n]
  refine congrArg (val_main_v208 (F := Ideal) x0 x2 x3 x4 x5 x6) (funext fun a => ?_)
  match a with
  | ⟨0, _⟩ => rfl
  | ⟨1, _⟩ => rfl
  | ⟨2, _⟩ => rfl
  | ⟨3, _⟩ => rfl
  | ⟨4, _⟩ => rfl

/-- The state before chunk 15 as a row of the stack. -/
theorem v240 (b : Fin 8) (g : Fin 2) (e : Fin 4) (p : Fin 64) (n : Fin 128) :
    val_main_v240 (F := Ideal) x0 x2 x3 x4 x5 x6 (ix6 0 b g e p n) = H (inp x0 x1 x2 x3 x4 x5 x6 x7 x8) (tk b ⟨15, by omega⟩) n (lane g e p) := by
  rw [val_main_v240_apply, ← v216 x0 x1 x2 x3 x4 x5 x6 x7 x8 b g e p n]
  refine congrArg (val_main_v216 (F := Ideal) x0 x2 x3 x4 x5 x6) (funext fun a => ?_)
  match a with
  | ⟨0, _⟩ => rfl
  | ⟨1, _⟩ => rfl
  | ⟨2, _⟩ => rfl
  | ⟨3, _⟩ => rfl
  | ⟨4, _⟩ => rfl

/-- The stack of the sixteen states. -/
theorem v241 (b : Fin 8) (c : Fin 16) (g : Fin 2) (e : Fin 4) (p : Fin 64) (n : Fin 128) :
    val_main_v241 (F := Ideal) x0 x2 x3 x4 x5 x6 (ix6 c b g e p n) = H (inp x0 x1 x2 x3 x4 x5 x6 x7 x8) (tk b c) n (lane g e p) := by
  have hix : ∀ i : S1x8x2x4x64x128.Idx, (i 0).val = 0 → (i 1).val = b.val → (i 2).val = g.val → (i 3).val = e.val → (i 4).val = p.val → (i 5).val = n.val →
      i = ix6 0 b g e p n := by
    intro i h0 h1 h2 h3 h4 h5
    funext a
    match a with
    | ⟨0, _⟩ => exact Fin.ext h0
    | ⟨1, _⟩ => exact Fin.ext h1
    | ⟨2, _⟩ => exact Fin.ext h2
    | ⟨3, _⟩ => exact Fin.ext h3
    | ⟨4, _⟩ => exact Fin.ext h4
    | ⟨5, _⟩ => exact Fin.ext h5
  unfold val_main_v241
  concat_tiles i h
  · rw [hix i h0 h1 h2 h3 h4 h5, show c = ⟨0, by omega⟩ from Fin.ext h]
    exact v225 x0 x1 x2 x3 x4 x5 x6 x7 x8 b g e p n
  · rw [hix i h0 h1 h2 h3 h4 h5, show c = ⟨1, by omega⟩ from Fin.ext h]
    exact v226 x0 x1 x2 x3 x4 x5 x6 x7 x8 b g e p n
  · rw [hix i h0 h1 h2 h3 h4 h5, show c = ⟨2, by omega⟩ from Fin.ext h]
    exact v227 x0 x1 x2 x3 x4 x5 x6 x7 x8 b g e p n
  · rw [hix i h0 h1 h2 h3 h4 h5, show c = ⟨3, by omega⟩ from Fin.ext h]
    exact v228 x0 x1 x2 x3 x4 x5 x6 x7 x8 b g e p n
  · rw [hix i h0 h1 h2 h3 h4 h5, show c = ⟨4, by omega⟩ from Fin.ext h]
    exact v229 x0 x1 x2 x3 x4 x5 x6 x7 x8 b g e p n
  · rw [hix i h0 h1 h2 h3 h4 h5, show c = ⟨5, by omega⟩ from Fin.ext h]
    exact v230 x0 x1 x2 x3 x4 x5 x6 x7 x8 b g e p n
  · rw [hix i h0 h1 h2 h3 h4 h5, show c = ⟨6, by omega⟩ from Fin.ext h]
    exact v231 x0 x1 x2 x3 x4 x5 x6 x7 x8 b g e p n
  · rw [hix i h0 h1 h2 h3 h4 h5, show c = ⟨7, by omega⟩ from Fin.ext h]
    exact v232 x0 x1 x2 x3 x4 x5 x6 x7 x8 b g e p n
  · rw [hix i h0 h1 h2 h3 h4 h5, show c = ⟨8, by omega⟩ from Fin.ext h]
    exact v233 x0 x1 x2 x3 x4 x5 x6 x7 x8 b g e p n
  · rw [hix i h0 h1 h2 h3 h4 h5, show c = ⟨9, by omega⟩ from Fin.ext h]
    exact v234 x0 x1 x2 x3 x4 x5 x6 x7 x8 b g e p n
  · rw [hix i h0 h1 h2 h3 h4 h5, show c = ⟨10, by omega⟩ from Fin.ext h]
    exact v235 x0 x1 x2 x3 x4 x5 x6 x7 x8 b g e p n
  · rw [hix i h0 h1 h2 h3 h4 h5, show c = ⟨11, by omega⟩ from Fin.ext h]
    exact v236 x0 x1 x2 x3 x4 x5 x6 x7 x8 b g e p n
  · rw [hix i h0 h1 h2 h3 h4 h5, show c = ⟨12, by omega⟩ from Fin.ext h]
    exact v237 x0 x1 x2 x3 x4 x5 x6 x7 x8 b g e p n
  · rw [hix i h0 h1 h2 h3 h4 h5, show c = ⟨13, by omega⟩ from Fin.ext h]
    exact v238 x0 x1 x2 x3 x4 x5 x6 x7 x8 b g e p n
  · rw [hix i h0 h1 h2 h3 h4 h5, show c = ⟨14, by omega⟩ from Fin.ext h]
    exact v239 x0 x1 x2 x3 x4 x5 x6 x7 x8 b g e p n
  · rw [hix i h0 h1 h2 h3 h4 h5, show c = ⟨15, by omega⟩ from Fin.ext h]
    exact v240 x0 x1 x2 x3 x4 x5 x6 x7 x8 b g e p n

/-- The stack after no rows. -/
theorem v242 (b : Fin 8) (c : Fin 16) (g : Fin 2) (e : Fin 4) (p : Fin 64) (n : Fin 128) :
    val_main_v242 (F := Ideal) x0 x2 x3 x4 x5 x6 (ix6 c b g e p n) = H (inp x0 x1 x2 x3 x4 x5 x6 x7 x8) (tk b c) n (lane g e p) := by
  unfold val_main_v242
  refine (concatenate_pair_apply_right (s₁ := S0x8x2x4x64x128) (s₂ := S16x8x2x4x64x128) (0 : Fin S16x8x2x4x64x128.rank) _ _ _ (ix6 c b g e p n) rfl rfl (ix6 c b g e p n) ?_ ?_).trans (v241 x0 x1 x2 x3 x4 x5 x6 x7 x8 b c g e p n)
  · intro a _
    rfl
  · rfl

/-- The states with the sequence axis first. -/
theorem v243 (b : Fin 8) (c : Fin 16) (g : Fin 2) (e : Fin 4) (p : Fin 64) (n : Fin 128) :
    val_main_v243 (F := Ideal) x0 x2 x3 x4 x5 x6 (ix6 b c g e p n) = H (inp x0 x1 x2 x3 x4 x5 x6 x7 x8) (tk b c) n (lane g e p) := by
  rw [val_main_v243_apply, ← v242 x0 x1 x2 x3 x4 x5 x6 x7 x8 b c g e p n]
  refine congrArg (val_main_v242 (F := Ideal) x0 x2 x3 x4 x5 x6) (funext fun a => ?_)
  match a with
  | ⟨0, _⟩ => rfl
  | ⟨1, _⟩ => rfl
  | ⟨2, _⟩ => rfl
  | ⟨3, _⟩ => rfl
  | ⟨4, _⟩ => rfl
  | ⟨5, _⟩ => rfl

end Cert.SsdRefIdeal.Layer
-- ==== Proof.SsdRefD.lean ====
/- The reference's output: the chunks' contributions put together, gated and normalised. -/
module

public import proofs.«01_k».proof.Proof.SsdRefC

@[expose] public section

set_option maxRecDepth 16384

noncomputable section

open Idealize.ShloMosaic

namespace Cert.SsdRefIdeal.Layer

open Cert.SsdRefIdeal Cert.SsdRefIdeal.Read Cert.SsdSpec

variable (x0 : FVec Ideal S16384x1024 .f32) (x1 : FVec Ideal S16384x512 .f32) (x2 : FVec Ideal S16384x128 .f32) (x3 : FVec Ideal S4x1024 .f32)
  (x4 : FVec Ideal S1024 .f32) (x5 x6 x7 : FVec Ideal S8 .f32) (x8 : FVec Ideal S512 .f32)

/-- Every lane is a lane of a group's head. -/
theorem lane_surj (j : Fin 512) : ∃ (g : Fin 2) (e : Fin 4) (p : Fin 64), lane g e p = j := by
  have hj := j.isLt
  refine ⟨⟨j.val / 256, by omega⟩, ⟨j.val / 64 % 4, by omega⟩, ⟨j.val % 64, by omega⟩, Fin.ext ?_⟩
  show (j.val / 256 * 4 + j.val / 64 % 4) * 64 + j.val % 64 = j.val
  omega

/-- The states read by the tokens' output maps. -/
theorem v244 (b : Fin 8) (c : Fin 16) (l : Fin 128) (g : Fin 2) (e : Fin 4) (p : Fin 64) :
    val_main_v244 (F := Ideal) x0 x2 x3 x4 x5 x6 (ix6 b c g e p l) = ∑ n : Fin 128, xc (inp x0 x1 x2 x3 x4 x5 x6 x7 x8) (tk b c) l (ccol (lane g e p) n) *
      H (inp x0 x1 x2 x3 x4 x5 x6 x7 x8) (tk b c) n (lane g e p) := by
  rw [val_main_v244_apply]
  refine Finset.sum_congr rfl fun n _ => ?_
  have el : lidx_main_v244 (ix6 b c g e p l) n = ix6 b c g e p n := by
    funext a
    match a with
    | ⟨0, _⟩ => rfl
    | ⟨1, _⟩ => rfl
    | ⟨2, _⟩ => rfl
    | ⟨3, _⟩ => rfl
    | ⟨4, _⟩ => rfl
    | ⟨5, _⟩ => rfl
  have er : ridx_main_v244 (ix6 b c g e p l) n = ix5 b c l g n := by
    funext a
    match a with
    | ⟨0, _⟩ => rfl
    | ⟨1, _⟩ => rfl
    | ⟨2, _⟩ => rfl
    | ⟨3, _⟩ => rfl
    | ⟨4, _⟩ => rfl
  rw [el, er, v243 x0 x1 x2 x3 x4 x5 x6 x7 x8 b c g e p n, v60 x0 x1 x2 x3 x4 x5 x6 x7 x8 b c l g e p n]
  exact mul_comm _ _

/-- The decay from the chunk's start to a token. -/
theorem v249 (b : Fin 8) (c : Fin 16) (l : Fin 128) (g : Fin 2) (e : Fin 4) (p : Fin 64) :
    val_main_v249 (F := Ideal) x2 x5 x6 (ix6 b c l g e p) = Ideal.exp (A (inp x0 x1 x2 x3 x4 x5 x6 x7 x8) (tk b c) l (lane g e p)) := by
  rw [val_main_v249_apply, val_main_v248_apply, val_main_v247_apply, val_main_v246_apply, ← v61 x0 x1 x2 x3 x4 x5 x6 x7 x8 b c l g e p]
  refine congrArg (fun i => Ideal.exp (val_main_v61 (F := Ideal) x2 x5 x6 i)) (funext fun a => ?_)
  match a with
  | ⟨0, _⟩ => rfl
  | ⟨1, _⟩ => rfl
  | ⟨2, _⟩ => rfl
  | ⟨3, _⟩ => rfl
  | ⟨4, _⟩ => rfl

/-- What the chunk's own tokens and the state before it contribute. -/
theorem v251 (b : Fin 8) (c : Fin 16) (l : Fin 128) (g : Fin 2) (e : Fin 4) (p : Fin 64) :
    val_main_v251 (F := Ideal) x0 x2 x3 x4 x5 x6 (ix6 b c l g e p)
      = yd (xc (inp x0 x1 x2 x3 x4 x5 x6 x7 x8) (tk b c)) (A (inp x0 x1 x2 x3 x4 x5 x6 x7 x8) (tk b c)) (xd (inp x0 x1 x2 x3 x4 x5 x6 x7 x8) (tk b c)) l (lane g e p)
        + yo (xc (inp x0 x1 x2 x3 x4 x5 x6 x7 x8) (tk b c)) (A (inp x0 x1 x2 x3 x4 x5 x6 x7 x8) (tk b c)) (H (inp x0 x1 x2 x3 x4 x5 x6 x7 x8) (tk b c)) l (lane g e p) := by
  have e1 : idx_main_v76 (ix6 b c l g e p) = ix6 b c g e p l := by
    funext a
    match a with
    | ⟨0, _⟩ => rfl
    | ⟨1, _⟩ => rfl
    | ⟨2, _⟩ => rfl
    | ⟨3, _⟩ => rfl
    | ⟨4, _⟩ => rfl
    | ⟨5, _⟩ => rfl
  have e2 : idx_main_v245 (ix6 b c l g e p) = ix6 b c g e p l := by
    funext a
    match a with
    | ⟨0, _⟩ => rfl
    | ⟨1, _⟩ => rfl
    | ⟨2, _⟩ => rfl
    | ⟨3, _⟩ => rfl
    | ⟨4, _⟩ => rfl
    | ⟨5, _⟩ => rfl
  rw [val_main_v251_apply, val_main_v76_apply, e1, v75 x0 x1 x2 x3 x4 x5 x6 x7 x8 b c l g e p, val_main_v250_apply, val_main_v245_apply, e2,
    v244 x0 x1 x2 x3 x4 x5 x6 x7 x8 b c l g e p, v249 x0 x1 x2 x3 x4 x5 x6 x7 x8 b c l g e p]
  rfl

/-- The same in the sequence's order, head by head. -/
theorem v252 (b : Fin 8) (c : Fin 16) (l : Fin 128) (g : Fin 2) (e : Fin 4) (p : Fin 64) (h : Fin 8) (hh : h.val = g.val * 4 + e.val) :
    val_main_v252 (F := Ideal) x0 x2 x3 x4 x5 x6 (ix4 b (sq c l) h p)
      = yd (xc (inp x0 x1 x2 x3 x4 x5 x6 x7 x8) (tk b c)) (A (inp x0 x1 x2 x3 x4 x5 x6 x7 x8) (tk b c)) (xd (inp x0 x1 x2 x3 x4 x5 x6 x7 x8) (tk b c)) l (lane g e p)
        + yo (xc (inp x0 x1 x2 x3 x4 x5 x6 x7 x8) (tk b c)) (A (inp x0 x1 x2 x3 x4 x5 x6 x7 x8) (tk b c)) (H (inp x0 x1 x2 x3 x4 x5 x6 x7 x8) (tk b c)) l (lane g e p) := by
  rw [← v251 x0 x1 x2 x3 x4 x5 x6 x7 x8 b c l g e p]
  have hb := b.isLt; have hc := c.isLt; have hl := l.isLt; have hg := g.isLt; have he := e.isLt; have hp := p.isLt
  unfold val_main_v252
  refine shapeCast_apply _ _ _ _ ?_
  rw [Shape.rowMajor_val_four, rowMajor_val6 _ 1048576 65536 512 256 64 rfl rfl rfl rfl rfl]
  show b.val * 1048576 + c.val * 65536 + l.val * 512 + g.val * 256 + e.val * 64 + p.val
    = ((b.val * 2048 + (c.val * 128 + l.val)) * 8 + h.val) * 64 + p.val
  omega

/-- The skipped values. -/
theorem v256 (b : Fin 8) (c : Fin 16) (l : Fin 128) (g : Fin 2) (e : Fin 4) (p : Fin 64) (h : Fin 8) (hh : h.val = g.val * 4 + e.val) :
    val_main_v256 (F := Ideal) x0 x3 x4 x7 (ix4 b (sq c l) h p)
      = (inp x0 x1 x2 x3 x4 x5 x6 x7 x8).D (head (lane g e p)) * xc (inp x0 x1 x2 x3 x4 x5 x6 x7 x8) (tk b c) l (xcol (lane g e p)) := by
  have hg := g.isLt; have he := e.isLt; have hp := p.isLt
  have hd : head (lane g e p) = h := Fin.ext (by show ((g.val * 4 + e.val) * 64 + p.val) / 64 = h.val; omega)
  pointwise [val_main_v256, val_main_v255, val_main_v254, val_main_v253, val_main_v39, val_main_v38]
  rw [hd, ← v37 x0 x1 x2 x3 x4 x5 x6 x7 x8]
  refine congrArg (fun ch => x7 (ix1 h) * val_main_v37 (F := Ideal) x0 x3 x4 (ix3 b (sq c l) ch)) (Fin.ext ?_)
  show h.val * 64 + p.val = (g.val * 4 + e.val) * 64 + p.val
  omega

/-- The layer before its gate. -/
theorem v258 (b : Fin 8) (c : Fin 16) (l : Fin 128) (j : Fin 512) :
    val_main_v258 (F := Ideal) x0 x2 x3 x4 x5 x6 x7 (ix3 b (sq c l) j)
      = y (xc (inp x0 x1 x2 x3 x4 x5 x6 x7 x8) (tk b c)) (A (inp x0 x1 x2 x3 x4 x5 x6 x7 x8) (tk b c)) (xd (inp x0 x1 x2 x3 x4 x5 x6 x7 x8) (tk b c)) (H (inp x0 x1 x2 x3 x4 x5 x6 x7 x8) (tk b c))
        (fun j => (inp x0 x1 x2 x3 x4 x5 x6 x7 x8).D (head j)) l j := by
  obtain ⟨g, e, p, rfl⟩ := lane_surj j
  have hb := b.isLt; have hc := c.isLt; have hl := l.isLt; have hg := g.isLt; have he := e.isLt; have hp := p.isLt
  unfold val_main_v258
  refine (shapeCast_apply _ _ _ (ix4 b (sq c l) (⟨g.val * 4 + e.val, by omega⟩ : Fin 8) p) ?_).trans ?_
  · rw [Shape.rowMajor_val_four, Shape.rowMajor_val_three]
    show ((b.val * 2048 + (c.val * 128 + l.val)) * 8 + (g.val * 4 + e.val)) * 64 + p.val
      = (b.val * 2048 + (c.val * 128 + l.val)) * 512 + ((g.val * 4 + e.val) * 64 + p.val)
    omega
  rw [val_main_v257_apply, v252 x0 x1 x2 x3 x4 x5 x6 x7 x8 b c l g e p _ rfl, v256 x0 x1 x2 x3 x4 x5 x6 x7 x8 b c l g e p _ rfl]
  rfl

/-- The gate. -/
theorem v259 (b : Fin 8) (c : Fin 16) (l : Fin 128) (j : Fin 512) :
    val_main_v259 (F := Ideal) x1 (ix3 b (sq c l) j) = silu ((inp x0 x1 x2 x3 x4 x5 x6 x7 x8).Z (row (tk b c) l) j) := by
  pointwise [val_main_v259, val_main_call6_v5, val_main_call6_v4, val_main_call6_cst_0, val_main_call6_v3, val_main_call6_v2, val_main_call6_cst, val_main_call6_v1, val_main_call6_v0, val_main_v1]
  have e : (⟨b.val * 2048 + (sq c l).val, by have := b.isLt; have := (sq c l).isLt; omega⟩ : Fin 16384) = row (tk b c) l := Fin.ext (by
    have := b.isLt
    have := c.isLt
    have := l.isLt
    show b.val * 2048 + (c.val * 128 + l.val) = ((b.val * 16 + c.val) * 128 + l.val) % 16384
    omega)
  rw [e]
  rfl

/-- The gated layer. -/
theorem v260 (b : Fin 8) (c : Fin 16) (l : Fin 128) (j : Fin 512) :
    val_main_v260 (F := Ideal) x0 x1 x2 x3 x4 x5 x6 x7 (ix3 b (sq c l) j) = gated (inp x0 x1 x2 x3 x4 x5 x6 x7 x8) (tk b c) l j := by
  rw [val_main_v260_apply, v258 x0 x1 x2 x3 x4 x5 x6 x7 x8 b c l j, v259 x0 x1 x2 x3 x4 x5 x6 x7 x8 b c l j]
  rfl

/-- The sum of a token's squares. -/
theorem v262 (b : Fin 8) (c : Fin 16) (l : Fin 128) :
    val_main_v262 (F := Ideal) x0 x1 x2 x3 x4 x5 x6 x7 (ix2 b (sq c l))
      = ∑ k : Fin 512, gated (inp x0 x1 x2 x3 x4 x5 x6 x7 x8) (tk b c) l k * gated (inp x0 x1 x2 x3 x4 x5 x6 x7 x8) (tk b c) l k := by
  rw [val_main_v262_apply]
  have h0 : val_main_cst_4 (F := Ideal) (Shape.Idx.first Gen.h_S_) = (0 : EReal) := Ideal.ofBits_zero .f32
  refine (congrArg (fun z : EReal => z + _) h0).trans ((zero_add _).trans (Finset.sum_congr rfl fun k _ => ?_))
  have e : idx_main_v262 (ix2 b (sq c l)) k = ix3 b (sq c l) k := by
    funext a
    match a with
    | ⟨0, _⟩ => rfl
    | ⟨1, _⟩ => rfl
    | ⟨2, _⟩ => rfl
  rw [e, val_main_v261_apply, v260 x0 x1 x2 x3 x4 x5 x6 x7 x8 b c l k]
  rfl

/-- The normalised layer. -/
theorem v273 (b : Fin 8) (c : Fin 16) (l : Fin 128) (j : Fin 512) :
    val_main_v273 (F := Ideal) x0 x1 x2 x3 x4 x5 x6 x7 x8 (ix3 b (sq c l) j) = out (inp x0 x1 x2 x3 x4 x5 x6 x7 x8) (tk b c) l j := by
  pointwise [val_main_v273, val_main_v272, val_main_v271, val_main_v270, val_main_v269, val_main_v268, val_main_v267, val_main_v266, val_main_cst_6, val_main_v265, val_main_v264, val_main_cst_5, val_main_v263]
  rw [v260 x0 x1 x2 x3 x4 x5 x6 x7 x8 b c l j, v262 x0 x1 x2 x3 x4 x5 x6 x7 x8 b c l]
  rfl

/-- The layer's output, token by token. -/
theorem v274 (r : Fin 16384) (j : Fin 512) :
    val_main_v274 (F := Ideal) x0 x1 x2 x3 x4 x5 x6 x7 x8 (ix2 r j) = out (inp x0 x1 x2 x3 x4 x5 x6 x7 x8) (r.val / 128) ⟨r.val % 128, Nat.mod_lt _ (by decide)⟩ j := by
  have hr := r.isLt
  have hj := j.isLt
  have h := v273 x0 x1 x2 x3 x4 x5 x6 x7 x8 ⟨r.val / 2048, by omega⟩ ⟨r.val / 128 % 16, by omega⟩ ⟨r.val % 128, Nat.mod_lt _ (by decide)⟩ j
  have e : tk ⟨r.val / 2048, by omega⟩ ⟨r.val / 128 % 16, by omega⟩ = r.val / 128 := by
    show r.val / 2048 * 16 + r.val / 128 % 16 = r.val / 128
    omega
  rw [e] at h
  rw [← h]
  unfold val_main_v274
  refine shapeCast_apply _ _ _ _ ?_
  rw [Shape.rowMajor_val_three, Shape.rowMajor_val_two]
  show (r.val / 2048 * 2048 + (r.val / 128 % 16 * 128 + r.val % 128)) * 512 + j.val = r.val * 512 + j.val
  omega

end Cert.SsdRefIdeal.Layer
-- ==== Proof.SsdValue.lean ====
/- The state-space layer: the result array is the reference's. -/
module

public import proofs.«01_k».proof.Proof.Gen.SsdRefIdeal.Run
public import proofs.«01_k».proof.Proof.Gen.SsdIdeal.Value
public import proofs.«01_k».proof.Proof.SsdCarry
public import proofs.«01_k».proof.Proof.SsdRefD

@[expose] public section

set_option maxRecDepth 16384

noncomputable section

open Idealize.ShloMosaic Idealize.ShloMosaic.TcCoe Idealize.SL.Sem

namespace Cert.SsdIdeal.Value

open Cert.SsdIdeal Cert.SsdIdeal.Gen

variable (m : (ℓ : Loc nD τ sig) → Buf (Elt Ideal) ℓ) (c : Dev nD)

/-- The result. -/
theorem res : (dats m 0 c).arrAt 9 (cfgs 0).N = Cert.SsdRefIdeal.Read.val_main_v274 (F := Ideal) (m ((c : Thread nD τ).loc main_arg0)) (m ((c : Thread nD τ).loc main_arg1))
    (m ((c : Thread nD τ).loc main_arg2)) (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8)) := by
  rw [arr]
  funext i
  idx_vars i
  rw [Cert.SsdRefIdeal.Layer.v274]
  rfl

end Cert.SsdIdeal.Value
-- ==== Proof.SsdClaims.lean ====
module

public import proofs.«01_k».proof.Defs
public import proofs.«01_k».proof.Proof.Gen.Ssd
public import proofs.«01_k».proof.Proof.Gen.Ssd.Frame
public import proofs.«01_k».proof.Proof.Gen.SsdIdeal
public import proofs.«01_k».proof.Proof.Gen.SsdIdeal.Frame
public import proofs.«01_k».proof.Proof.Gen.SsdIdeal.Value
public import proofs.«01_k».proof.Proof.Gen.SsdRefIdeal
public import proofs.«01_k».proof.Proof.Gen.SsdRefIdeal.Run
public import proofs.«01_k».proof.Proof.SsdValue
public import Idealize.ShloMosaic.Adequacy
public import Idealize.ShloMosaic.Init

@[expose] public section

set_option maxRecDepth 16384
set_option maxHeartbeats 4000000

noncomputable section

namespace Cert.Proof

open Idealize.ShloMosaic Idealize.SL.Sem

/-- The state-space layer kernel runs to the end from every memory and leaves its arguments as they were. -/
theorem frame_Ssd [h : Cert.Ssd.Facts] : Cert.quiescent_Ssd (hSsd := h) :=
  fun m ρ _ => Cert.Ssd.Gen.frame m ρ

/-- So does the idealized state-space layer kernel. -/
theorem frame_SsdIdeal [h : Cert.SsdIdeal.Facts] : Cert.quiescent_SsdIdeal (hSsdIdeal := h) :=
  fun m ρ _ => Cert.SsdIdeal.Gen.frame m ρ

/-- So does the idealized state-space layer reference. -/
theorem frame_SsdRefIdeal [h : Cert.SsdRefIdeal.Facts] :
    Cert.quiescent_SsdRefIdeal (hSsdRefIdeal := h) :=
  fun m ρ _ => (θ_run (Cert.SsdRefIdeal.defs (F := Ideal)) _ _).mono
    (fun r h => ⟨fun c => (h c).2,
      Idealize.ShloMosaic.sem_eq_zero_of_no_sems (by decide) r.2⟩)
    (Cert.SsdRefIdeal.Value.run (F := Ideal) m ρ)

/-- The idealized state-space layer kernel is the kernel: no rule was applied. -/
theorem preserves_Ssd : Cert.preserves_Ssd_SsdIdeal := trivial

/-- At real values the state-space layer kernel returns what the reference returns. -/
theorem algebraic_Ssd [h : Cert.SsdIdeal.Facts] [h' : Cert.SsdRefIdeal.Facts] :
    Cert.algebraic_SsdIdeal_SsdRefIdeal (hSsdIdeal := h) (hSsdRefIdeal := h') := by
  intro m ρ m' ρ' _ hagree
  refine ⟨fun c => (Cert.SsdIdeal.Gen.dats (F := Ideal) m 0 c).arrAt 9 Cert.SsdIdeal.cfg0.N,
    (θ_run (Cert.SsdIdeal.defs (F := Ideal)) _ _).mono (fun r h c => ?_)
      (Cert.SsdIdeal.Value.run_blocks (F := Ideal) m ρ),
    (θ_run (Cert.SsdRefIdeal.defs (F := Ideal)) _ _).mono (fun r h c => ?_)
      (Cert.SsdRefIdeal.Value.run (F := Ideal) m' ρ')⟩
  · exact h c
  · obtain ⟨e0, e1, e2, e3, e4, e5, e6, e7, e8⟩ := hagree c
    have q0 := Cert.SsdIdeal.Value.res m c
    rw [← e0, ← e1, ← e2, ← e3, ← e4, ← e5, ← e6, ← e7, ← e8] at q0
    obtain ⟨r0, hk⟩ := h c
    exact ⟨(r0.trans (Cert.SsdRefIdeal.Read.val_main_v274_eq (F := Ideal) (StableHlo.launchContents m' c))).trans q0.symm, hk⟩

end Cert.Proof

end
-- ==== Proof.lean ====
module

public import proofs.«01_k».proof.Proof.FfnClaims
public import proofs.«01_k».proof.Proof.InprojClaims
public import proofs.«01_k».proof.Proof.OutprojClaims
public import proofs.«01_k».proof.Proof.SsdClaims

@[expose] public section

noncomputable section

namespace Cert.Proof

open Idealize.ShloMosaic Idealize.SL.Sem Cert.Ffn

/-- The claim of the statement: the programs' frames, the idealized programs preserved, and the values. -/
theorem claim : Cert.Claim :=
  ⟨Cert.Ffn.Gen.facts, Cert.FfnIdeal.Gen.facts, Cert.FfnRefIdeal.Gen.facts,
    Cert.Inproj.Gen.facts, Cert.InprojIdeal.Gen.facts, Cert.InprojRefIdeal.Gen.facts,
    Cert.Outproj.Gen.facts, Cert.OutprojIdeal.Gen.facts, Cert.OutprojRefIdeal.Gen.facts,
    Cert.Ssd.Gen.facts, Cert.SsdIdeal.Gen.facts, Cert.SsdRefIdeal.Gen.facts,
    frame_Ffn, frame_FfnIdeal, frame_FfnRefIdeal,
    frame_Inproj, frame_InprojIdeal, frame_InprojRefIdeal,
    frame_Outproj, frame_OutprojIdeal, frame_OutprojRefIdeal,
    frame_Ssd, frame_SsdIdeal, frame_SsdRefIdeal,
    preserves_Ffn, algebraic_Ffn, preserves_Inproj, algebraic_Inproj,
    preserves_Outproj, algebraic_Outproj, preserves_Ssd, algebraic_Ssd⟩

end Cert.Proof

end
